-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.1 = (fun _ => 1#1)
    ∧ (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.1 = (fun _ => 1#1)
    ∧ (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v11_0)) (v1 : (c : Dev Cert.Kernel2Ideal.nD) → Buf (Elt Ideal) ((c.tc : Thread Cert.Kernel2Ideal.nD Cert.Kernel2Ideal.τ).loc Cert.Kernel2Ideal.main_v11_1)) (v2 : (c : Dev Cert.Kernel2Ideal.nD) → Buf (Elt Ideal) ((c.tc : Thread Cert.Kernel2Ideal.nD Cert.Kernel2Ideal.τ).loc Cert.Kernel2Ideal.main_v11_2)) (v3 : (c : Dev Cert.Kernel2Ideal.nD) → Buf (Elt Ideal) ((c.tc : Thread Cert.Kernel2Ideal.nD Cert.Kernel2Ideal.τ).loc Cert.Kernel2Ideal.main_v11_3)) (v4 : (c : Dev Cert.Kernel2Ideal.nD) → Buf (Elt Ideal) ((c.tc : Thread Cert.Kernel2Ideal.nD Cert.Kernel2Ideal.τ).loc Cert.Kernel2Ideal.main_v11_4)) (v5 : (c : Dev Cert.Kernel2Ideal.nD) → Buf (Elt Ideal) ((c.tc : Thread Cert.Kernel2Ideal.nD Cert.Kernel2Ideal.τ).loc Cert.Kernel2Ideal.main_v11_5)) (v6 : (c : Dev Cert.Kernel2Ideal.nD) → Buf (Elt Ideal) ((c.tc : Thread Cert.Kernel2Ideal.nD Cert.Kernel2Ideal.τ).loc Cert.Kernel2Ideal.main_v11_6)) (v7 : (c : Dev Cert.Kernel2Ideal.nD) → Buf (Elt Ideal) ((c.tc : Thread Cert.Kernel2Ideal.nD Cert.Kernel2Ideal.τ).loc Cert.Kernel2Ideal.main_v11_7)) (v8 : (c : Dev Cert.Kernel2Ideal.nD) → Buf (Elt Ideal) ((c.tc : Thread Cert.Kernel2Ideal.nD Cert.Kernel2Ideal.τ).loc Cert.Kernel2Ideal.main_v11_8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11_0) = v0 c
          ∧ r.2.mem ((c.tc : Thread Cert.Kernel2Ideal.nD Cert.Kernel2Ideal.τ).loc Cert.Kernel2Ideal.main_v11_1) = v1 c
          ∧ r.2.mem ((c.tc : Thread Cert.Kernel2Ideal.nD Cert.Kernel2Ideal.τ).loc Cert.Kernel2Ideal.main_v11_2) = v2 c
          ∧ r.2.mem ((c.tc : Thread Cert.Kernel2Ideal.nD Cert.Kernel2Ideal.τ).loc Cert.Kernel2Ideal.main_v11_3) = v3 c
          ∧ r.2.mem ((c.tc : Thread Cert.Kernel2Ideal.nD Cert.Kernel2Ideal.τ).loc Cert.Kernel2Ideal.main_v11_4) = v4 c
          ∧ r.2.mem ((c.tc : Thread Cert.Kernel2Ideal.nD Cert.Kernel2Ideal.τ).loc Cert.Kernel2Ideal.main_v11_5) = v5 c
          ∧ r.2.mem ((c.tc : Thread Cert.Kernel2Ideal.nD Cert.Kernel2Ideal.τ).loc Cert.Kernel2Ideal.main_v11_6) = v6 c
          ∧ r.2.mem ((c.tc : Thread Cert.Kernel2Ideal.nD Cert.Kernel2Ideal.τ).loc Cert.Kernel2Ideal.main_v11_7) = v7 c
          ∧ r.2.mem ((c.tc : Thread Cert.Kernel2Ideal.nD Cert.Kernel2Ideal.τ).loc Cert.Kernel2Ideal.main_v11_8) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v64) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_v16) = v2 c
          ∧ r.2.mem ((c.tc : Thread Cert.Reference2Ideal.nD Cert.Reference2Ideal.τ).loc Cert.Reference2Ideal.main_v83) = v3 c
          ∧ r.2.mem ((c.tc : Thread Cert.Reference2Ideal.nD Cert.Reference2Ideal.τ).loc Cert.Reference2Ideal.main_v87) = v4 c
          ∧ r.2.mem ((c.tc : Thread Cert.Reference2Ideal.nD Cert.Reference2Ideal.τ).loc Cert.Reference2Ideal.main_v107) = v5 c
          ∧ r.2.mem ((c.tc : Thread Cert.Reference2Ideal.nD Cert.Reference2Ideal.τ).loc Cert.Reference2Ideal.main_v111) = v6 c
          ∧ r.2.mem ((c.tc : Thread Cert.Reference2Ideal.nD Cert.Reference2Ideal.τ).loc Cert.Reference2Ideal.main_v46) = v7 c
          ∧ r.2.mem ((c.tc : Thread Cert.Reference2Ideal.nD Cert.Reference2Ideal.τ).loc Cert.Reference2Ideal.main_v112) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v12_0)) (v1 : (c : Dev Cert.Kernel3Ideal.nD) → Buf (Elt Ideal) ((c.tc : Thread Cert.Kernel3Ideal.nD Cert.Kernel3Ideal.τ).loc Cert.Kernel3Ideal.main_v12_1)) (v2 : (c : Dev Cert.Kernel3Ideal.nD) → Buf (Elt Ideal) ((c.tc : Thread Cert.Kernel3Ideal.nD Cert.Kernel3Ideal.τ).loc Cert.Kernel3Ideal.main_v12_2)) (v3 : (c : Dev Cert.Kernel3Ideal.nD) → Buf (Elt Ideal) ((c.tc : Thread Cert.Kernel3Ideal.nD Cert.Kernel3Ideal.τ).loc Cert.Kernel3Ideal.main_v12_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12_0) = v0 c
          ∧ r.2.mem ((c.tc : Thread Cert.Kernel3Ideal.nD Cert.Kernel3Ideal.τ).loc Cert.Kernel3Ideal.main_v12_1) = v1 c
          ∧ r.2.mem ((c.tc : Thread Cert.Kernel3Ideal.nD Cert.Kernel3Ideal.τ).loc Cert.Kernel3Ideal.main_v12_2) = v2 c
          ∧ r.2.mem ((c.tc : Thread Cert.Kernel3Ideal.nD Cert.Kernel3Ideal.τ).loc Cert.Kernel3Ideal.main_v12_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_v45) = v1 c
          ∧ r.2.mem ((c.tc : Thread Cert.Reference3Ideal.nD Cert.Reference3Ideal.τ).loc Cert.Reference3Ideal.main_v47) = v2 c
          ∧ r.2.mem ((c.tc : Thread Cert.Reference3Ideal.nD Cert.Reference3Ideal.τ).loc Cert.Reference3Ideal.main_v49) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v17_0)) (v1 : (c : Dev Cert.Kernel4Ideal.nD) → Buf (Elt Ideal) ((c.tc : Thread Cert.Kernel4Ideal.nD Cert.Kernel4Ideal.τ).loc Cert.Kernel4Ideal.main_v17_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v17_0) = v0 c
          ∧ r.2.mem ((c.tc : Thread Cert.Kernel4Ideal.nD Cert.Kernel4Ideal.τ).loc Cert.Kernel4Ideal.main_v17_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_v55) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v10_0)) (v1 : (c : Dev Cert.Kernel5Ideal.nD) → Buf (Elt Ideal) ((c.tc : Thread Cert.Kernel5Ideal.nD Cert.Kernel5Ideal.τ).loc Cert.Kernel5Ideal.main_v10_1)) (v2 : (c : Dev Cert.Kernel5Ideal.nD) → Buf (Elt Ideal) ((c.tc : Thread Cert.Kernel5Ideal.nD Cert.Kernel5Ideal.τ).loc Cert.Kernel5Ideal.main_v10_2)) (v3 : (c : Dev Cert.Kernel5Ideal.nD) → Buf (Elt Ideal) ((c.tc : Thread Cert.Kernel5Ideal.nD Cert.Kernel5Ideal.τ).loc Cert.Kernel5Ideal.main_v10_3)) (v4 : (c : Dev Cert.Kernel5Ideal.nD) → Buf (Elt Ideal) ((c.tc : Thread Cert.Kernel5Ideal.nD Cert.Kernel5Ideal.τ).loc Cert.Kernel5Ideal.main_v10_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10_0) = v0 c
          ∧ r.2.mem ((c.tc : Thread Cert.Kernel5Ideal.nD Cert.Kernel5Ideal.τ).loc Cert.Kernel5Ideal.main_v10_1) = v1 c
          ∧ r.2.mem ((c.tc : Thread Cert.Kernel5Ideal.nD Cert.Kernel5Ideal.τ).loc Cert.Kernel5Ideal.main_v10_2) = v2 c
          ∧ r.2.mem ((c.tc : Thread Cert.Kernel5Ideal.nD Cert.Kernel5Ideal.τ).loc Cert.Kernel5Ideal.main_v10_3) = v3 c
          ∧ r.2.mem ((c.tc : Thread Cert.Kernel5Ideal.nD Cert.Kernel5Ideal.τ).loc Cert.Kernel5Ideal.main_v10_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v182) = v0 c
          ∧ r.2.mem ((c.tc : Thread Cert.Reference5Ideal.nD Cert.Reference5Ideal.τ).loc Cert.Reference5Ideal.main_v202) = v1 c
          ∧ r.2.mem ((c.tc : Thread Cert.Reference5Ideal.nD Cert.Reference5Ideal.τ).loc Cert.Reference5Ideal.main_v161) = v2 c
          ∧ r.2.mem ((c.tc : Thread Cert.Reference5Ideal.nD Cert.Reference5Ideal.τ).loc Cert.Reference5Ideal.main_v205) = v3 c
          ∧ r.2.mem ((c.tc : Thread Cert.Reference5Ideal.nD Cert.Reference5Ideal.τ).loc Cert.Reference5Ideal.main_v208) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal (hKernel5Ideal := hKernel5Ideal) (hReference5Ideal := hReference5Ideal)
-- ==== Pre_finite.lean ====
abbrev S4x4096x128 : Shape := ⟨3, ![4, 4096, 128]⟩
abbrev S32x64 : Shape := ⟨2, ![32, 64]⟩
abbrev S2048x256 : Shape := ⟨2, ![2048, 256]⟩
abbrev S256x64 : Shape := ⟨2, ![256, 64]⟩
abbrev S_ : Shape := ⟨0, ![]⟩

class Facts : Prop where
  bcast_S_S32x64 : S_.BroadcastsInDim S32x64 (![] : Fin 0 → Fin S32x64.rank)
  bcast_S_S2048x256 : S_.BroadcastsInDim S2048x256 (![] : Fin 0 → Fin S2048x256.rank)

variable [Facts]

def fn {F : FTy → Type} [FloatOps F] (main_arg0 : FVec F S4x4096x128 .f32) (main_arg1 : FVec F S4x4096x128 .f32) (main_arg2 : FVec F S32x64 .f32) (main_arg3 : FVec F S32x64 .f32) (main_arg4 : FVec F S2048x256 .f32) (main_arg5 : FVec F S256x64 .f32) (main_arg6 : FVec F S2048x256 .f32) (main_arg7 : FVec F S256x64 .f32) : IVec S32x64 1 × IVec S32x64 1 × IVec S2048x256 1 × IVec S2048x256 1 :=
  let main_v0 : FVec F S32x64 .f32 := Host.absf main_arg2
  let main_cst : FVec F S_ .f32 := constant S_ .f32 0x7F800000#32
  let main_v1 : FVec F S32x64 .f32 := broadcastInDim S32x64 ![] bcast_S_S32x64 main_cst
  let main_v2 : IVec S32x64 1 := cmpf .olt main_v0 main_v1
  let main_v3 : FVec F S32x64 .f32 := Host.absf main_arg3
  let main_cst_0 : FVec F S_ .f32 := constant S_ .f32 0x7F800000#32
  let main_v4 : FVec F S32x64 .f32 := broadcastInDim S32x64 ![] bcast_S_S32x64 main_cst_0
  let main_v5 : IVec S32x64 1 := cmpf .olt main_v3 main_v4
  let main_v6 : FVec F S2048x256 .f32 := Host.absf main_arg4
  let main_cst_1 : FVec F S_ .f32 := constant S_ .f32 0x7F800000#32
  let main_v7 : FVec F S2048x256 .f32 := broadcastInDim S2048x256 ![] bcast_S_S2048x256 main_cst_1
  let main_v8 : IVec S2048x256 1 := cmpf .olt main_v6 main_v7
  let main_v9 : FVec F S2048x256 .f32 := Host.absf main_arg6
  let main_cst_2 : FVec F S_ .f32 := constant S_ .f32 0x7F800000#32
  let main_v10 : FVec F S2048x256 .f32 := broadcastInDim S2048x256 ![] bcast_S_S2048x256 main_cst_2
  let main_v11 : IVec S2048x256 1 := cmpf .olt main_v9 main_v10
  (main_v2, main_v5, main_v8, main_v11)
-- ==== Kernel.lean ====
abbrev S4x4096x1024 : Shape := ⟨3, ![4, 4096, 1024]⟩
abbrev S1024 : Shape := ⟨1, ![1024]⟩
abbrev S1024x4888 : Shape := ⟨2, ![1024, 4888]⟩
abbrev S4x4096x512 : Shape := ⟨3, ![4, 4096, 512]⟩
abbrev S512x1024 : Shape := ⟨2, ![512, 1024]⟩
abbrev S1024x1024 : Shape := ⟨2, ![1024, 1024]⟩
abbrev S1024x1280 : Shape := ⟨2, ![1024, 1280]⟩
abbrev S1024x24 : Shape := ⟨2, ![1024, 24]⟩
abbrev S_ : Shape := ⟨0, ![]⟩
abbrev S1024x128 : Shape := ⟨2, ![1024, 128]⟩
abbrev S1024x3584 : Shape := ⟨2, ![1024, 3584]⟩
abbrev S1024x4992 : Shape := ⟨2, ![1024, 4992]⟩
abbrev S1x1024 : Shape := ⟨2, ![1, 1024]⟩
abbrev S4x2048x512 : Shape := ⟨3, ![4, 2048, 512]⟩
abbrev S4x512x4096 : Shape := ⟨3, ![4, 512, 4096]⟩
abbrev S1x512x1024 : Shape := ⟨3, ![1, 512, 1024]⟩
abbrev S1x512x512 : Shape := ⟨3, ![1, 512, 512]⟩
abbrev S1x64x4096 : Shape := ⟨3, ![1, 64, 4096]⟩
abbrev S4x512x128 : Shape := ⟨3, ![4, 512, 128]⟩
abbrev S64x4096 : Shape := ⟨2, ![64, 4096]⟩
abbrev S64x128 : Shape := ⟨2, ![64, 128]⟩
abbrev S1x64x128 : Shape := ⟨3, ![1, 64, 128]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1x256x512 : Shape := ⟨3, ![1, 256, 512]⟩
abbrev S256x512 : Shape := ⟨2, ![256, 512]⟩
abbrev S1x256x128 : Shape := ⟨3, ![1, 256, 128]⟩
abbrev S256x128 : Shape := ⟨2, ![256, 128]⟩
abbrev S1024x512 : Shape := ⟨2, ![1024, 512]⟩

abbrev nBuf : Space → Nat
  | .hbm => 26
  | .vmem => 17
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x4888, .f32⟩
  | .hbm, ⟨3, _⟩ => ⟨S4x4096x512, .f32⟩
  | .hbm, ⟨4, _⟩ => ⟨S4x4096x512, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S1024x1280, .f32⟩
  | .hbm, ⟨10, _⟩ => ⟨S1024x24, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S1024x3584, .f32⟩
  | .hbm, ⟨15, _⟩ => ⟨S1024x4992, .f32⟩
  | .hbm, ⟨16, _⟩ => ⟨S1024x4992, .bf16⟩
  | .hbm, ⟨17, _⟩ => ⟨S1x1024, .f32⟩
  | .hbm, ⟨18, _⟩ => ⟨S4x2048x512, .f32⟩
  | .hbm, ⟨19, _⟩ => ⟨S4x2048x512, .f32⟩
  | .hbm, ⟨20, _⟩ => ⟨S4x512x4096, .f32⟩
  | .hbm, ⟨21, _⟩ => ⟨S512x1024, .bf16⟩
  | .hbm, ⟨22, _⟩ => ⟨S512x1024, .bf16⟩
  | .hbm, ⟨23, _⟩ => ⟨S1024x1024, .bf16⟩
  | .hbm, ⟨24, _⟩ => ⟨S1x1024, .f32⟩
  | .hbm, ⟨25, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x4992, .bf16⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x512x512, .f32⟩
  | .local _ .vmem, ⟨8, _⟩ => ⟨S1x64x4096, .f32⟩
  | .local _ .vmem, ⟨9, _⟩ => ⟨S1x64x4096, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x512x1024, .f32⟩
  | .local _ .vmem, ⟨15, _⟩ => ⟨S1x512x1024, .f32⟩
  | .local _ .vmem, ⟨16, _⟩ => ⟨S4x512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4992 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S4x4096x1024 : Shape := ⟨3, ![4, 4096, 1024]⟩
abbrev S1024 : Shape := ⟨1, ![1024]⟩
abbrev S1024x4888 : Shape := ⟨2, ![1024, 4888]⟩
abbrev S4x4096x512 : Shape := ⟨3, ![4, 4096, 512]⟩
abbrev S512x1024 : Shape := ⟨2, ![512, 1024]⟩
abbrev S1024x1024 : Shape := ⟨2, ![1024, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4888 : Shape := ⟨3, ![4, 4096, 4888]⟩

abbrev nBuf : Space → Nat
  | .hbm => 89
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x4888, .f32⟩
  | .hbm, ⟨3, _⟩ => ⟨S4x4096x512, .f32⟩
  | .hbm, ⟨4, _⟩ => ⟨S4x4096x512, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024, .f32⟩
  | .hbm, ⟨9, _⟩ => ⟨S4x4096x1024, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x1024, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S4x4096x4888, .f32⟩
  | .hbm, ⟨26, _⟩ => ⟨S4x4096x512, .f32⟩
  | .hbm, ⟨27, _⟩ => ⟨S4x4096x512, .f32⟩
  | .hbm, ⟨28, _⟩ => ⟨S4x4096x1024, .f32⟩
  | .hbm, ⟨29, _⟩ => ⟨S4x4096x1024, .f32⟩
  | .hbm, ⟨30, _⟩ => ⟨S4x4096x512, .f32⟩
  | .hbm, ⟨31, _⟩ => ⟨S4x4096x512, .f32⟩
  | .hbm, ⟨32, _⟩ => ⟨S_, .f32⟩
  | .hbm, ⟨33, _⟩ => ⟨S4x4096x512, .f32⟩
  | .hbm, ⟨34, _⟩ => ⟨S4x4096x512, .f32⟩
  | .hbm, ⟨35, _⟩ => ⟨S_, .f32⟩
  | .hbm, ⟨36, _⟩ => ⟨S4x4096x512, .f32⟩
  | .hbm, ⟨37, _⟩ => ⟨S4x4096x512, .f32⟩
  | .hbm, ⟨38, _⟩ => ⟨S4x4096x512, .f32⟩
  | .hbm, ⟨39, _⟩ => ⟨S4x4096x512, .f32⟩
  | .hbm, ⟨40, _⟩ => ⟨S4x4096x1024, .f32⟩
  | .hbm, ⟨41, _⟩ => ⟨S4x4096x512, .f32⟩
  | .hbm, ⟨42, _⟩ => ⟨S4x4096x512, .f32⟩
  | .hbm, ⟨43, _⟩ => ⟨S_, .f32⟩
  | .hbm, ⟨44, _⟩ => ⟨S4x4096x512, .f32⟩
  | .hbm, ⟨45, _⟩ => ⟨S4x4096x512, .f32⟩
  | .hbm, ⟨46, _⟩ => ⟨S_, .f32⟩
  | .hbm, ⟨47, _⟩ => ⟨S4x4096x512, .f32⟩
  | .hbm, ⟨48, _⟩ => ⟨S4x4096x512, .f32⟩
  | .hbm, ⟨49, _⟩ => ⟨S4x4096x512, .f32⟩
  | .hbm, ⟨50, _⟩ => ⟨S4x4096x512, .f32⟩
  | .hbm, ⟨51, _⟩ => ⟨S4x4096x1024, .f32⟩
  | .hbm, ⟨52, _⟩ => ⟨S4x4096x1024, .f32⟩
  | .hbm, ⟨53, _⟩ => ⟨S4x4096x1024, .f32⟩
  | .hbm, ⟨54, _⟩ => ⟨S_, .f32⟩
  | .hbm, ⟨55, _⟩ => ⟨S4x4096x1024, .f32⟩
  | .hbm, ⟨56, _⟩ => ⟨S4x4096x1024, .f32⟩
  | .hbm, ⟨57, _⟩ => ⟨S_, .f32⟩
  | .hbm, ⟨58, _⟩ => ⟨S4x4096x1024, .f32⟩
  | .hbm, ⟨59, _⟩ => ⟨S4x4096x1024, .f32⟩
  | .hbm, ⟨60, _⟩ => ⟨S4x4096x1024, .f32⟩
  | .hbm, ⟨61, _⟩ => ⟨S4x4096x1024, .f32⟩
  | .hbm, ⟨62, _⟩ => ⟨S4x4096x1024, .f32⟩
  | .hbm, ⟨63, _⟩ => ⟨S_, .f32⟩
  | .hbm, ⟨64, _⟩ => ⟨S4x4096x1024, .f32⟩
  | .hbm, ⟨65, _⟩ => ⟨S4x4096x1024, .f32⟩
  | .hbm, ⟨66, _⟩ => ⟨S_, .f32⟩
  | .hbm, ⟨67, _⟩ => ⟨S4x4096x1024, .f32⟩
  | .hbm, ⟨68, _⟩ => ⟨S4x4096x1024, .f32⟩
  | .hbm, ⟨69, _⟩ => ⟨S4x4096x1024, .f32⟩
  | .hbm, ⟨70, _⟩ => ⟨S4x4096x1024, .f32⟩
  | .hbm, ⟨71, _⟩ => ⟨S4x4096x1024, .f32⟩
  | .hbm, ⟨72, _⟩ => ⟨S4x4096x1024, .f32⟩
  | .hbm, ⟨73, _⟩ => ⟨S4x4096x1024, .f32⟩
  | .hbm, ⟨74, _⟩ => ⟨S_, .f32⟩
  | .hbm, ⟨75, _⟩ => ⟨S4x4096, .f32⟩
  | .hbm, ⟨76, _⟩ => ⟨S4x4096x1, .f32⟩
  | .hbm, ⟨77, _⟩ => ⟨S_, .f32⟩
  | .hbm, ⟨78, _⟩ => ⟨S4x4096x1, .f32⟩
  | .hbm, ⟨79, _⟩ => ⟨S4x4096x1, .f32⟩
  | .hbm, ⟨80, _⟩ => ⟨S_, .f32⟩
  | .hbm, ⟨81, _⟩ => ⟨S4x4096x1, .f32⟩
  | .hbm, ⟨82, _⟩ => ⟨S4x4096x1, .f32⟩
  | .hbm, ⟨83, _⟩ => ⟨S4x4096x1, .f32⟩
  | .hbm, ⟨84, _⟩ => ⟨S4x4096x1024, .f32⟩
  | .hbm, ⟨85, _⟩ => ⟨S4x4096x1024, .f32⟩
  | .hbm, ⟨86, _⟩ => ⟨S1x1x1024, .f32⟩
  | .hbm, ⟨87, _⟩ => ⟨S4x4096x1024, .f32⟩
  | .hbm, ⟨88, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_4 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]
-- ==== Kernel2.lean ====
abbrev S4x4096x1024 : Shape := ⟨3, ![4, 4096, 1024]⟩
abbrev S1024 : Shape := ⟨1, ![1024]⟩
abbrev S1024x4888 : Shape := ⟨2, ![1024, 4888]⟩
abbrev S4096x32 : Shape := ⟨2, ![4096, 32]⟩
abbrev S1024x1280 : Shape := ⟨2, ![1024, 1280]⟩
abbrev S1024x24 : Shape := ⟨2, ![1024, 24]⟩
abbrev S_ : Shape := ⟨0, ![]⟩
abbrev S1024x128 : Shape := ⟨2, ![1024, 128]⟩
abbrev S1024x3584 : Shape := ⟨2, ![1024, 3584]⟩
abbrev S1024x4992 : Shape := ⟨2, ![1024, 4992]⟩
abbrev S4096x128 : Shape := ⟨2, ![4096, 128]⟩
abbrev S1x1024 : Shape := ⟨2, ![1, 1024]⟩
abbrev S4x8x4096x128 : Shape := ⟨4, ![4, 8, 4096, 128]⟩
abbrev S4x4096x128 : Shape := ⟨3, ![4, 4096, 128]⟩
abbrev S4x2x4096x128 : Shape := ⟨4, ![4, 2, 4096, 128]⟩
abbrev S4x2x80x4096 : Shape := ⟨4, ![4, 2, 80, 4096]⟩
abbrev S4x32x4096 : Shape := ⟨3, ![4, 32, 4096]⟩
abbrev S4x512x4096 : Shape := ⟨3, ![4, 512, 4096]⟩
abbrev S1x512x1024 : Shape := ⟨3, ![1, 512, 1024]⟩
abbrev S512x128 : Shape := ⟨2, ![512, 128]⟩
abbrev S1x8x512x128 : Shape := ⟨4, ![1, 8, 512, 128]⟩
abbrev S1x512x128 : Shape := ⟨3, ![1, 512, 128]⟩
abbrev S1x2x512x128 : Shape := ⟨4, ![1, 2, 512, 128]⟩
abbrev S1x2x80x512 : Shape := ⟨4, ![1, 2, 80, 512]⟩
abbrev S1x32x512 : Shape := ⟨3, ![1, 32, 512]⟩
abbrev S1x64x4096 : Shape := ⟨3, ![1, 64, 4096]⟩
abbrev S4x512x128 : Shape := ⟨3, ![4, 512, 128]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1x1x512x128 : Shape := ⟨4, ![1, 1, 512, 128]⟩
abbrev S1024x896 : Shape := ⟨2, ![1024, 896]⟩
abbrev S512x896 : Shape := ⟨2, ![512, 896]⟩
abbrev S16x512 : Shape := ⟨2, ![16, 512]⟩
abbrev S128x512 : Shape := ⟨2, ![128, 512]⟩
abbrev S64x512 : Shape := ⟨2, ![64, 512]⟩
abbrev S80x512 : Shape := ⟨2, ![80, 512]⟩
abbrev S1x1x80x512 : Shape := ⟨4, ![1, 1, 80, 512]⟩
abbrev S32x512 : Shape := ⟨2, ![32, 512]⟩
abbrev S1x64x128 : Shape := ⟨3, ![1, 64, 128]⟩
abbrev S64x128 : Shape := ⟨2, ![64, 128]⟩

abbrev nBuf : Space → Nat
  | .hbm => 27
  | .vmem => 27
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x4888, .f32⟩
  | .hbm, ⟨3, _⟩ => ⟨S4096x32, .f32⟩
  | .hbm, ⟨4, _⟩ => ⟨S4096x32, .f32⟩
  | .hbm, ⟨5, _⟩ => ⟨S1024x1280, .f32⟩
  | .hbm, ⟨6, _⟩ => ⟨S1024x24, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S1024x3584, .f32⟩
  | .hbm, ⟨11, _⟩ => ⟨S1024x4992, .f32⟩
  | .hbm, ⟨12, _⟩ => ⟨S1024x4992, .bf16⟩
  | .hbm, ⟨13, _⟩ => ⟨S4096x128, .f32⟩
  | .hbm, ⟨14, _⟩ => ⟨S4096x32, .f32⟩
  | .hbm, ⟨15, _⟩ => ⟨S4096x32, .f32⟩
  | .hbm, ⟨16, _⟩ => ⟨S4096x128, .f32⟩
  | .hbm, ⟨17, _⟩ => ⟨S1x1024, .f32⟩
  | .hbm, ⟨18, _⟩ => ⟨S4x8x4096x128, .bf16⟩
  | .hbm, ⟨19, _⟩ => ⟨S4x4096x128, .f32⟩
  | .hbm, ⟨20, _⟩ => ⟨S4x4096x128, .f32⟩
  | .hbm, ⟨21, _⟩ => ⟨S4x2x4096x128, .bf16⟩
  | .hbm, ⟨22, _⟩ => ⟨S4x2x80x4096, .bf16⟩
  | .hbm, ⟨23, _⟩ => ⟨S4x2x4096x128, .bf16⟩
  | .hbm, ⟨24, _⟩ => ⟨S4x2x80x4096, .bf16⟩
  | .hbm, ⟨25, _⟩ => ⟨S4x32x4096, .f32⟩
  | .hbm, ⟨26, _⟩ => ⟨S4x512x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x4992, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S1x8x512x128, .bf16⟩
  | .local _ .vmem, ⟨9, _⟩ => ⟨S1x8x512x128, .bf16⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x2x512x128, .bf16⟩
  | .local _ .vmem, ⟨15, _⟩ => ⟨S1x2x512x128, .bf16⟩
  | .local _ .vmem, ⟨16, _⟩ => ⟨S1x2x80x512, .bf16⟩
  | .local _ .vmem, ⟨17, _⟩ => ⟨S1x2x80x512, .bf16⟩
  | .local _ .vmem, ⟨18, _⟩ => ⟨S1x2x512x128, .bf16⟩
  | .local _ .vmem, ⟨19, _⟩ => ⟨S1x2x512x128, .bf16⟩
  | .local _ .vmem, ⟨20, _⟩ => ⟨S1x2x80x512, .bf16⟩
  | .local _ .vmem, ⟨21, _⟩ => ⟨S1x2x80x512, .bf16⟩
  | .local _ .vmem, ⟨22, _⟩ => ⟨S1x32x512, .f32⟩
  | .local _ .vmem, ⟨23, _⟩ => ⟨S1x32x512, .f32⟩
  | .local _ .vmem, ⟨24, _⟩ => ⟨S1x64x4096, .f32⟩
  | .local _ .vmem, ⟨25, _⟩ => ⟨S1x64x4096, .f32⟩
  | .local _ .vmem, ⟨26, _⟩ => ⟨S4x512x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev main_v11_6 : Ref sig .tc := ⟨.hbm, 24, rfl⟩
abbrev main_v11_7 : Ref sig .tc := ⟨.hbm, 25, rfl⟩
abbrev main_v11_8 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4992 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x8x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x80x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x80x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x32x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x64x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference2Ideal.lean ====
abbrev S4x4096x1024 : Shape := ⟨3, ![4, 4096, 1024]⟩
abbrev S1024 : Shape := ⟨1, ![1024]⟩
abbrev S1024x4888 : Shape := ⟨2, ![1024, 4888]⟩
abbrev S4096x32 : Shape := ⟨2, ![4096, 32]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4888 : Shape := ⟨3, ![4, 4096, 4888]⟩
abbrev S4x4096x512 : Shape := ⟨3, ![4, 4096, 512]⟩
abbrev S4x4096x128 : Shape := ⟨3, ![4, 4096, 128]⟩
abbrev S4x4096x24 : Shape := ⟨3, ![4, 4096, 24]⟩
abbrev S4x4096x8x64 : Shape := ⟨4, ![4, 4096, 8, 64]⟩
abbrev S64x64 : Shape := ⟨2, ![64, 64]⟩
abbrev S64x64x64 : Shape := ⟨3, ![64, 64, 64]⟩
abbrev S4096x64 : Shape := ⟨2, ![4096, 64]⟩
abbrev S1x4096x1x64 : Shape := ⟨4, ![1, 4096, 1, 64]⟩
abbrev S4x4096x2x64 : Shape := ⟨4, ![4, 4096, 2, 64]⟩
abbrev S4x2x1x4096 : Shape := ⟨4, ![4, 2, 1, 4096]⟩
abbrev S4x2x15x4096 : Shape := ⟨4, ![4, 2, 15, 4096]⟩
abbrev S4x2x16x4096 : Shape := ⟨4, ![4, 2, 16, 4096]⟩
abbrev S4x4096x32 : Shape := ⟨3, ![4, 4096, 32]⟩
abbrev S4x32x4096 : Shape := ⟨3, ![4, 32, 4096]⟩
abbrev S4x4096x8x32 : Shape := ⟨4, ![4, 4096, 8, 32]⟩
abbrev S1x4096x1x32 : Shape := ⟨4, ![1, 4096, 1, 32]⟩
abbrev S4x4096x8x128 : Shape := ⟨4, ![4, 4096, 8, 128]⟩
abbrev S4x8x4096x128 : Shape := ⟨4, ![4, 8, 4096, 128]⟩
abbrev S4x4096x2x32 : Shape := ⟨4, ![4, 4096, 2, 32]⟩
abbrev S4x4096x2x128 : Shape := ⟨4, ![4, 4096, 2, 128]⟩
abbrev S4x2x4096x128 : Shape := ⟨4, ![4, 2, 4096, 128]⟩
abbrev S4x2x64x4096 : Shape := ⟨4, ![4, 2, 64, 4096]⟩
abbrev S4x2x80x4096 : Shape := ⟨4, ![4, 2, 80, 4096]⟩
abbrev S4x512x4096 : Shape := ⟨3, ![4, 512, 4096]⟩

abbrev nBuf : Space → Nat
  | .hbm => 130
  | .vmem => 0
  | .smem => 0
  | _ => 0

abbrev hbmTy0_0 (i : Nat) : BufTy := match i % 128 with
  | 0 => ⟨S4x4096x1024, .f32⟩
  | 1 => ⟨S1024, .f32⟩
  | 2 => ⟨S1024x4888, .f32⟩
  | 3 => ⟨S4096x32, .f32⟩
  | 4 => ⟨S4096x32, .f32⟩
  | 5 => ⟨S4x4096x1024, .f32⟩
  | 6 => ⟨S_, .f32⟩
  | 7 => ⟨S4x4096, .f32⟩
  | 8 => ⟨S4x4096x1, .f32⟩
  | 9 => ⟨S_, .f32⟩
  | 10 => ⟨S4x4096x1, .f32⟩
  | 11 => ⟨S4x4096x1, .f32⟩
  | 12 => ⟨S_, .f32⟩
  | 13 => ⟨S4x4096x1, .f32⟩
  | 14 => ⟨S4x4096x1, .f32⟩
  | 15 => ⟨S4x4096x1, .f32⟩
  | 16 => ⟨S4x4096x1024, .f32⟩
  | 17 => ⟨S4x4096x1024, .f32⟩
  | 18 => ⟨S1x1x1024, .f32⟩
  | 19 => ⟨S4x4096x1024, .f32⟩
  | 20 => ⟨S4x4096x1024, .f32⟩
  | 21 => ⟨S4x4096x4888, .f32⟩
  | 22 => ⟨S4x4096x512, .f32⟩
  | 23 => ⟨S4x4096x128, .f32⟩
  | 24 => ⟨S4x4096x128, .f32⟩
  | 25 => ⟨S4x4096x128, .f32⟩
  | 26 => ⟨S4x4096x128, .f32⟩
  | 27 => ⟨S4x4096x128, .f32⟩
  | 28 => ⟨S4x4096x128, .f32⟩
  | 29 => ⟨S4x4096x24, .f32⟩
  | 30 => ⟨S4x4096x512, .f32⟩
  | 31 => ⟨S_, .f32⟩
  | 32 => ⟨S4x4096x512, .f32⟩
  | 33 => ⟨S4x4096x512, .f32⟩
  | 34 => ⟨S4x4096x8x64, .f32⟩
  | 35 => ⟨S64x64, .i32⟩
  | 36 => ⟨S64x64, .i32⟩
  | 37 => ⟨S_, .i32⟩
  | 38 => ⟨S64x64, .i32⟩
  | 39 => ⟨S64x64, .i32⟩
  | 40 => ⟨S64x64, .i1⟩
  | 41 => ⟨S64x64, .f32⟩
  | 42 => ⟨S64x64x64, .f32⟩
  | 43 => ⟨S4096x64, .f32⟩
  | 44 => ⟨S1x4096x1x64, .f32⟩
  | 45 => ⟨S4x4096x2x64, .f32⟩
  | 46 => ⟨S_, .f32⟩
  | 47 => ⟨S4x2x1x4096, .f32⟩
  | 48 => ⟨S_, .f32⟩
  | 49 => ⟨S4x2x15x4096, .f32⟩
  | 50 => ⟨S4x2x16x4096, .f32⟩
  | 51 => ⟨S_, .i32⟩
  | 52 => ⟨S_, .f32⟩
  | 53 => ⟨S4x4096x32, .f32⟩
  | 54 => ⟨S4x4096x32, .f32⟩
  | 55 => ⟨S4x4096x32, .f32⟩
  | 56 => ⟨S_, .f32⟩
  | 57 => ⟨S4x4096x32, .f32⟩
  | 58 => ⟨S4x4096x32, .f32⟩
  | 59 => ⟨S_, .f32⟩
  | 60 => ⟨S4x4096x32, .f32⟩
  | 61 => ⟨S4x4096x32, .f32⟩
  | 62 => ⟨S4x32x4096, .f32⟩
  | 63 => ⟨S4x4096x8x32, .f32⟩
  | 64 => ⟨S4x4096x8x32, .f32⟩
  | 65 => ⟨S1x4096x1x32, .f32⟩
  | 66 => ⟨S1x4096x1x32, .f32⟩
  | 67 => ⟨S4x4096x8x32, .f32⟩
  | 68 => ⟨S4x4096x8x32, .f32⟩
  | 69 => ⟨S4x4096x8x32, .f32⟩
  | 70 => ⟨S4x4096x8x32, .f32⟩
  | 71 => ⟨S4x4096x8x32, .f32⟩
  | 72 => ⟨S4x4096x8x32, .f32⟩
  | 73 => ⟨S4x4096x8x32, .f32⟩
  | 74 => ⟨S4x4096x8x32, .f32⟩
  | 75 => ⟨S4x4096x8x32, .f32⟩
  | 76 => ⟨S4x4096x8x32, .f32⟩
  | 77 => ⟨S4x4096x8x64, .f32⟩
  | 78 => ⟨S4x4096x8x128, .f32⟩
  | 79 => ⟨S4x8x4096x128, .f32⟩
  | 80 => ⟨S4x8x4096x128, .bf16⟩
  | 81 => ⟨S4x4096x2x64, .f32⟩
  | 82 => ⟨S4x4096x2x32, .f32⟩
  | 83 => ⟨S4x4096x2x32, .f32⟩
  | 84 => ⟨S1x4096x1x32, .f32⟩
  | 85 => ⟨S1x4096x1x32, .f32⟩
  | 86 => ⟨S4x4096x2x32, .f32⟩
  | 87 => ⟨S4x4096x2x32, .f32⟩
  | 88 => ⟨S4x4096x2x32, .f32⟩
  | 89 => ⟨S4x4096x2x32, .f32⟩
  | 90 => ⟨S4x4096x2x32, .f32⟩
  | 91 => ⟨S4x4096x2x32, .f32⟩
  | 92 => ⟨S4x4096x2x32, .f32⟩
  | 93 => ⟨S4x4096x2x32, .f32⟩
  | 94 => ⟨S4x4096x2x32, .f32⟩
  | 95 => ⟨S4x4096x2x32, .f32⟩
  | 96 => ⟨S4x4096x2x64, .f32⟩
  | 97 => ⟨S4x4096x2x128, .f32⟩
  | 98 => ⟨S4x2x4096x128, .f32⟩
  | 99 => ⟨S4x2x4096x128, .bf16⟩
  | 100 => ⟨S4x4096x2x64, .f32⟩
  | 101 => ⟨S4x2x64x4096, .f32⟩
  | 102 => ⟨S4x2x80x4096, .f32⟩
  | 103 => ⟨S4x2x80x4096, .bf16⟩
  | 104 => ⟨S4x4096x2x64, .f32⟩
  | 105 => ⟨S4x4096x2x32, .f32⟩
  | 106 => ⟨S4x4096x2x32, .f32⟩
  | 107 => ⟨S1x4096x1x32, .f32⟩
  | 108 => ⟨S1x4096x1x32, .f32⟩
  | 109 => ⟨S4x4096x2x32, .f32⟩
  | 110 => ⟨S4x4096x2x32, .f32⟩
  | 111 => ⟨S4x4096x2x32, .f32⟩
  | 112 => ⟨S4x4096x2x32, .f32⟩
  | 113 => ⟨S4x4096x2x32, .f32⟩
  | 114 => ⟨S4x4096x2x32, .f32⟩
  | 115 => ⟨S4x4096x2x32, .f32⟩
  | 116 => ⟨S4x4096x2x32, .f32⟩
  | 117 => ⟨S4x4096x2x32, .f32⟩
  | 118 => ⟨S4x4096x2x32, .f32⟩
  | 119 => ⟨S4x4096x2x64, .f32⟩
  | 120 => ⟨S_, .f32⟩
  | 121 => ⟨S4x4096x2x64, .f32⟩
  | 122 => ⟨S4x4096x2x128, .f32⟩
  | 123 => ⟨S4x2x4096x128, .f32⟩
  | 124 => ⟨S4x2x4096x128, .bf16⟩
  | 125 => ⟨S4x4096x2x64, .f32⟩
  | 126 => ⟨S4x2x64x4096, .f32⟩
  | 127 => ⟨S4x2x80x4096, .f32⟩
  | _ => ⟨S4x4096x1024, .f32⟩

abbrev hbmTy0_1 (i : Nat) : BufTy := match i % 128 with
  | 0 => ⟨S4x2x80x4096, .bf16⟩
  | 1 => ⟨S4x512x4096, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_c : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_cst_4 : Ref sig .tc := ⟨.hbm, 48, rfl⟩
abbrev main_v37 : Ref sig .tc := ⟨.hbm, 49, rfl⟩
abbrev main_v38 : Ref sig .tc := ⟨.hbm, 50, rfl⟩
abbrev main_c_5 : Ref sig .tc := ⟨.hbm, 51, rfl⟩
abbrev main_call0_v0 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_cst_8 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩

abbrev nD : Nat := 1
abbrev τ : Topo := Topo.v7x

variable {F : FTy → Type} [FloatOps F]
-- ==== Kernel3.lean ====
abbrev S32x64 : Shape := ⟨2, ![32, 64]⟩
abbrev S32 : Shape := ⟨1, ![32]⟩
abbrev S32x64x16 : Shape := ⟨3, ![32, 64, 16]⟩
abbrev S32x16x64 : Shape := ⟨3, ![32, 16, 64]⟩
abbrev S512x64 : Shape := ⟨2, ![512, 64]⟩
abbrev S32x1 : Shape := ⟨2, ![32, 1]⟩

abbrev nBuf : Space → Nat
  | .hbm => 21
  | .vmem => 9
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32x16x64, .f32⟩
  | .hbm, ⟨6, _⟩ => ⟨S512x64, .f32⟩
  | .hbm, ⟨7, _⟩ => ⟨S32x16x64, .f32⟩
  | .hbm, ⟨8, _⟩ => ⟨S512x64, .f32⟩
  | .hbm, ⟨9, _⟩ => ⟨S32x1, .f32⟩
  | .hbm, ⟨10, _⟩ => ⟨S32x64, .f32⟩
  | .hbm, ⟨11, _⟩ => ⟨S32x16x64, .f32⟩
  | .hbm, ⟨12, _⟩ => ⟨S512x64, .f32⟩
  | .hbm, ⟨13, _⟩ => ⟨S32x16x64, .f32⟩
  | .hbm, ⟨14, _⟩ => ⟨S512x64, .f32⟩
  | .hbm, ⟨15, _⟩ => ⟨S32x16x64, .f32⟩
  | .hbm, ⟨16, _⟩ => ⟨S512x64, .f32⟩
  | .hbm, ⟨17, _⟩ => ⟨S512x64, .f32⟩
  | .hbm, ⟨18, _⟩ => ⟨S512x64, .f32⟩
  | .hbm, ⟨19, _⟩ => ⟨S512x64, .f32⟩
  | .hbm, ⟨20, _⟩ => ⟨S512x64, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12_0 : Ref sig .tc := ⟨.hbm, 17, rfl⟩
abbrev main_v12_1 : Ref sig .tc := ⟨.hbm, 18, rfl⟩
abbrev main_v12_2 : Ref sig .tc := ⟨.hbm, 19, rfl⟩
abbrev main_v12_3 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference3Ideal.lean ====
abbrev S32x64 : Shape := ⟨2, ![32, 64]⟩
abbrev S32 : Shape := ⟨1, ![32]⟩
abbrev S32x64x16 : Shape := ⟨3, ![32, 64, 16]⟩
abbrev S32x1 : Shape := ⟨2, ![32, 1]⟩
abbrev S_ : Shape := ⟨0, ![]⟩
abbrev S32x64x1 : Shape := ⟨3, ![32, 64, 1]⟩
abbrev S32x16x64 : Shape := ⟨3, ![32, 16, 64]⟩
abbrev S512x64 : Shape := ⟨2, ![512, 64]⟩

abbrev nBuf : Space → Nat
  | .hbm => 57
  | .vmem => 0
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32, .f32⟩
  | .hbm, ⟨3, _⟩ => ⟨S32x64x16, .f32⟩
  | .hbm, ⟨4, _⟩ => ⟨S32x64x16, .f32⟩
  | .hbm, ⟨5, _⟩ => ⟨S32, .f32⟩
  | .hbm, ⟨6, _⟩ => ⟨S32x1, .f32⟩
  | .hbm, ⟨7, _⟩ => ⟨S32x64, .f32⟩
  | .hbm, ⟨8, _⟩ => ⟨S32x64, .f32⟩
  | .hbm, ⟨9, _⟩ => ⟨S32x64, .f32⟩
  | .hbm, ⟨10, _⟩ => ⟨S32x64, .f32⟩
  | .hbm, ⟨11, _⟩ => ⟨S32x64, .f32⟩
  | .hbm, ⟨12, _⟩ => ⟨S32x64, .f32⟩
  | .hbm, ⟨13, _⟩ => ⟨S32x64, .f32⟩
  | .hbm, ⟨14, _⟩ => ⟨S32x64, .f32⟩
  | .hbm, ⟨15, _⟩ => ⟨S32x64, .f32⟩
  | .hbm, ⟨16, _⟩ => ⟨S32x64, .f32⟩
  | .hbm, ⟨17, _⟩ => ⟨S32x64, .f32⟩
  | .hbm, ⟨18, _⟩ => ⟨S32x64, .f32⟩
  | .hbm, ⟨19, _⟩ => ⟨S32x64, .f32⟩
  | .hbm, ⟨20, _⟩ => ⟨S32x64, .f32⟩
  | .hbm, ⟨21, _⟩ => ⟨S_, .f32⟩
  | .hbm, ⟨22, _⟩ => ⟨S32x64, .f32⟩
  | .hbm, ⟨23, _⟩ => ⟨S32x64, .f32⟩
  | .hbm, ⟨24, _⟩ => ⟨S32x64, .f32⟩
  | .hbm, ⟨25, _⟩ => ⟨S32x64, .f32⟩
  | .hbm, ⟨26, _⟩ => ⟨S32x64, .f32⟩
  | .hbm, ⟨27, _⟩ => ⟨S32x64, .f32⟩
  | .hbm, ⟨28, _⟩ => ⟨S32x64, .f32⟩
  | .hbm, ⟨29, _⟩ => ⟨S_, .f32⟩
  | .hbm, ⟨30, _⟩ => ⟨S32x64, .f32⟩
  | .hbm, ⟨31, _⟩ => ⟨S32x64, .f32⟩
  | .hbm, ⟨32, _⟩ => ⟨S32x64, .f32⟩
  | .hbm, ⟨33, _⟩ => ⟨S32x64, .f32⟩
  | .hbm, ⟨34, _⟩ => ⟨S32x64, .f32⟩
  | .hbm, ⟨35, _⟩ => ⟨S32x64x1, .f32⟩
  | .hbm, ⟨36, _⟩ => ⟨S32x64x16, .f32⟩
  | .hbm, ⟨37, _⟩ => ⟨S32x64x16, .f32⟩
  | .hbm, ⟨38, _⟩ => ⟨S32x64x1, .f32⟩
  | .hbm, ⟨39, _⟩ => ⟨S32x64x16, .f32⟩
  | .hbm, ⟨40, _⟩ => ⟨S32x64x16, .f32⟩
  | .hbm, ⟨41, _⟩ => ⟨S32x64x16, .f32⟩
  | .hbm, ⟨42, _⟩ => ⟨S32x64x1, .f32⟩
  | .hbm, ⟨43, _⟩ => ⟨S32x64x16, .f32⟩
  | .hbm, ⟨44, _⟩ => ⟨S32x64x16, .f32⟩
  | .hbm, ⟨45, _⟩ => ⟨S32x64x1, .f32⟩
  | .hbm, ⟨46, _⟩ => ⟨S32x64x16, .f32⟩
  | .hbm, ⟨47, _⟩ => ⟨S32x64x16, .f32⟩
  | .hbm, ⟨48, _⟩ => ⟨S32x64x16, .f32⟩
  | .hbm, ⟨49, _⟩ => ⟨S32x16x64, .f32⟩
  | .hbm, ⟨50, _⟩ => ⟨S512x64, .f32⟩
  | .hbm, ⟨51, _⟩ => ⟨S32x16x64, .f32⟩
  | .hbm, ⟨52, _⟩ => ⟨S512x64, .f32⟩
  | .hbm, ⟨53, _⟩ => ⟨S32x16x64, .f32⟩
  | .hbm, ⟨54, _⟩ => ⟨S512x64, .f32⟩
  | .hbm, ⟨55, _⟩ => ⟨S32x16x64, .f32⟩
  | .hbm, ⟨56, _⟩ => ⟨S512x64, .f32⟩
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩

abbrev nD : Nat := 1
abbrev τ : Topo := Topo.v7x

variable {F : FTy → Type} [FloatOps F]
-- ==== Kernel4.lean ====
abbrev S4x4096x128 : Shape := ⟨3, ![4, 4096, 128]⟩
abbrev S32x64 : Shape := ⟨2, ![32, 64]⟩
abbrev S2048x256 : Shape := ⟨2, ![2048, 256]⟩
abbrev S256x64 : Shape := ⟨2, ![256, 64]⟩
abbrev S_ : Shape := ⟨0, ![]⟩
abbrev S256x128 : Shape := ⟨2, ![256, 128]⟩
abbrev S64x256 : Shape := ⟨2, ![64, 256]⟩
abbrev S1024x256 : Shape := ⟨2, ![1024, 256]⟩
abbrev S1024x512 : Shape := ⟨2, ![1024, 512]⟩
abbrev S2x1024 : Shape := ⟨2, ![2, 1024]⟩
abbrev S16x1024 : Shape := ⟨2, ![16, 1024]⟩
abbrev S4x2x256x128 : Shape := ⟨4, ![4, 2, 256, 128]⟩
abbrev S4x2x64x256 : Shape := ⟨4, ![4, 2, 64, 256]⟩
abbrev S1x4096x128 : Shape := ⟨3, ![1, 4096, 128]⟩
abbrev S1x2x256x128 : Shape := ⟨4, ![1, 2, 256, 128]⟩
abbrev S1x2x64x256 : Shape := ⟨4, ![1, 2, 64, 256]⟩
abbrev S2x1x256 : Shape := ⟨3, ![2, 1, 256]⟩
abbrev S16x512 : Shape := ⟨2, ![16, 512]⟩
abbrev S1x256 : Shape := ⟨2, ![1, 256]⟩
abbrev S1x1x256 : Shape := ⟨3, ![1, 1, 256]⟩
abbrev S256x512 : Shape := ⟨2, ![256, 512]⟩
abbrev S1x256x128 : Shape := ⟨3, ![1, 256, 128]⟩
abbrev S64x512 : Shape := ⟨2, ![64, 512]⟩
abbrev S256x256 : Shape := ⟨2, ![256, 256]⟩
abbrev S1x1x256x128 : Shape := ⟨4, ![1, 1, 256, 128]⟩
abbrev S1x1x64x256 : Shape := ⟨4, ![1, 1, 64, 256]⟩

abbrev nBuf : Space → Nat
  | .hbm => 32
  | .vmem => 15
  | .smem => 0
  | _ => 0

abbrev bufTy : (tb : Table) → Fin (tcTables nBuf tb) → BufTy
  | .hbm, ⟨0, _⟩ => ⟨S4x4096x128, .f32⟩
  | .hbm, ⟨1, _⟩ => ⟨S4x4096x128, .f32⟩
  | .hbm, ⟨2, _⟩ => ⟨S32x64, .f32⟩
  | .hbm, ⟨3, _⟩ => ⟨S32x64, .f32⟩
  | .hbm, ⟨4, _⟩ => ⟨S2048x256, .f32⟩
  | .hbm, ⟨5, _⟩ => ⟨S256x64, .f32⟩
  | .hbm, ⟨6, _⟩ => ⟨S2048x256, .f32⟩
  | .hbm, ⟨7, _⟩ => ⟨S256x64, .f32⟩
  | .hbm, ⟨8, _⟩ => ⟨S_, .f32⟩
  | .hbm, ⟨9, _⟩ => ⟨S256x64, .f32⟩
  | .hbm, ⟨10, _⟩ => ⟨S256x128, .f32⟩
  | .hbm, ⟨11, _⟩ => ⟨S256x128, .bf16⟩
  | .hbm, ⟨12, _⟩ => ⟨S64x256, .f32⟩
  | .hbm, ⟨13, _⟩ => ⟨S64x256, .bf16⟩
  | .hbm, ⟨14, _⟩ => ⟨S1024x256, .f32⟩
  | .hbm, ⟨15, _⟩ => ⟨S1024x256, .f32⟩
  | .hbm, ⟨16, _⟩ => ⟨S1024x512, .f32⟩
  | .hbm, ⟨17, _⟩ => ⟨S1024x512, .bf16⟩
  | .hbm, ⟨18, _⟩ => ⟨S1024x256, .f32⟩
  | .hbm, ⟨19, _⟩ => ⟨S1024x256, .f32⟩
  | .hbm, ⟨20, _⟩ => ⟨S1024x512, .f32⟩
  | .hbm, ⟨21, _⟩ => ⟨S1024x512, .bf16⟩
  | .hbm, ⟨22, _⟩ => ⟨S2x1024, .f32⟩
  | .hbm, ⟨23, _⟩ => ⟨S_, .i32⟩
  | .hbm, ⟨24, _⟩ => ⟨S_, .f32⟩
  | .hbm, ⟨25, _⟩ => ⟨S16x1024, .f32⟩
  | .hbm, ⟨26, _⟩ => ⟨S2x1024, .f32⟩
  | .hbm, ⟨27, _⟩ => ⟨S_, .i32⟩
  | .hbm, ⟨28, _⟩ => ⟨S_, .f32⟩
  | .hbm, ⟨29, _⟩ => ⟨S16x1024, .f32⟩
  | .hbm, ⟨30, _⟩ => ⟨S4x2x256x128, .bf16⟩
  | .hbm, ⟨31, _⟩ => ⟨S4x2x64x256, .bf16⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1024x512, .bf16⟩
  | .local _ .vmem, ⟨5, _⟩ => ⟨S1024x512, .bf16⟩
  | .local _ .vmem, ⟨6, _⟩ => ⟨S256x128, .bf16⟩
  | .local _ .vmem, ⟨7, _⟩ => ⟨S64x256, .bf16⟩
  | .local _ .vmem, ⟨8, _⟩ => ⟨S16x1024, .f32⟩
  | .local _ .vmem, ⟨9, _⟩ => ⟨S16x1024, .f32⟩
  | .local _ .vmem, ⟨10, _⟩ => ⟨S1x2x256x128, .bf16⟩
  | .local _ .vmem, ⟨11, _⟩ => ⟨S1x2x256x128, .bf16⟩
  | .local _ .vmem, ⟨12, _⟩ => ⟨S1x2x64x256, .bf16⟩
  | .local _ .vmem, ⟨13, _⟩ => ⟨S1x2x64x256, .bf16⟩
  | .local _ .vmem, ⟨14, _⟩ => ⟨S2x1x256, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_c_0 : Ref sig .tc := ⟨.hbm, 27, rfl⟩
abbrev main_call1_v0 : Ref sig .tc := ⟨.hbm, 28, rfl⟩
abbrev main_v16 : Ref sig .tc := ⟨.hbm, 29, rfl⟩
abbrev main_v17_0 : Ref sig .tc := ⟨.hbm, 30, rfl⟩
abbrev main_v17_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x2x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x64x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference4Ideal.lean ====
abbrev S4x4096x128 : Shape := ⟨3, ![4, 4096, 128]⟩
abbrev S32x64 : Shape := ⟨2, ![32, 64]⟩
abbrev S2048x256 : Shape := ⟨2, ![2048, 256]⟩
abbrev S256x64 : Shape := ⟨2, ![256, 64]⟩
abbrev S4x256x16x2x64 : Shape := ⟨5, ![4, 256, 16, 2, 64]⟩
abbrev S4x255x16x2x64 : Shape := ⟨5, ![4, 255, 16, 2, 64]⟩
abbrev S4x1x16x2x64 : Shape := ⟨5, ![4, 1, 16, 2, 64]⟩
abbrev S4x256x32x2x64 : Shape := ⟨5, ![4, 256, 32, 2, 64]⟩
abbrev S1x1x32x1x64 : Shape := ⟨5, ![1, 1, 32, 1, 64]⟩
abbrev S4x256x2x32x64 : Shape := ⟨5, ![4, 256, 2, 32, 64]⟩
abbrev S4x256x2x2048 : Shape := ⟨4, ![4, 256, 2, 2048]⟩
abbrev S4x256x2x256 : Shape := ⟨4, ![4, 256, 2, 256]⟩
abbrev S_ : Shape := ⟨0, ![]⟩
abbrev S4x256x2x64 : Shape := ⟨4, ![4, 256, 2, 64]⟩
abbrev S4x256x2x128 : Shape := ⟨4, ![4, 256, 2, 128]⟩
abbrev S4x2x256x128 : Shape := ⟨4, ![4, 2, 256, 128]⟩
abbrev S4x2x64x256 : Shape := ⟨4, ![4, 2, 64, 256]⟩

abbrev nBuf : Space → Nat
  | .hbm => 73
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x128, .f32⟩
  | .hbm, ⟨2, _⟩ => ⟨S32x64, .f32⟩
  | .hbm, ⟨3, _⟩ => ⟨S32x64, .f32⟩
  | .hbm, ⟨4, _⟩ => ⟨S2048x256, .f32⟩
  | .hbm, ⟨5, _⟩ => ⟨S256x64, .f32⟩
  | .hbm, ⟨6, _⟩ => ⟨S2048x256, .f32⟩
  | .hbm, ⟨7, _⟩ => ⟨S256x64, .f32⟩
  | .hbm, ⟨8, _⟩ => ⟨S4x256x16x2x64, .f32⟩
  | .hbm, ⟨9, _⟩ => ⟨S4x255x16x2x64, .f32⟩
  | .hbm, ⟨10, _⟩ => ⟨S4x1x16x2x64, .f32⟩
  | .hbm, ⟨11, _⟩ => ⟨S4x256x16x2x64, .f32⟩
  | .hbm, ⟨12, _⟩ => ⟨S4x256x32x2x64, .f32⟩
  | .hbm, ⟨13, _⟩ => ⟨S1x1x32x1x64, .f32⟩
  | .hbm, ⟨14, _⟩ => ⟨S4x256x32x2x64, .f32⟩
  | .hbm, ⟨15, _⟩ => ⟨S4x256x32x2x64, .f32⟩
  | .hbm, ⟨16, _⟩ => ⟨S4x256x2x32x64, .f32⟩
  | .hbm, ⟨17, _⟩ => ⟨S4x256x2x2048, .f32⟩
  | .hbm, ⟨18, _⟩ => ⟨S4x256x2x256, .f32⟩
  | .hbm, ⟨19, _⟩ => ⟨S4x256x2x256, .f32⟩
  | .hbm, ⟨20, _⟩ => ⟨S4x256x2x256, .f32⟩
  | .hbm, ⟨21, _⟩ => ⟨S_, .f32⟩
  | .hbm, ⟨22, _⟩ => ⟨S4x256x2x256, .f32⟩
  | .hbm, ⟨23, _⟩ => ⟨S4x256x2x256, .f32⟩
  | .hbm, ⟨24, _⟩ => ⟨S4x256x2x256, .f32⟩
  | .hbm, ⟨25, _⟩ => ⟨S_, .f32⟩
  | .hbm, ⟨26, _⟩ => ⟨S4x256x2x256, .f32⟩
  | .hbm, ⟨27, _⟩ => ⟨S4x256x2x256, .f32⟩
  | .hbm, ⟨28, _⟩ => ⟨S4x256x2x256, .f32⟩
  | .hbm, ⟨29, _⟩ => ⟨S_, .f32⟩
  | .hbm, ⟨30, _⟩ => ⟨S4x256x2x256, .f32⟩
  | .hbm, ⟨31, _⟩ => ⟨S4x256x2x256, .f32⟩
  | .hbm, ⟨32, _⟩ => ⟨S_, .f32⟩
  | .hbm, ⟨33, _⟩ => ⟨S4x256x2x256, .f32⟩
  | .hbm, ⟨34, _⟩ => ⟨S4x256x2x256, .f32⟩
  | .hbm, ⟨35, _⟩ => ⟨S4x256x2x256, .f32⟩
  | .hbm, ⟨36, _⟩ => ⟨S4x256x2x64, .f32⟩
  | .hbm, ⟨37, _⟩ => ⟨S4x256x16x2x64, .f32⟩
  | .hbm, ⟨38, _⟩ => ⟨S4x255x16x2x64, .f32⟩
  | .hbm, ⟨39, _⟩ => ⟨S4x1x16x2x64, .f32⟩
  | .hbm, ⟨40, _⟩ => ⟨S4x256x16x2x64, .f32⟩
  | .hbm, ⟨41, _⟩ => ⟨S4x256x32x2x64, .f32⟩
  | .hbm, ⟨42, _⟩ => ⟨S1x1x32x1x64, .f32⟩
  | .hbm, ⟨43, _⟩ => ⟨S4x256x32x2x64, .f32⟩
  | .hbm, ⟨44, _⟩ => ⟨S4x256x32x2x64, .f32⟩
  | .hbm, ⟨45, _⟩ => ⟨S4x256x2x32x64, .f32⟩
  | .hbm, ⟨46, _⟩ => ⟨S4x256x2x2048, .f32⟩
  | .hbm, ⟨47, _⟩ => ⟨S4x256x2x256, .f32⟩
  | .hbm, ⟨48, _⟩ => ⟨S4x256x2x256, .f32⟩
  | .hbm, ⟨49, _⟩ => ⟨S4x256x2x256, .f32⟩
  | .hbm, ⟨50, _⟩ => ⟨S_, .f32⟩
  | .hbm, ⟨51, _⟩ => ⟨S4x256x2x256, .f32⟩
  | .hbm, ⟨52, _⟩ => ⟨S4x256x2x256, .f32⟩
  | .hbm, ⟨53, _⟩ => ⟨S4x256x2x256, .f32⟩
  | .hbm, ⟨54, _⟩ => ⟨S_, .f32⟩
  | .hbm, ⟨55, _⟩ => ⟨S4x256x2x256, .f32⟩
  | .hbm, ⟨56, _⟩ => ⟨S4x256x2x256, .f32⟩
  | .hbm, ⟨57, _⟩ => ⟨S4x256x2x256, .f32⟩
  | .hbm, ⟨58, _⟩ => ⟨S_, .f32⟩
  | .hbm, ⟨59, _⟩ => ⟨S4x256x2x256, .f32⟩
  | .hbm, ⟨60, _⟩ => ⟨S4x256x2x256, .f32⟩
  | .hbm, ⟨61, _⟩ => ⟨S_, .f32⟩
  | .hbm, ⟨62, _⟩ => ⟨S4x256x2x256, .f32⟩
  | .hbm, ⟨63, _⟩ => ⟨S4x256x2x256, .f32⟩
  | .hbm, ⟨64, _⟩ => ⟨S4x256x2x256, .f32⟩
  | .hbm, ⟨65, _⟩ => ⟨S4x256x2x64, .f32⟩
  | .hbm, ⟨66, _⟩ => ⟨S_, .f32⟩
  | .hbm, ⟨67, _⟩ => ⟨S4x256x2x64, .f32⟩
  | .hbm, ⟨68, _⟩ => ⟨S4x256x2x128, .f32⟩
  | .hbm, ⟨69, _⟩ => ⟨S4x2x256x128, .f32⟩
  | .hbm, ⟨70, _⟩ => ⟨S4x2x256x128, .bf16⟩
  | .hbm, ⟨71, _⟩ => ⟨S4x2x64x256, .f32⟩
  | .hbm, ⟨72, _⟩ => ⟨S4x2x64x256, .bf16⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_5 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_7 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩

abbrev nD : Nat := 1
abbrev τ : Topo := Topo.v7x

variable {F : FTy → Type} [FloatOps F]
-- ==== Kernel5.lean ====
abbrev S32x64 : Shape := ⟨2, ![32, 64]⟩
abbrev S32x64x16 : Shape := ⟨3, ![32, 64, 16]⟩
abbrev S32x16x64 : Shape := ⟨3, ![32, 16, 64]⟩
abbrev S512x64 : Shape := ⟨2, ![512, 64]⟩
abbrev S16x256x256 : Shape := ⟨3, ![16, 256, 256]⟩
abbrev S16x1x128 : Shape := ⟨3, ![16, 1, 128]⟩
abbrev S128x64 : Shape := ⟨2, ![128, 64]⟩
abbrev S4x256x256 : Shape := ⟨3, ![4, 256, 256]⟩
abbrev S4x1x128 : Shape := ⟨3, ![4, 1, 128]⟩
abbrev S4x32x128 : Shape := ⟨3, ![4, 32, 128]⟩
abbrev S2x1x128 : Shape := ⟨3, ![2, 1, 128]⟩
abbrev S256x256 : Shape := ⟨2, ![256, 256]⟩
abbrev S16x64 : Shape := ⟨2, ![16, 64]⟩
abbrev S1x16x64 : Shape := ⟨3, ![1, 16, 64]⟩
abbrev S1x64 : Shape := ⟨2, ![1, 64]⟩
abbrev S1x1x64 : Shape := ⟨3, ![1, 1, 64]⟩
abbrev S1x32x128 : Shape := ⟨3, ![1, 32, 128]⟩
abbrev S32x128 : Shape := ⟨2, ![32, 128]⟩
abbrev S1x1x128 : Shape := ⟨3, ![1, 1, 128]⟩
abbrev S1x128 : Shape := ⟨2, ![1, 128]⟩
abbrev S32x256 : Shape := ⟨2, ![32, 256]⟩
abbrev S1x32x256 : Shape := ⟨3, ![1, 32, 256]⟩
abbrev S32x32 : Shape := ⟨2, ![32, 32]⟩
abbrev S1x256x256 : Shape := ⟨3, ![1, 256, 256]⟩

abbrev nBuf : Space → Nat
  | .hbm => 21
  | .vmem => 25
  | .smem => 0
  | _ => 0

abbrev bufTy : (tb : Table) → Fin (tcTables nBuf tb) → BufTy
  | .hbm, ⟨0, _⟩ => ⟨S32x64, .f32⟩
  | .hbm, ⟨1, _⟩ => ⟨S32x64, .f32⟩
  | .hbm, ⟨2, _⟩ => ⟨S32x64x16, .f32⟩
  | .hbm, ⟨3, _⟩ => ⟨S32x64x16, .f32⟩
  | .hbm, ⟨4, _⟩ => ⟨S32x16x64, .f32⟩
  | .hbm, ⟨5, _⟩ => ⟨S32x16x64, .f32⟩
  | .hbm, ⟨6, _⟩ => ⟨S32x16x64, .f32⟩
  | .hbm, ⟨7, _⟩ => ⟨S512x64, .f32⟩
  | .hbm, ⟨8, _⟩ => ⟨S32x16x64, .f32⟩
  | .hbm, ⟨9, _⟩ => ⟨S512x64, .f32⟩
  | .hbm, ⟨10, _⟩ => ⟨S32x16x64, .f32⟩
  | .hbm, ⟨11, _⟩ => ⟨S512x64, .f32⟩
  | .hbm, ⟨12, _⟩ => ⟨S32x16x64, .f32⟩
  | .hbm, ⟨13, _⟩ => ⟨S512x64, .f32⟩
  | .hbm, ⟨14, _⟩ => ⟨S512x64, .f32⟩
  | .hbm, ⟨15, _⟩ => ⟨S512x64, .f32⟩
  | .hbm, ⟨16, _⟩ => ⟨S16x256x256, .bf16⟩
  | .hbm, ⟨17, _⟩ => ⟨S16x256x256, .bf16⟩
  | .hbm, ⟨18, _⟩ => ⟨S16x256x256, .bf16⟩
  | .hbm, ⟨19, _⟩ => ⟨S16x1x128, .f32⟩
  | .hbm, ⟨20, _⟩ => ⟨S16x1x128, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | .local _ .vmem, ⟨7, _⟩ => ⟨S128x64, .f32⟩
  | .local _ .vmem, ⟨8, _⟩ => ⟨S128x64, .f32⟩
  | .local _ .vmem, ⟨9, _⟩ => ⟨S128x64, .f32⟩
  | .local _ .vmem, ⟨10, _⟩ => ⟨S128x64, .f32⟩
  | .local _ .vmem, ⟨11, _⟩ => ⟨S128x64, .f32⟩
  | .local _ .vmem, ⟨12, _⟩ => ⟨S4x256x256, .bf16⟩
  | .local _ .vmem, ⟨13, _⟩ => ⟨S4x256x256, .bf16⟩
  | .local _ .vmem, ⟨14, _⟩ => ⟨S4x256x256, .bf16⟩
  | .local _ .vmem, ⟨15, _⟩ => ⟨S4x256x256, .bf16⟩
  | .local _ .vmem, ⟨16, _⟩ => ⟨S4x256x256, .bf16⟩
  | .local _ .vmem, ⟨17, _⟩ => ⟨S4x256x256, .bf16⟩
  | .local _ .vmem, ⟨18, _⟩ => ⟨S4x1x128, .f32⟩
  | .local _ .vmem, ⟨19, _⟩ => ⟨S4x1x128, .f32⟩
  | .local _ .vmem, ⟨20, _⟩ => ⟨S4x1x128, .f32⟩
  | .local _ .vmem, ⟨21, _⟩ => ⟨S4x1x128, .f32⟩
  | .local _ .vmem, ⟨22, _⟩ => ⟨S4x32x128, .f32⟩
  | .local _ .vmem, ⟨23, _⟩ => ⟨S2x1x128, .f32⟩
  | .local _ .vmem, ⟨24, _⟩ => ⟨S256x256, .f32⟩
  | _, _ => ⟨S32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev main_v10_3 : Ref sig .tc := ⟨.hbm, 19, rfl⟩
abbrev main_v10_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference5Ideal.lean ====
abbrev S32x64 : Shape := ⟨2, ![32, 64]⟩
abbrev S32x64x16 : Shape := ⟨3, ![32, 64, 16]⟩
abbrev S32x16x64 : Shape := ⟨3, ![32, 16, 64]⟩
abbrev S_ : Shape := ⟨0, ![]⟩
abbrev S1x32x64 : Shape := ⟨3, ![1, 32, 64]⟩
abbrev S9x32x64 : Shape := ⟨3, ![9, 32, 64]⟩
abbrev S8x32x64 : Shape := ⟨3, ![8, 32, 64]⟩
abbrev S8x32x1x64 : Shape := ⟨4, ![8, 32, 1, 64]⟩
abbrev S1x32x16x64 : Shape := ⟨4, ![1, 32, 16, 64]⟩
abbrev S8x32x16x64 : Shape := ⟨4, ![8, 32, 16, 64]⟩
abbrev S32x16x8x16 : Shape := ⟨4, ![32, 16, 8, 16]⟩
abbrev S8x32x16x16 : Shape := ⟨4, ![8, 32, 16, 16]⟩
abbrev S8x16x32x32 : Shape := ⟨4, ![8, 16, 32, 32]⟩
abbrev S8x16x2x16x16 : Shape := ⟨5, ![8, 16, 2, 16, 16]⟩
abbrev S8x16x1x16x16 : Shape := ⟨5, ![8, 16, 1, 16, 16]⟩
abbrev S8x16x16x16 : Shape := ⟨4, ![8, 16, 16, 16]⟩
abbrev S8x16x16x32 : Shape := ⟨4, ![8, 16, 16, 32]⟩
abbrev S16x16x32x32 : Shape := ⟨4, ![16, 16, 32, 32]⟩
abbrev S1x8x16x32x32 : Shape := ⟨5, ![1, 8, 16, 32, 32]⟩
abbrev S8x8x16x32x32 : Shape := ⟨5, ![8, 8, 16, 32, 32]⟩
abbrev S16x8x32x8x32 : Shape := ⟨5, ![16, 8, 32, 8, 32]⟩
abbrev S16x256x256 : Shape := ⟨3, ![16, 256, 256]⟩
abbrev S8x16x2x16x64 : Shape := ⟨5, ![8, 16, 2, 16, 64]⟩
abbrev S8x16x1x16x64 : Shape := ⟨5, ![8, 16, 1, 16, 64]⟩
abbrev S8x16x16x64 : Shape := ⟨4, ![8, 16, 16, 64]⟩
abbrev S8x16x16x256 : Shape := ⟨4, ![8, 16, 16, 256]⟩
abbrev S8x16x32x256 : Shape := ⟨4, ![8, 16, 32, 256]⟩
abbrev S16x8x32x256 : Shape := ⟨4, ![16, 8, 32, 256]⟩
abbrev S16x1x128 : Shape := ⟨3, ![16, 1, 128]⟩

abbrev nBuf : Space → Nat
  | .hbm => 221
  | .vmem => 0
  | .smem => 0
  | _ => 0

abbrev hbmTy0_0 (i : Nat) : BufTy := match i % 128 with
  | 0 => ⟨S32x64, .f32⟩
  | 1 => ⟨S32x64, .f32⟩
  | 2 => ⟨S32x64x16, .f32⟩
  | 3 => ⟨S32x64x16, .f32⟩
  | 4 => ⟨S32x16x64, .f32⟩
  | 5 => ⟨S32x16x64, .f32⟩
  | 6 => ⟨S_, .f32⟩
  | 7 => ⟨S32x64, .f32⟩
  | 8 => ⟨S_, .f32⟩
  | 9 => ⟨S32x64, .f32⟩
  | 10 => ⟨S32x64, .f32⟩
  | 11 => ⟨S32x64, .f32⟩
  | 12 => ⟨S32x64, .f32⟩
  | 13 => ⟨S32x64, .f32⟩
  | 14 => ⟨S32x64, .f32⟩
  | 15 => ⟨S32x64, .f32⟩
  | 16 => ⟨S32x64, .f32⟩
  | 17 => ⟨S32x64, .f32⟩
  | 18 => ⟨S32x64, .f32⟩
  | 19 => ⟨S32x64, .f32⟩
  | 20 => ⟨S32x64, .f32⟩
  | 21 => ⟨S32x64, .f32⟩
  | 22 => ⟨S32x64, .f32⟩
  | 23 => ⟨S32x64, .f32⟩
  | 24 => ⟨S32x64, .f32⟩
  | 25 => ⟨S32x64, .f32⟩
  | 26 => ⟨S32x64, .f32⟩
  | 27 => ⟨S32x64, .f32⟩
  | 28 => ⟨S32x64, .f32⟩
  | 29 => ⟨S32x64, .f32⟩
  | 30 => ⟨S32x64, .f32⟩
  | 31 => ⟨S32x64, .f32⟩
  | 32 => ⟨S32x64, .f32⟩
  | 33 => ⟨S32x64, .f32⟩
  | 34 => ⟨S32x64, .f32⟩
  | 35 => ⟨S32x64, .f32⟩
  | 36 => ⟨S32x64, .f32⟩
  | 37 => ⟨S32x64, .f32⟩
  | 38 => ⟨S32x64, .f32⟩
  | 39 => ⟨S32x64, .f32⟩
  | 40 => ⟨S32x64, .f32⟩
  | 41 => ⟨S32x64, .f32⟩
  | 42 => ⟨S32x64, .f32⟩
  | 43 => ⟨S32x64, .f32⟩
  | 44 => ⟨S32x64, .f32⟩
  | 45 => ⟨S32x64, .f32⟩
  | 46 => ⟨S32x64, .f32⟩
  | 47 => ⟨S32x64, .f32⟩
  | 48 => ⟨S32x64, .f32⟩
  | 49 => ⟨S32x64, .f32⟩
  | 50 => ⟨S32x64, .f32⟩
  | 51 => ⟨S32x64, .f32⟩
  | 52 => ⟨S32x64, .f32⟩
  | 53 => ⟨S32x64, .f32⟩
  | 54 => ⟨S32x64, .f32⟩
  | 55 => ⟨S32x64, .f32⟩
  | 56 => ⟨S32x64, .f32⟩
  | 57 => ⟨S32x64, .f32⟩
  | 58 => ⟨S1x32x64, .f32⟩
  | 59 => ⟨S1x32x64, .f32⟩
  | 60 => ⟨S1x32x64, .f32⟩
  | 61 => ⟨S1x32x64, .f32⟩
  | 62 => ⟨S1x32x64, .f32⟩
  | 63 => ⟨S1x32x64, .f32⟩
  | 64 => ⟨S1x32x64, .f32⟩
  | 65 => ⟨S1x32x64, .f32⟩
  | 66 => ⟨S1x32x64, .f32⟩
  | 67 => ⟨S9x32x64, .f32⟩
  | 68 => ⟨S1x32x64, .f32⟩
  | 69 => ⟨S1x32x64, .f32⟩
  | 70 => ⟨S1x32x64, .f32⟩
  | 71 => ⟨S1x32x64, .f32⟩
  | 72 => ⟨S1x32x64, .f32⟩
  | 73 => ⟨S1x32x64, .f32⟩
  | 74 => ⟨S1x32x64, .f32⟩
  | 75 => ⟨S1x32x64, .f32⟩
  | 76 => ⟨S1x32x64, .f32⟩
  | 77 => ⟨S9x32x64, .f32⟩
  | 78 => ⟨S32x16x64, .f32⟩
  | 79 => ⟨S32x16x64, .f32⟩
  | 80 => ⟨S8x32x64, .f32⟩
  | 81 => ⟨S8x32x1x64, .f32⟩
  | 82 => ⟨S1x32x16x64, .f32⟩
  | 83 => ⟨S8x32x16x64, .f32⟩
  | 84 => ⟨S8x32x16x64, .f32⟩
  | 85 => ⟨S8x32x16x64, .f32⟩
  | 86 => ⟨S8x32x64, .f32⟩
  | 87 => ⟨S8x32x1x64, .f32⟩
  | 88 => ⟨S1x32x16x64, .f32⟩
  | 89 => ⟨S8x32x16x64, .f32⟩
  | 90 => ⟨S8x32x16x64, .f32⟩
  | 91 => ⟨S8x32x16x64, .f32⟩
  | 92 => ⟨S8x32x16x64, .f32⟩
  | 93 => ⟨S8x32x64, .f32⟩
  | 94 => ⟨S8x32x1x64, .f32⟩
  | 95 => ⟨S1x32x16x64, .f32⟩
  | 96 => ⟨S8x32x16x64, .f32⟩
  | 97 => ⟨S8x32x16x64, .f32⟩
  | 98 => ⟨S8x32x16x64, .f32⟩
  | 99 => ⟨S8x32x64, .f32⟩
  | 100 => ⟨S8x32x1x64, .f32⟩
  | 101 => ⟨S1x32x16x64, .f32⟩
  | 102 => ⟨S8x32x16x64, .f32⟩
  | 103 => ⟨S8x32x16x64, .f32⟩
  | 104 => ⟨S8x32x16x64, .f32⟩
  | 105 => ⟨S8x32x16x64, .f32⟩
  | 106 => ⟨S8x32x64, .f32⟩
  | 107 => ⟨S8x32x1x64, .f32⟩
  | 108 => ⟨S1x32x16x64, .f32⟩
  | 109 => ⟨S8x32x16x64, .f32⟩
  | 110 => ⟨S8x32x16x64, .f32⟩
  | 111 => ⟨S8x32x16x64, .f32⟩
  | 112 => ⟨S8x32x64, .f32⟩
  | 113 => ⟨S8x32x1x64, .f32⟩
  | 114 => ⟨S1x32x16x64, .f32⟩
  | 115 => ⟨S8x32x16x64, .f32⟩
  | 116 => ⟨S8x32x16x64, .f32⟩
  | 117 => ⟨S8x32x16x64, .f32⟩
  | 118 => ⟨S8x32x16x64, .f32⟩
  | 119 => ⟨S8x32x64, .f32⟩
  | 120 => ⟨S8x32x1x64, .f32⟩
  | 121 => ⟨S1x32x16x64, .f32⟩
  | 122 => ⟨S8x32x16x64, .f32⟩
  | 123 => ⟨S8x32x16x64, .f32⟩
  | 124 => ⟨S8x32x16x64, .f32⟩
  | 125 => ⟨S8x32x64, .f32⟩
  | 126 => ⟨S8x32x1x64, .f32⟩
  | 127 => ⟨S1x32x16x64, .f32⟩
  | _ => ⟨S32x64, .f32⟩

abbrev hbmTy0_1 (i : Nat) : BufTy := match i % 128 with
  | 0 => ⟨S8x32x16x64, .f32⟩
  | 1 => ⟨S8x32x16x64, .f32⟩
  | 2 => ⟨S8x32x16x64, .f32⟩
  | 3 => ⟨S8x32x16x64, .f32⟩
  | 4 => ⟨S32x16x8x16, .f32⟩
  | 5 => ⟨S8x32x16x16, .f32⟩
  | 6 => ⟨S32x16x8x16, .f32⟩
  | 7 => ⟨S8x32x16x16, .f32⟩
  | 8 => ⟨S8x32x16x16, .f32⟩
  | 9 => ⟨S_, .f32⟩
  | 10 => ⟨S8x16x32x32, .f32⟩
  | 11 => ⟨S8x16x2x16x16, .f32⟩
  | 12 => ⟨S8x16x1x16x16, .f32⟩
  | 13 => ⟨S8x16x16x16, .f32⟩
  | 14 => ⟨S_, .f32⟩
  | 15 => ⟨S8x16x16x16, .f32⟩
  | 16 => ⟨S8x16x1x16x16, .f32⟩
  | 17 => ⟨S8x16x16x16, .f32⟩
  | 18 => ⟨S8x16x16x32, .f32⟩
  | 19 => ⟨S8x16x1x16x16, .f32⟩
  | 20 => ⟨S8x16x16x16, .f32⟩
  | 21 => ⟨S8x16x16x32, .f32⟩
  | 22 => ⟨S8x16x32x32, .f32⟩
  | 23 => ⟨S16x16x32x32, .f32⟩
  | 24 => ⟨S8x16x32x32, .f32⟩
  | 25 => ⟨S8x16x32x32, .f32⟩
  | 26 => ⟨S8x16x32x32, .f32⟩
  | 27 => ⟨S8x16x32x32, .f32⟩
  | 28 => ⟨S8x16x32x32, .f32⟩
  | 29 => ⟨S8x16x32x32, .f32⟩
  | 30 => ⟨S8x16x32x32, .f32⟩
  | 31 => ⟨S8x16x32x32, .f32⟩
  | 32 => ⟨S1x8x16x32x32, .f32⟩
  | 33 => ⟨S1x8x16x32x32, .f32⟩
  | 34 => ⟨S1x8x16x32x32, .f32⟩
  | 35 => ⟨S1x8x16x32x32, .f32⟩
  | 36 => ⟨S1x8x16x32x32, .f32⟩
  | 37 => ⟨S1x8x16x32x32, .f32⟩
  | 38 => ⟨S1x8x16x32x32, .f32⟩
  | 39 => ⟨S1x8x16x32x32, .f32⟩
  | 40 => ⟨S8x8x16x32x32, .f32⟩
  | 41 => ⟨S16x8x32x8x32, .f32⟩
  | 42 => ⟨S16x256x256, .f32⟩
  | 43 => ⟨S16x256x256, .bf16⟩
  | 44 => ⟨S8x32x16x64, .f32⟩
  | 45 => ⟨S8x32x16x64, .f32⟩
  | 46 => ⟨S8x16x2x16x64, .f32⟩
  | 47 => ⟨S8x16x2x16x64, .f32⟩
  | 48 => ⟨S8x16x1x16x64, .f32⟩
  | 49 => ⟨S8x16x16x64, .f32⟩
  | 50 => ⟨S_, .f32⟩
  | 51 => ⟨S8x16x16x64, .f32⟩
  | 52 => ⟨S8x16x1x16x64, .f32⟩
  | 53 => ⟨S8x16x16x64, .f32⟩
  | 54 => ⟨S8x16x1x16x64, .f32⟩
  | 55 => ⟨S8x16x16x64, .f32⟩
  | 56 => ⟨S8x16x16x256, .f32⟩
  | 57 => ⟨S8x16x1x16x64, .f32⟩
  | 58 => ⟨S8x16x16x64, .f32⟩
  | 59 => ⟨S8x16x1x16x64, .f32⟩
  | 60 => ⟨S8x16x16x64, .f32⟩
  | 61 => ⟨S8x16x16x256, .f32⟩
  | 62 => ⟨S8x16x32x256, .f32⟩
  | 63 => ⟨S16x8x32x256, .f32⟩
  | 64 => ⟨S16x256x256, .f32⟩
  | 65 => ⟨S16x256x256, .bf16⟩
  | 66 => ⟨S8x32x16x64, .f32⟩
  | 67 => ⟨S8x16x2x16x64, .f32⟩
  | 68 => ⟨S8x16x2x16x64, .f32⟩
  | 69 => ⟨S8x16x1x16x64, .f32⟩
  | 70 => ⟨S8x16x16x64, .f32⟩
  | 71 => ⟨S_, .f32⟩
  | 72 => ⟨S8x16x16x64, .f32⟩
  | 73 => ⟨S8x16x1x16x64, .f32⟩
  | 74 => ⟨S8x16x16x64, .f32⟩
  | 75 => ⟨S8x16x1x16x64, .f32⟩
  | 76 => ⟨S8x16x16x64, .f32⟩
  | 77 => ⟨S8x16x16x256, .f32⟩
  | 78 => ⟨S8x16x1x16x64, .f32⟩
  | 79 => ⟨S8x16x16x64, .f32⟩
  | 80 => ⟨S8x16x1x16x64, .f32⟩
  | 81 => ⟨S8x16x16x64, .f32⟩
  | 82 => ⟨S8x16x16x256, .f32⟩
  | 83 => ⟨S8x16x32x256, .f32⟩
  | 84 => ⟨S16x8x32x256, .f32⟩
  | 85 => ⟨S16x256x256, .f32⟩
  | 86 => ⟨S16x256x256, .bf16⟩
  | 87 => ⟨S1x32x64, .f32⟩
  | 88 => ⟨S32x64, .f32⟩
  | 89 => ⟨S16x1x128, .f32⟩
  | 90 => ⟨S1x32x64, .f32⟩
  | 91 => ⟨S32x64, .f32⟩
  | 92 => ⟨S16x1x128, .f32⟩
  | _ => ⟨S32x64, .f32⟩

abbrev hbmTy (i : Nat) : BufTy := match i / 128 with
  | 0 => hbmTy0_0 i
  | 1 => hbmTy0_1 i
  | _ => ⟨S32x64, .f32⟩

abbrev bufTy : (tb : Table) → Fin (tcTables nBuf tb) → BufTy
  | .hbm, ⟨i, _⟩ => hbmTy i
  | _, _ => ⟨S32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_cst_1 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_cst_2 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_cst_3 : Ref sig .tc := ⟨.hbm, 178, rfl⟩
abbrev main_v168 : Ref sig .tc := ⟨.hbm, 179, rfl⟩
abbrev main_v169 : Ref sig .tc := ⟨.hbm, 180, rfl⟩
abbrev main_v170 : Ref sig .tc := ⟨.hbm, 181, rfl⟩
abbrev main_v171 : Ref sig .tc := ⟨.hbm, 182, rfl⟩
abbrev main_v172 : Ref sig .tc := ⟨.hbm, 183, rfl⟩
abbrev main_v173 : Ref sig .tc := ⟨.hbm, 184, rfl⟩
abbrev main_v174 : Ref sig .tc := ⟨.hbm, 185, rfl⟩
abbrev main_v175 : Ref sig .tc := ⟨.hbm, 186, rfl⟩
abbrev main_v176 : Ref sig .tc := ⟨.hbm, 187, rfl⟩
abbrev main_v177 : Ref sig .tc := ⟨.hbm, 188, rfl⟩
abbrev main_v178 : Ref sig .tc := ⟨.hbm, 189, rfl⟩
abbrev main_v179 : Ref sig .tc := ⟨.hbm, 190, rfl⟩
abbrev main_v180 : Ref sig .tc := ⟨.hbm, 191, rfl⟩
abbrev main_v181 : Ref sig .tc := ⟨.hbm, 192, rfl⟩
abbrev main_v182 : Ref sig .tc := ⟨.hbm, 193, rfl⟩
abbrev main_v183 : Ref sig .tc := ⟨.hbm, 194, rfl⟩
abbrev main_v184 : Ref sig .tc := ⟨.hbm, 195, rfl⟩
abbrev main_v185 : Ref sig .tc := ⟨.hbm, 196, rfl⟩
abbrev main_v186 : Ref sig .tc := ⟨.hbm, 197, rfl⟩
abbrev main_v187 : Ref sig .tc := ⟨.hbm, 198, rfl⟩
abbrev main_cst_4 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩

abbrev nD : Nat := 1
abbrev τ : Topo := Topo.v7x

variable {F : FTy → Type} [FloatOps F]
-- ==== Proof.FinalRow.lean ====
/- One row of the final block of the layer, as a function on the extended reals. The kernel's tile and the reference's array are
   both read against `outRow`: a row of the input is normalised, its gate columns are projected, the two branches are gated,
   projected and merged, and the row with its residual is normalised again. -/
module

public import Idealize.ShloMosaic.PureOps.Ideal.Laws
public import Idealize.ShloMosaic.Lib.Pointwise

@[expose] public section

noncomputable section

namespace Cert.FinalRow

open Idealize.ShloMosaic

/-- A row divided by its root mean square (the literals are 1024 and 1e-6 as the programs print them), times a gain. -/
def rmsRow (v g : Fin 1024 → EReal) (k : Fin 1024) : EReal :=
  v k * Ideal.rsqrt (Ideal.div (∑ l, v l * v l) (Ideal.ofBits FTy.f32 1149239296#32) + Ideal.ofBits FTy.f32 897988541#32) * g k

/-- The logistic function. -/
def sgm (v : EReal) : EReal := Ideal.div 1 (1 + Ideal.exp (-v))

/-- A row times a matrix. -/
def dotRow {n p : ℕ} (h : Fin n → EReal) (w : Fin n → Fin p → EReal) (j : Fin p) : EReal := ∑ l, h l * w l j

/-- One branch: the row `o` times the SiLU of the gate `h · wg`, projected by `wp`. -/
def branchRow (h : Fin 1024 → EReal) (wg : Fin 1024 → Fin 512 → EReal) (o : Fin 512 → EReal) (wp : Fin 512 → Fin 1024 → EReal)
    (c : Fin 1024) : EReal := ∑ j, o j * (dotRow h wg j * sgm (dotRow h wg j)) * wp j c

/-- The two branches weighted by the logistic of their merge gates. -/
def mergeRow (h : Fin 1024 → EReal) (wma wmb : Fin 1024 → Fin 1024 → EReal) (a b : Fin 1024 → EReal) (c : Fin 1024) : EReal :=
  sgm (dotRow h wma c) * a c + sgm (dotRow h wmb c) * b c

/-- The whole row. -/
def outRow (x g : Fin 1024 → EReal) (wgn wgs : Fin 1024 → Fin 512 → EReal) (wma wmb : Fin 1024 → Fin 1024 → EReal)
    (on os : Fin 512 → EReal) (wpn wps : Fin 512 → Fin 1024 → EReal) (wo : Fin 1024 → Fin 1024 → EReal) (fg : Fin 1024 → EReal)
    (c : Fin 1024) : EReal :=
  rmsRow (fun k => x k + dotRow (mergeRow (rmsRow x g) wma wmb (branchRow (rmsRow x g) wgn on wpn) (branchRow (rmsRow x g) wgs os wps)) wo k) fg c

/-- Rows agree where all their operands agree. -/
theorem outRow_congr {x x' g g' : Fin 1024 → EReal} {wgn wgn' wgs wgs' : Fin 1024 → Fin 512 → EReal}
    {wma wma' wmb wmb' : Fin 1024 → Fin 1024 → EReal} {on on' os os' : Fin 512 → EReal} {wpn wpn' wps wps' : Fin 512 → Fin 1024 → EReal}
    {wo wo' : Fin 1024 → Fin 1024 → EReal} {fg fg' : Fin 1024 → EReal} {c c' : Fin 1024}
    (h0 : ∀ k, x k = x' k) (h1 : ∀ k, g k = g' k) (h2 : ∀ k j, wgn k j = wgn' k j) (h3 : ∀ k j, wgs k j = wgs' k j)
    (h4 : ∀ k j, wma k j = wma' k j) (h5 : ∀ k j, wmb k j = wmb' k j) (h6 : ∀ j, on j = on' j) (h7 : ∀ j, os j = os' j)
    (h8 : ∀ k j, wpn k j = wpn' k j) (h9 : ∀ k j, wps k j = wps' k j) (h10 : ∀ k j, wo k j = wo' k j) (h11 : ∀ k, fg k = fg' k)
    (hc : c = c') :
    outRow x g wgn wgs wma wmb on os wpn wps wo fg c = outRow x' g' wgn' wgs' wma' wmb' on' os' wpn' wps' wo' fg' c' := by
  obtain rfl := funext h0; obtain rfl := funext h1
  obtain rfl := funext fun k => funext (h2 k); obtain rfl := funext fun k => funext (h3 k)
  obtain rfl := funext fun k => funext (h4 k); obtain rfl := funext fun k => funext (h5 k)
  obtain rfl := funext h6; obtain rfl := funext h7
  obtain rfl := funext fun k => funext (h8 k); obtain rfl := funext fun k => funext (h9 k)
  obtain rfl := funext fun k => funext (h10 k); obtain rfl := funext h11
  subst hc; rfl

end Cert.FinalRow

end
-- ==== Proof.FinalRef.lean ====
/- The reference of the final block, read at one index: row `t` of batch entry `b` is `FinalRow.outRow` of the reference's arrays. -/
module

public import proofs.«01_k».proof.Proof.Gen.ReferenceIdeal.Read
public import proofs.«01_k».proof.Proof.FinalRow

@[expose] public section

set_option maxRecDepth 16384

noncomputable section

namespace Cert.FinalRef

open Idealize.ShloMosaic Idealize.ShloMosaic.TcCoe
open Cert.ReferenceIdeal Cert.ReferenceIdeal.Gen Cert.ReferenceIdeal.Read Cert.FinalRow

variable (x0 : FVec Ideal S4x4096x1024 .f32) (x1 : FVec Ideal S1024 .f32) (x2 : FVec Ideal S1024x4888 .f32) (x3 x4 : FVec Ideal S4x4096x512 .f32)
  (x5 x6 : FVec Ideal S512x1024 .f32) (x7 : FVec Ideal S1024x1024 .f32) (x8 : FVec Ideal S1024 .f32)

/-- The normalised input row. -/
theorem h_at (b : Fin 4) (t : Fin 4096) (k : Fin 1024) :
    val_main_v12 (F := Ideal) x0 x1 (ix3 b t k) = rmsRow (fun k => x0 (ix3 b t k)) (fun k => x1 (ix1 k)) k := by
  pointwise [val_main_v12, val_main_v9, val_main_v8, val_main_v7, val_main_v6, val_main_v5, val_main_v4, val_main_v3, val_main_v2, val_main_v1,
    val_main_v0, val_main_v11, val_main_v10, val_main_cst, val_main_cst_0, val_main_cst_1, rmsRow]

/-- The projected row. -/
theorem proj_at (b : Fin 4) (t : Fin 4096) (j : Fin 4888) :
    val_main_v13 (F := Ideal) x0 x1 x2 (ix3 b t j)
      = dotRow (rmsRow (fun k => x0 (ix3 b t k)) (fun k => x1 (ix1 k))) (fun k j => x2 (ix2 k j)) j := by
  pointwise [val_main_v13, h_at, dotRow]

/-- The first branch. -/
theorem branchA_at (b : Fin 4) (t : Fin 4096) (c : Fin 1024) :
    val_main_v26 (F := Ideal) x0 x1 x2 x3 x5 (ix3 b t c)
      = branchRow (rmsRow (fun k => x0 (ix3 b t k)) (fun k => x1 (ix1 k))) (fun k j => x2 (ix2 k ⟨1304 + j.val, by omega⟩))
          (fun j => x3 (ix3 b t j)) (fun k j => x5 (ix2 k j)) c := by
  pointwise [val_main_v26, val_main_v25, val_main_v24, val_main_v23, val_main_v22, val_main_v21, val_main_v20, val_main_v19, val_main_v18,
    val_main_v14, val_main_cst_2, val_main_cst_3, proj_at, branchRow, dotRow, sgm]

/-- The second branch. -/
theorem branchB_at (b : Fin 4) (t : Fin 4096) (c : Fin 1024) :
    val_main_v35 (F := Ideal) x0 x1 x2 x4 x6 (ix3 b t c)
      = branchRow (rmsRow (fun k => x0 (ix3 b t k)) (fun k => x1 (ix1 k))) (fun k j => x2 (ix2 k ⟨2328 + j.val, by omega⟩))
          (fun j => x4 (ix3 b t j)) (fun k j => x6 (ix2 k j)) c := by
  pointwise [val_main_v35, val_main_v34, val_main_v33, val_main_v32, val_main_v31, val_main_v30, val_main_v29, val_main_v28, val_main_v27,
    val_main_v15, val_main_cst_4, val_main_cst_5, proj_at, branchRow, dotRow, sgm]

/-- The merged row. -/
theorem merge_at (b : Fin 4) (t : Fin 4096) (c : Fin 1024) :
    val_main_v50 (F := Ideal) x0 x1 x2 x3 x4 x5 x6 (ix3 b t c)
      = mergeRow (rmsRow (fun k => x0 (ix3 b t k)) (fun k => x1 (ix1 k)))
          (fun k j => x2 (ix2 k ⟨2840 + j.val, by omega⟩)) (fun k j => x2 (ix2 k ⟨3864 + j.val, by omega⟩))
          (branchRow (rmsRow (fun k => x0 (ix3 b t k)) (fun k => x1 (ix1 k))) (fun k j => x2 (ix2 k ⟨1304 + j.val, by omega⟩))
            (fun j => x3 (ix3 b t j)) (fun k j => x5 (ix2 k j)))
          (branchRow (rmsRow (fun k => x0 (ix3 b t k)) (fun k => x1 (ix1 k))) (fun k j => x2 (ix2 k ⟨2328 + j.val, by omega⟩))
            (fun j => x4 (ix3 b t j)) (fun k j => x6 (ix2 k j))) c := by
  pointwise [val_main_v50, val_main_v49, val_main_v48, val_main_v47, val_main_v46, val_main_v45, val_main_v44, val_main_v43, val_main_v42,
    val_main_v41, val_main_v40, val_main_v39, val_main_v38, val_main_v37, val_main_v36, val_main_v17, val_main_v16,
    val_main_cst_6, val_main_cst_7, val_main_cst_8, val_main_cst_9, proj_at, branchA_at, branchB_at, mergeRow, dotRow, sgm]

/-- The result row. -/
theorem out_at (b : Fin 4) (t : Fin 4096) (c : Fin 1024) :
    val_main_v65 (F := Ideal) x0 x1 x2 x3 x4 x5 x6 x7 x8 (ix3 b t c)
      = outRow (fun k => x0 (ix3 b t k)) (fun k => x1 (ix1 k))
          (fun k j => x2 (ix2 k ⟨1304 + j.val, by omega⟩)) (fun k j => x2 (ix2 k ⟨2328 + j.val, by omega⟩))
          (fun k j => x2 (ix2 k ⟨2840 + j.val, by omega⟩)) (fun k j => x2 (ix2 k ⟨3864 + j.val, by omega⟩))
          (fun j => x3 (ix3 b t j)) (fun j => x4 (ix3 b t j)) (fun k j => x5 (ix2 k j)) (fun k j => x6 (ix2 k j))
          (fun k j => x7 (ix2 k j)) (fun k => x8 (ix1 k)) c := by
  pointwise [val_main_v65, val_main_v64, val_main_v63, val_main_v62, val_main_v61, val_main_v60, val_main_v59, val_main_v58, val_main_v57,
    val_main_v56, val_main_v55, val_main_v54, val_main_v53, val_main_v52, val_main_v51, val_main_cst_10, val_main_cst_11, val_main_cst_12,
    merge_at, outRow, dotRow, rmsRow]

end Cert.FinalRef

end
-- ==== Proof.FinalKernel.lean ====
/- The kernel of the final block. At a grid point the body re-lays the packed recurrence output in a scratch buffer and then computes
   two halves of 256 rows. Each half, read at one index, is `FinalRow.outRow` of the staged blocks. -/
module

public import proofs.«01_k».proof.Proof.Gen.KernelIdeal.Value
public import Idealize.ShloMosaic.Lib.Pipeline.ValueKit
public import Idealize.ShloMosaic.Lib.Pipeline.ReadBack
public import proofs.«01_k».proof.Proof.FinalRow
public import proofs.«01_k».proof.Proof.FinalRef
public import proofs.«01_k».proof.Proof.FinalRef

@[expose] public section

set_option maxRecDepth 16384

noncomputable section

namespace Cert.FinalKernel

open Idealize.ShloMosaic Idealize.ShloMosaic.TcCoe Idealize.SL.Sem
open Idealize.ShloMosaic.Pipeline (Dat)
open Cert.KernelIdeal Cert.KernelIdeal.Gen Cert.FinalRow

/-! ## The arithmetic of one half -/

section Half
variable (x : FVec Ideal S1x256x1024 .f32) (g fg : FVec Ideal S1x1024 .f32) (wgn wgs : FVec Ideal S1024x512 .bf16)
  (wma wmb wo : FVec Ideal S1024x1024 .bf16) (on os : FVec Ideal S256x512 .f32) (wpn wps : FVec Ideal S512x1024 .bf16)

/-- The normalised rows of the first half. -/
theorem h1_at (r : Fin 256) (k : Fin 1024) :
    k0_pay39 (F := Ideal) x g (ix2 r k) = rmsRow (fun k => x (ix3 0 r k)) (fun k => g (ix2 0 k)) k := by
  pointwise [k0_pay39, rmsRow]

/-- The normalised rows of the second half. -/
theorem h2_at (r : Fin 256) (k : Fin 1024) :
    k0_pay42 (F := Ideal) (k0_pay40 (F := Ideal) x) (k0_pay41 (F := Ideal) x) (FloatOps.ofBits FTy.f32 1149239296#32) g (ix2 r k)
      = rmsRow (fun k => x (ix3 0 r k)) (fun k => g (ix2 0 k)) k := by
  pointwise [k0_pay42, k0_pay41, k0_pay40, rmsRow]

/-- A gate's SiLU times the branch row, from the projected gate. -/
theorem pay47_at (h : FVec Ideal S256x1024 .bf16) (r : Fin 256) (c : Fin 1024) :
    k0_pay47 (F := Ideal) h os wgs wps (ix2 r c)
      = branchRow (fun k => h (ix2 r k)) (fun k j => wgs (ix2 k j)) (fun j => os (ix2 r j)) (fun k j => wps (ix2 k j)) c := by
  pointwise [k0_pay47, branchRow, dotRow, sgm, zero_sub]

theorem pay48_at (h : FVec Ideal S256x1024 .bf16) (r : Fin 256) (c : Fin 1024) :
    k0_pay48 (F := Ideal) h on (k0_pay45 (F := Ideal) h wgn) (k0_pay46 (F := Ideal) h wgn) wpn wma (ix2 r c)
      = sgm (dotRow (fun k => h (ix2 r k)) (fun k j => wma (ix2 k j)) c)
        * branchRow (fun k => h (ix2 r k)) (fun k j => wgn (ix2 k j)) (fun j => on (ix2 r j)) (fun k j => wpn (ix2 k j)) c := by
  pointwise [k0_pay48, k0_pay45, k0_pay46, branchRow, dotRow, sgm, zero_sub]

theorem pay49_at (h : FVec Ideal S256x1024 .bf16) (r : Fin 256) (c : Fin 1024) :
    k0_pay49 (F := Ideal) h wmb (ix2 r c) = dotRow (fun k => h (ix2 r k)) (fun k j => wmb (ix2 k j)) c := by
  pointwise [k0_pay49, dotRow]

theorem pay50_at (a n l : FVec Ideal S256x1024 .f32) (r : Fin 256) (c : Fin 1024) :
    k0_pay50 (F := Ideal) a n l x wo fg (ix3 0 r c)
      = rmsRow (fun k => x (ix3 0 r k) + dotRow (fun k => n (ix2 r k) + sgm (l (ix2 r k)) * a (ix2 r k)) (fun k j => wo (ix2 k j)) k)
          (fun k => fg (ix2 0 k)) c := by
  pointwise [k0_pay50, rmsRow, dotRow, sgm, zero_sub]

/-- The first half's rows. -/
theorem half1_at (r : Fin 256) (c : Fin 1024) :
    k0_pay50 (F := Ideal) (k0_pay47 (F := Ideal) (k0_pay39 (F := Ideal) x g) os wgs wps)
        (k0_pay48 (F := Ideal) (k0_pay39 (F := Ideal) x g) on (k0_pay45 (F := Ideal) (k0_pay39 (F := Ideal) x g) wgn)
          (k0_pay46 (F := Ideal) (k0_pay39 (F := Ideal) x g) wgn) wpn wma)
        (k0_pay49 (F := Ideal) (k0_pay39 (F := Ideal) x g) wmb) x wo fg (ix3 0 r c)
      = outRow (fun k => x (ix3 0 r k)) (fun k => g (ix2 0 k)) (fun k j => wgn (ix2 k j)) (fun k j => wgs (ix2 k j))
          (fun k j => wma (ix2 k j)) (fun k j => wmb (ix2 k j)) (fun j => on (ix2 r j)) (fun j => os (ix2 r j))
          (fun k j => wpn (ix2 k j)) (fun k j => wps (ix2 k j)) (fun k j => wo (ix2 k j)) (fun k => fg (ix2 0 k)) c := by
  simp only [pay50_at, pay47_at, pay48_at, pay49_at, h1_at, outRow]
  rfl

theorem pay1_at (a b : FVec Ideal S256x1024 .f32) (r : Fin 256) (c : Fin 1024) :
    k0_pay1 (F := Ideal) a b fg (ix3 0 r c)
      = rmsRow (fun k => a (ix2 r k) + b (ix2 r k)) (fun k => fg (ix2 0 k)) c := by
  pointwise [k0_pay1, rmsRow]

theorem pay54_at (r : Fin 256) (c : Fin 1024) : k0_pay54 (F := Ideal) x (ix2 r c) = x (ix3 0 r c) := by
  pointwise [k0_pay54]

theorem pay55_at (h : FVec Ideal S256x1024 .bf16) (n : FVec Ideal S256x512 .bf16) (s : FVec Ideal S256x512 .f32) (r : Fin 256) (c : Fin 1024) :
    k0_pay55 (F := Ideal) h n s wpn wps wma wmb wo (ix2 r c)
      = dotRow (mergeRow (fun k => h (ix2 r k)) (fun k j => wma (ix2 k j)) (fun k j => wmb (ix2 k j))
          (dotRow (fun j => n (ix2 r j)) (fun k j => wpn (ix2 k j))) (dotRow (fun j => s (ix2 r j)) (fun k j => wps (ix2 k j))))
          (fun k j => wo (ix2 k j)) c := by
  pointwise [k0_pay55, mergeRow, dotRow, sgm, zero_sub]

theorem pay53_at (h : FVec Ideal S256x1024 .bf16) (s0 s1 s2 s3 : FVec Ideal S1x256x128 .f32) (r : Fin 256) (j : Fin 512) :
    k0_pay53 (F := Ideal) h s0 s1 s2 s3 wgs (ix2 r j)
      = k0_pay44 (F := Ideal) s0 s1 s2 s3 (ix2 r j) * (dotRow (fun k => h (ix2 r k)) (fun k j => wgs (ix2 k j)) j
          * sgm (dotRow (fun k => h (ix2 r k)) (fun k j => wgs (ix2 k j)) j)) := by
  pointwise [k0_pay53, k0_pay44, dotRow, sgm, zero_sub]

theorem pay52_at (bit : BitVec 1) (h : FVec Ideal S256x1024 .bf16) (ol oh : FVec Ideal S1x256x512 .f32) (r : Fin 256) (j : Fin 512) :
    k0_pay52 (F := Ideal) bit h (k0_pay51 (F := Ideal) ol) oh wgn (ix2 r j)
      = (show EReal from k0_pay43 (F := Ideal) bit ol oh (ix2 r j) * (dotRow (fun k => h (ix2 r k)) (fun k j => wgn (ix2 k j)) j
          * sgm (dotRow (fun k => h (ix2 r k)) (fun k j => wgn (ix2 k j)) j))) := by
  pointwise [k0_pay52, k0_pay51, k0_pay43, dotRow, sgm, zero_sub]

/-- The second half's rows. -/
theorem half2_at (bit : BitVec 1) (ol oh : FVec Ideal S1x256x512 .f32) (s0 s1 s2 s3 : FVec Ideal S1x256x128 .f32) (r : Fin 256) (c : Fin 1024) :
    k0_pay1 (F := Ideal) (k0_pay54 (F := Ideal) x)
      (k0_pay55 (F := Ideal)
        (k0_pay42 (F := Ideal) (k0_pay40 (F := Ideal) x) (k0_pay41 (F := Ideal) x) (FloatOps.ofBits FTy.f32 1149239296#32) g)
        (k0_pay52 (F := Ideal) bit
          (k0_pay42 (F := Ideal) (k0_pay40 (F := Ideal) x) (k0_pay41 (F := Ideal) x) (FloatOps.ofBits FTy.f32 1149239296#32) g)
          (k0_pay51 (F := Ideal) ol) oh wgn)
        (k0_pay53 (F := Ideal)
          (k0_pay42 (F := Ideal) (k0_pay40 (F := Ideal) x) (k0_pay41 (F := Ideal) x) (FloatOps.ofBits FTy.f32 1149239296#32) g)
          s0 s1 s2 s3 wgs) wpn wps wma wmb wo) fg (ix3 0 r c)
      = outRow (fun k => x (ix3 0 r k)) (fun k => g (ix2 0 k)) (fun k j => wgn (ix2 k j)) (fun k j => wgs (ix2 k j))
          (fun k j => wma (ix2 k j)) (fun k j => wmb (ix2 k j)) (fun j => k0_pay43 (F := Ideal) bit ol oh (ix2 r j))
          (fun j => k0_pay44 (F := Ideal) s0 s1 s2 s3 (ix2 r j))
          (fun k j => wpn (ix2 k j)) (fun k j => wps (ix2 k j)) (fun k j => wo (ix2 k j)) (fun k => fg (ix2 0 k)) c := by
  simp only [pay1_at, pay54_at, pay55_at, pay53_at, pay52_at, h2_at, outRow]
  rfl
end Half

/-! ## The scratch buffer -/

/-- What the body leaves in the scratch: entry (s, q, l) is lane `128·s + l` of row `q` of the packed block, which holds eight
    rows in each of its own. -/
def scrG (x5 : FVec Ideal S1x64x4096 .f32) (y : S4x512x128.Idx) : EReal :=
  x5 (ix3 0 ⟨(y 1).val / 8, by have : (y 1).val < 512 := (y 1).isLt; omega⟩ ⟨(y 1).val % 8 * 512 + (y 0).val * 128 + (y 2).val, by
    have : (y 0).val < 4 := (y 0).isLt
    have : (y 2).val < 128 := (y 2).isLt
    omega⟩)

/-- Stores that are all pieces of `scrG` and cover the buffer leave `scrG`. -/
theorem scr_canon (x5 : FVec Ideal S1x64x4096 .f32) (L : List (View.Piece (Elt Ideal) S4x512x128 .f32))
    (hP : View.PiecesOf (scrG x5) L)
    (hc : ∀ (s : Fin 4) (i : Fin 8), ((![s.val, i.val, 0], ![1, 64, 128], ![1, 8, 1]) : (Fin 3 → ℕ) × (Fin 3 → ℕ) × (Fin 3 → ℕ))
      ∈ L.map fun p => (p.1.off, p.1.size, p.1.stride)) :
    View.canon L = scrG x5 :=
  funext fun y => View.canon_apply_of_pieces _ L hP.mem y (by
    have y0 : (y 0).val < 4 := (y 0).isLt
    have y1 : (y 1).val < 512 := (y 1).isLt
    have y2 : (y 2).val < 128 := (y 2).isLt
    obtain ⟨p, hp, he⟩ := List.mem_map.mp (hc ⟨(y 0).val, y0⟩ ⟨(y 1).val % 8, by omega⟩)
    obtain ⟨ho, he⟩ := Prod.mk.inj he
    obtain ⟨hs, hst⟩ := Prod.mk.inj he
    refine ⟨p, hp, ?_⟩
    rw [LoadRect.mem_set]
    intro a
    rw [ho, hs, hst]
    match a with
    | ⟨0, _⟩ => exact ⟨0, Nat.one_pos, show (y 0).val = (y 0).val + 1 * 0 by omega⟩
    | ⟨1, _⟩ => exact ⟨(y 1).val / 8, show (y 1).val / 8 < 64 by omega, show (y 1).val = (y 1).val % 8 + 8 * ((y 1).val / 8) by omega⟩
    | ⟨2, _⟩ => exact ⟨(y 2).val, y2, show (y 2).val = 0 + 1 * (y 2).val by omega⟩)

variable (m : (ℓ : Loc nD τ sig) → Buf (Elt Ideal) ℓ)

theorem scr_piece (x5 : FVec Ideal S1x64x4096 .f32) (s i : ℕ) (hs : s < 4) (hi : i < 8) (inb) (sp) (f : FVec Ideal S1x64x128 .f32)
    (hf : ∀ (q : Fin 64) (l : Fin 128), f (ix3 0 q l) = x5 (ix3 0 q ⟨i * 512 + s * 128 + l.val, by omega⟩))
    (x : ({ off := ![s, i, 0], size := ![1, 64, 128], stride := ![1, 8, 1], inb := inb, stride_pos := sp } : Rect S4x512x128).shape.Idx) :
    f x = scrG x5 (({ off := ![s, i, 0], size := ![1, 64, 128], stride := ![1, 8, 1], inb := inb, stride_pos := sp } : Rect S4x512x128).emb x) := by
  have x0 : (x 0).val < 1 := (x 0).isLt
  have x1 : (x 1).val < 64 := (x 1).isLt
  have x2 : (x 2).val < 128 := (x 2).isLt
  have e : x = ix3 0 ⟨(x 1).val, x1⟩ ⟨(x 2).val, x2⟩ := by
    funext a
    match a with
    | ⟨0, _⟩ => exact Fin.ext (show (x 0).val = 0 by omega)
    | ⟨1, _⟩ => rfl
    | ⟨2, _⟩ => rfl
  refine (congrArg f e).trans ((hf _ _).trans ?_)
  unfold scrG
  refine congrArg x5 (congrArg₂ (ix3 0) (Fin.ext ?_) (Fin.ext ?_))
  · show (x 1).val = (i + 8 * (x 1).val) / 8
    omega
  · show i * 512 + s * 128 + (x 2).val = (i + 8 * (x 1).val) % 8 * 512 + (s + 1 * (x 0).val) * 128 + (0 + 1 * (x 2).val)
    omega

/-- The blocks of a grid point (batch `b = t / 8`, row tile `i = t % 8` of 512 rows). -/
theorem idx : ∀ t : Fin cfg0.N, win0_0.index t = ![t.val / 8, t.val % 8, 0] ∧ win0_1.index t = ![0, 0] ∧ win0_2.index t = ![0, 0]
    ∧ win0_3.index t = ![t.val / 8, min (t.val % 8) 3, 0] ∧ win0_4.index t = ![t.val / 8, t.val % 8 - 4, 0]
    ∧ win0_5.index t = ![t.val / 8, t.val % 8, 0] ∧ win0_6.index t = ![0, 0] ∧ win0_7.index t = ![0, 0] ∧ win0_8.index t = ![0, 0]
    ∧ win0_9.index t = ![0, 0] ∧ win0_10.index t = ![t.val / 8, t.val % 8, 0] :=
  (by decide +kernel : ∀ t : Fin grid0.N, _)

/-- The row-tile coordinate of a grid point. -/
theorem coord1 : ∀ t : Fin cfg0.N, (grid0.coords t 1).val = t.val % 8 := (by decide +kernel : ∀ t : Fin grid0.N, _)

/-- The result array, in the reference's words. -/
abbrev ref (c : Dev nD) : FVec Ideal S4x4096x1024 .f32 :=
  Cert.ReferenceIdeal.Read.val_main_v65 (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-! ## The operands the host prepares -/

section Entry
variable (c : Dev nD)

theorem g_entry (k : Fin 1024) : V m c main_v6 (ix2 0 k) = m ((c : Thread nD τ).loc main_arg1) (ix1 k) := by
  simp only [V, hostOps0, hostOps0_1, hostOps0_2, List.flatten_cons, List.flatten_nil, List.append_nil, List.cons_append, List.nil_append]
  entry_read
  pointwise []

theorem fg_entry (k : Fin 1024) : V m c main_v13 (ix2 0 k) = m ((c : Thread nD τ).loc main_arg8) (ix1 k) := by
  simp only [V, hostOps0, hostOps0_1, hostOps0_2, List.flatten_cons, List.flatten_nil, List.append_nil, List.cons_append, List.nil_append]
  entry_read
  pointwise []

/-- The third part of the packed columns. -/
theorem cat_at (a : FVec Ideal S1024x1280 .f32) (b : FVec Ideal S1024x128 .f32) (d : FVec Ideal S1024x3584 .f32) (h) (k : Fin 1024) (j : Fin 4992)
    (hj : 1408 ≤ j.val) :
    concatenate S1024x4992 1 [⟨S1024x1280, a⟩, ⟨S1024x128, b⟩, ⟨S1024x3584, d⟩] h (ix2 k j) = d (ix2 k ⟨j.val - 1408, by omega⟩) := by
  pointwise []
  rw [dif_neg (by omega), dif_neg (by omega)]
  blk_ext

/-- A conversion between floats is the identity. -/
theorem truncf_at (x : FVec Ideal S1024x4992 .f32) (i) : (show EReal from truncf .bf16 x bitsLt_bf16_f32 i) = x i := by
  pointwise []

/-- The packed projection read past its padding, from the contents before the packing. -/
theorem w_after (σ : Valuation τ sig (Elt Ideal)) (k : Fin 1024) (j : Fin 4992) (hj : 1408 ≤ j.val) :
    (StableHlo.after hostOps0_2 σ main_v5 : FVec Ideal S1024x4992 .bf16) (ix2 k j) = (σ main_arg2 : FVec Ideal S1024x4888 .f32) (ix2 k ⟨j.val - 104, by omega⟩) := by
  simp only [hostOps0_2, StableHlo.after_cons, StableHlo.after_nil]
  rw [StableHlo.unary_result_ne, StableHlo.unary_result_ne, StableHlo.unary_result_ne, StableHlo.unary_result_ne, StableHlo.reshape_result_ne,
    StableHlo.unary_result_ne, StableHlo.unary_result_ne, StableHlo.unary_result_ne, StableHlo.unary_result]
  any_goals decide
  refine Eq.trans (truncf_at ..) ?_
  refine (congrFun (StableHlo.nary_result ..) _).trans ?_
  refine (cat_at _ _ _ _ k j hj).trans ?_
  refine (congrFun (StableHlo.unary_result ..) _).trans ?_
  pointwise []
  blk_ext

/-- Past the padded gate columns the packed projection is the projection, 104 columns to the left. -/
theorem w_entry (k : Fin 1024) (j : Fin 4992) (hj : 1408 ≤ j.val) :
    V m c main_v5 (ix2 k j) = m ((c : Thread nD τ).loc main_arg2) (ix2 k ⟨j.val - 104, by omega⟩) := by
  simp only [V, List.flatten_cons, List.flatten_nil, List.append_nil, hostOps0, hostOps0_1, List.cons_append, List.nil_append, StableHlo.after_cons]
  refine (w_after _ k j hj).trans ?_
  after_results_simp
theorem ol_entry (b : Fin 4) (t : Fin 2048) (j : Fin 512) :
    V m c main_v7 (ix3 b t j) = m ((c : Thread nD τ).loc main_arg3) (ix3 b ⟨t.val, by omega⟩ j) := by
  simp only [V, hostOps0, hostOps0_1, hostOps0_2, List.flatten_cons, List.flatten_nil, List.append_nil, List.cons_append, List.nil_append]
  entry_read
  pointwise []

theorem oh_entry (b : Fin 4) (t : Fin 2048) (j : Fin 512) :
    V m c main_v8 (ix3 b t j) = m ((c : Thread nD τ).loc main_arg3) (ix3 b ⟨2048 + t.val, by omega⟩ j) := by
  simp only [V, hostOps0, hostOps0_1, hostOps0_2, List.flatten_cons, List.flatten_nil, List.append_nil, List.cons_append, List.nil_append]
  entry_read
  pointwise []

theorem os_entry (b : Fin 4) (q : Fin 512) (j : Fin 4096) :
    V m c main_v9 (ix3 b q j) = m ((c : Thread nD τ).loc main_arg4) (ix3 b ⟨q.val * 8 + j.val / 512, by omega⟩ ⟨j.val % 512, by omega⟩) := by
  simp only [V, hostOps0, hostOps0_1, hostOps0_2, List.flatten_cons, List.flatten_nil, List.append_nil, List.cons_append, List.nil_append]
  entry_read
  pointwise []

theorem wpn_entry : V m c main_v10 = m ((c : Thread nD τ).loc main_arg5) := by
  funext i
  simp only [V, hostOps0, hostOps0_1, hostOps0_2, List.flatten_cons, List.flatten_nil, List.append_nil, List.cons_append, List.nil_append]
  entry_read
  pointwise []

theorem wps_entry : V m c main_v11 = m ((c : Thread nD τ).loc main_arg6) := by
  funext i
  simp only [V, hostOps0, hostOps0_1, hostOps0_2, List.flatten_cons, List.flatten_nil, List.append_nil, List.cons_append, List.nil_append]
  entry_read
  pointwise []

theorem wo_entry : V m c main_v12 = m ((c : Thread nD τ).loc main_arg7) := by
  funext i
  simp only [V, hostOps0, hostOps0_1, hostOps0_2, List.flatten_cons, List.flatten_nil, List.append_nil, List.cons_append, List.nil_append]
  entry_read
  pointwise []
end Entry

section Blocks
variable (c : Dev nD) (t : Fin cfg0.N)

theorem t_lt (t : Fin cfg0.N) : t.val < 32 := lt_of_lt_of_eq t.isLt (by decide)

/-- The batch and the row of the arrays at row `r` of a grid point's blocks. -/
abbrev bat (t : Fin cfg0.N) : Fin 4 := ⟨t.val / 8, by have := t_lt t; omega⟩
abbrev row (t : Fin cfg0.N) (r : Fin 512) : Fin 4096 := ⟨t.val % 8 * 512 + r.val, by omega⟩

/-- Whether the point reads the first half of the attention output. -/
theorem bit_at : ∀ t : Fin cfg0.N, Scalar.cmpi .slt (BitVec.ofNat 32 (grid0.coords t 1).val) 4#32 = if t.val % 8 < 4 then 1#1 else 0#1 :=
  (by decide +kernel : ∀ t : Fin grid0.N, _)

theorem x_blk (r : Fin 512) (k : Fin 1024) :
    iblk m c 0 t (ix3 0 r k) = m ((c : Thread nD τ).loc main_arg0) (ix3 (bat t) (row t r) k) := by
  rw [← V_main_arg0 m c]
  blk_ext [iblk, idx t]

theorem g_blk (k : Fin 1024) : iblk m c 1 t (ix2 0 k) = m ((c : Thread nD τ).loc main_arg1) (ix1 k) := by
  rw [← g_entry m c k]
  blk_ext [iblk, idx t]

theorem w_blk (k : Fin 1024) (j : Fin 4992) (hj : 1408 ≤ j.val) :
    iblk m c 2 t (ix2 k j) = m ((c : Thread nD τ).loc main_arg2) (ix2 k ⟨j.val - 104, by omega⟩) := by
  rw [← w_entry m c k j hj]
  blk_ext [iblk, idx t]

theorem on_blk (r : Fin 512) (j : Fin 512) :
    (if Scalar.cmpi .slt (BitVec.ofNat 32 (grid0.coords t 1).val) 4#32 = 1#1 then iblk m c 3 t (ix3 0 r j) else iblk m c 4 t (ix3 0 r j))
      = m ((c : Thread nD τ).loc main_arg3) (ix3 (bat t) (row t r) j) := by
  rw [bit_at t]
  have ht := t_lt t
  by_cases h : t.val % 8 < 4
  · rw [if_pos h, if_pos rfl]
    have e : row t r = ⟨(⟨min (t.val % 8) 3 * 512 + r.val, by omega⟩ : Fin 2048).val, by have := r.isLt; show min (t.val % 8) 3 * 512 + r.val < 4096; omega⟩ := Fin.ext (by show t.val % 8 * 512 + r.val = min (t.val % 8) 3 * 512 + r.val; omega)
    rw [e]
    refine .trans ?_ (ol_entry m c _ _ _)
    blk_ext [iblk, idx t]
  · rw [if_neg h, if_neg (by decide)]
    have e : row t r = ⟨2048 + (⟨(t.val % 8 - 4) * 512 + r.val, by omega⟩ : Fin 2048).val, by have := r.isLt; show 2048 + ((t.val % 8 - 4) * 512 + r.val) < 4096; omega⟩ := Fin.ext (by show t.val % 8 * 512 + r.val = 2048 + ((t.val % 8 - 4) * 512 + r.val); omega)
    rw [e]
    refine .trans ?_ (oh_entry m c _ _ _)
    blk_ext [iblk, idx t]

theorem os_blk (r : Fin 512) (j : Fin 512) :
    iblk m c 5 t (ix3 0 ⟨r.val / 8, by omega⟩ ⟨r.val % 8 * 512 + j.val, by omega⟩) = m ((c : Thread nD τ).loc main_arg4) (ix3 (bat t) (row t r) j) := by
  have ht := t_lt t
  have e : (ix3 (bat t) (row t r) j : S4x4096x512.Idx) = ix3 (bat t) ⟨(⟨t.val % 8 * 64 + r.val / 8, by omega⟩ : Fin 512).val * 8 + (⟨r.val % 8 * 512 + j.val, by omega⟩ : Fin 4096).val / 512, by
      show (t.val % 8 * 64 + r.val / 8) * 8 + (r.val % 8 * 512 + j.val) / 512 < 4096; omega⟩ ⟨(⟨r.val % 8 * 512 + j.val, by omega⟩ : Fin 4096).val % 512, by omega⟩ := by
    refine congrArg₂ (ix3 (bat t)) (Fin.ext ?_) (Fin.ext ?_)
    · show t.val % 8 * 512 + r.val = (t.val % 8 * 64 + r.val / 8) * 8 + (r.val % 8 * 512 + j.val) / 512
      omega
    · show j.val = (r.val % 8 * 512 + j.val) % 512
      omega
  rw [e]
  refine .trans ?_ (os_entry m c _ _ _)
  blk_ext [iblk, idx t]

theorem wpn_blk (k : Fin 512) (j : Fin 1024) : iblk m c 6 t (ix2 k j) = m ((c : Thread nD τ).loc main_arg5) (ix2 k j) := by
  rw [← wpn_entry m c]
  blk_ext [iblk, idx t]

theorem wps_blk (k : Fin 512) (j : Fin 1024) : iblk m c 7 t (ix2 k j) = m ((c : Thread nD τ).loc main_arg6) (ix2 k j) := by
  rw [← wps_entry m c]
  blk_ext [iblk, idx t]

theorem wo_blk (k : Fin 1024) (j : Fin 1024) : iblk m c 8 t (ix2 k j) = m ((c : Thread nD τ).loc main_arg7) (ix2 k j) := by
  rw [← wo_entry m c]
  blk_ext [iblk, idx t]

theorem fg_blk (k : Fin 1024) : iblk m c 9 t (ix2 0 k) = m ((c : Thread nD τ).loc main_arg8) (ix1 k) := by
  rw [← fg_entry m c k]
  blk_ext [iblk, idx t]
end Blocks

end Cert.FinalKernel
end
-- ==== Proof.FinalValue.lean ====
/- The array the kernel of the final block leaves: at every index the reference's value. -/
module

public import proofs.«01_k».proof.Proof.FinalKernel

@[expose] public section

set_option maxRecDepth 16384

noncomputable section

namespace Cert.FinalKernel

open Idealize.ShloMosaic Idealize.ShloMosaic.TcCoe Idealize.SL.Sem
open Idealize.ShloMosaic.Pipeline (Dat)
open Cert.KernelIdeal Cert.KernelIdeal.Gen Cert.FinalRow

variable (m : (ℓ : Loc nD τ sig) → Buf (Elt Ideal) ℓ)

section Loads
variable (c : Dev nD) (t : Fin cfg0.N)

/-- Rows `o ..` of the staged input. -/
theorem x_ld (o : ℕ) (ho : o + 256 ≤ 512) (h) (r : Fin 256) (k : Fin 1024) :
    View.ld (iblk m c 0 t) (Rect.unit (s := S1x512x1024) ![0, o, 0] ![1, 256, 1024] h) (ix3 0 r k)
      = m ((c : Thread nD τ).loc main_arg0) (ix3 (bat t) (row t ⟨o + r.val, by omega⟩) k) := by
  have e : (Rect.unit (s := S1x512x1024) ![0, o, 0] ![1, 256, 1024] h).idx (ix3 0 r k) = ix3 0 ⟨o + r.val, by omega⟩ k := by blk_ext <;> simp
  rw [View.ld_apply, e, x_blk]

/-- Columns `p ..` of the packed projection, past its padding. -/
theorem wg_ld (p : ℕ) (hp : 1408 ≤ p) (hp' : p + 512 ≤ 4992) (h) (k : Fin 1024) (j : Fin 512) :
    View.ld (iblk m c 2 t) (Rect.unit (s := S1024x4992) ![0, p] ![1024, 512] h) (ix2 k j)
      = m ((c : Thread nD τ).loc main_arg2) (ix2 k ⟨p - 104 + j.val, by omega⟩) := by
  have e : (Rect.unit (s := S1024x4992) ![0, p] ![1024, 512] h).idx (ix2 k j) = ix2 k ⟨p + j.val, by omega⟩ := by blk_ext <;> simp
  rw [View.ld_apply, e, w_blk m c t k ⟨p + j.val, by omega⟩ (by show 1408 ≤ p + j.val; omega)]
  refine congrArg (fun z => m ((c : Thread nD τ).loc main_arg2) (ix2 k z)) (Fin.ext ?_)
  show p + j.val - 104 = p - 104 + j.val
  omega

theorem wm_ld (p : ℕ) (hp : 1408 ≤ p) (hp' : p + 1024 ≤ 4992) (h) (k : Fin 1024) (j : Fin 1024) :
    View.ld (iblk m c 2 t) (Rect.unit (s := S1024x4992) ![0, p] ![1024, 1024] h) (ix2 k j)
      = m ((c : Thread nD τ).loc main_arg2) (ix2 k ⟨p - 104 + j.val, by omega⟩) := by
  have e : (Rect.unit (s := S1024x4992) ![0, p] ![1024, 1024] h).idx (ix2 k j) = ix2 k ⟨p + j.val, by omega⟩ := by blk_ext <;> simp
  rw [View.ld_apply, e, w_blk m c t k ⟨p + j.val, by omega⟩ (by show 1408 ≤ p + j.val; omega)]
  refine congrArg (fun z => m ((c : Thread nD τ).loc main_arg2) (ix2 k z)) (Fin.ext ?_)
  show p + j.val - 104 = p - 104 + j.val
  omega

/-- Rows `o ..` of the attention output, from whichever half of it the point reads. -/
theorem on_ld (o : ℕ) (ho : o + 256 ≤ 512) (h h') (r : Fin 256) (j : Fin 512) :
    k0_pay43 (F := Ideal) (Scalar.cmpi .slt (BitVec.ofNat 32 (grid0.coords t 1).val) 4#32)
        (View.ld (iblk m c 3 t) (Rect.unit (s := S1x512x512) ![0, o, 0] ![1, 256, 512] h))
        (View.ld (iblk m c 4 t) (Rect.unit (s := S1x512x512) ![0, o, 0] ![1, 256, 512] h')) (ix2 r j)
      = m ((c : Thread nD τ).loc main_arg3) (ix3 (bat t) (row t ⟨o + r.val, by omega⟩) j) := by
  have e : (Rect.unit (s := S1x512x512) ![0, o, 0] ![1, 256, 512] h).idx (ix3 0 r j) = ix3 0 ⟨o + r.val, by omega⟩ j := by blk_ext <;> simp
  rw [← on_blk m c t, ← e]
  generalize Scalar.cmpi .slt (BitVec.ofNat 32 (grid0.coords t 1).val) 4#32 = bit
  pointwise [k0_pay43]
  rfl

/-- Four loads of the scratch at rows `o ..` are rows `o ..` of the recurrence. -/
theorem os_ld (o : ℕ) (ho : o + 256 ≤ 512) (h0 h1 h2 h3) (r : Fin 256) (j : Fin 512) :
    k0_pay44 (F := Ideal) (fun i => scrG (iblk m c 5 t) ((Rect.unit (s := S4x512x128) ![0, o, 0] ![1, 256, 128] h0).idx i))
        (fun i => scrG (iblk m c 5 t) ((Rect.unit (s := S4x512x128) ![1, o, 0] ![1, 256, 128] h1).idx i))
        (fun i => scrG (iblk m c 5 t) ((Rect.unit (s := S4x512x128) ![2, o, 0] ![1, 256, 128] h2).idx i))
        (fun i => scrG (iblk m c 5 t) ((Rect.unit (s := S4x512x128) ![3, o, 0] ![1, 256, 128] h3).idx i)) (ix2 r j)
      = m ((c : Thread nD τ).loc main_arg4) (ix3 (bat t) (row t ⟨o + r.val, by omega⟩) j) := by
  rw [← os_blk m c t]
  generalize iblk m c 5 t = X
  pointwise [k0_pay44]
  split_ifs
  all_goals
    unfold scrG
    refine congrArg₂ (fun a b => X (ix3 0 a b)) (Fin.ext ?_) (Fin.ext ?_)
    all_goals first
      | (simp; done)
      | (simp; omega)
end Loads

/-- The kernel's result array is the reference's. -/
theorem result (c : Dev nD) : (dats m 0 c).arrAt 10 (cfgs 0).N = ref m c := by
  refine (dats m 0 c).arrAt_eq_of_covers 10 _ (by decide +kernel) fun t _ y => ?_
  have ht := t_lt t
  blk_simp
  rw [after0_10]
  unfold outsAt0
  frame_out
  simp only [View.readCov_eq_canon']
  rw [scr_canon (iblk m c 5 t) (hP := ?a) (hc := ?b)]
  · canon_tiles x h
    · idx_vars x
      obtain rfl : x0 = 0 := Subsingleton.elim _ _
      refine (half2_at ..).trans ?_
      have e : ((View.whole main_v14).slice (win0_10.rect t)).emb y = ix3 (bat t) (row t ⟨256 + x1.val, by omega⟩) x2 := by
        blk_ext [idx t]
      rw [e]
      refine .trans ?_ (FinalRef.out_at ..).symm
      apply FinalRow.outRow_congr
      · exact fun k => x_ld m c t 256 (by omega) _ _ _
      · exact g_blk m c t
      · exact wg_ld m c t 1408 (by omega) (by omega) _
      · exact wg_ld m c t 2432 (by omega) (by omega) _
      · exact wm_ld m c t 2944 (by omega) (by omega) _
      · exact wm_ld m c t 3968 (by omega) (by omega) _
      · exact on_ld m c t 256 (by omega) _ _ _
      · exact os_ld m c t 256 (by omega) _ _ _ _ _
      · exact wpn_blk m c t
      · exact wps_blk m c t
      · exact wo_blk m c t
      · exact fg_blk m c t
      · rfl
    · idx_vars x
      obtain rfl : x0 = 0 := Subsingleton.elim _ _
      refine (half1_at ..).trans ?_
      have e : ((View.whole main_v14).slice (win0_10.rect t)).emb y = ix3 (bat t) (row t ⟨0 + x1.val, by omega⟩) x2 := by
        blk_ext [idx t]
      rw [e]
      refine .trans ?_ (FinalRef.out_at ..).symm
      apply FinalRow.outRow_congr
      · exact fun k => x_ld m c t 0 (by omega) _ _ _
      · exact g_blk m c t
      · exact wg_ld m c t 1408 (by omega) (by omega) _
      · exact wg_ld m c t 2432 (by omega) (by omega) _
      · exact wm_ld m c t 2944 (by omega) (by omega) _
      · exact wm_ld m c t 3968 (by omega) (by omega) _
      · exact on_ld m c t 0 (by omega) _ _ _
      · exact os_ld m c t 0 (by omega) _ _ _ _ _
      · exact wpn_blk m c t
      · exact wps_blk m c t
      · exact wo_blk m c t
      · exact fg_blk m c t
      · rfl
  · simp only [View.PiecesOf]
    repeat' refine And.intro ?_ ?_
    all_goals first
      | exact trivial
      | intro x
        refine scr_piece _ _ _ (by decide) (by decide) _ _ _ (fun q l => ?_) x
        open_payloads
        pointwise []
  · simp only [List.map_cons, List.map_nil]
    decide

end Cert.FinalKernel
end
-- ==== Proof.InRow.lean ====
/- One row of the input projection's outputs, as functions on the extended reals: the rotary rotation of a head of 64 columns, a
   head with what is laid beside it, and the literals of the layer's input. -/
module

public import proofs.«01_k».proof.Proof.FinalRow

@[expose] public section

noncomputable section

namespace Cert.InRow

open Idealize.ShloMosaic Cert.FinalRow

/-- The scale of the queries as the programs print it. -/
def scale : EReal := Ideal.ofBits FTy.f32 1043900987#32

/-- The projected row of the normalised input. -/
def projRow (x g : Fin 1024 → EReal) (w : Fin 1024 → Fin 4888 → EReal) (j : Fin 4888) : EReal := dotRow (rmsRow x g) w j

/-- A head rotated: the two halves of its columns against each other, by the cosines `c` and the sines `s`. -/
def ropeRow (p : Fin 64 → EReal) (c s : Fin 32 → EReal) (d : Fin 64) : EReal :=
  if h : d.val < 32 then p d * c ⟨d.val, h⟩ + p ⟨d.val + 32, by omega⟩ * -s ⟨d.val, h⟩
  else p d * c ⟨d.val - 32, by omega⟩ + p ⟨d.val - 32, by omega⟩ * s ⟨d.val - 32, by omega⟩

/-- A rotated head with another 64 columns beside it. -/
def besideRow (p : Fin 64 → EReal) (c s : Fin 32 → EReal) (pad : Fin 64 → EReal) (l : Fin 128) : EReal :=
  if h : l.val < 64 then ropeRow p c s ⟨l.val, h⟩ else pad ⟨l.val - 64, by omega⟩

/-- A column of 64 entries with 16 entries under it, the first of them one and the others zero. -/
def underCol (v : Fin 64 → EReal) (d : Fin 80) : EReal :=
  if h : d.val < 64 then v ⟨d.val, h⟩ else if d.val = 64 then 1 else 0

theorem besideRow_congr {p p' : Fin 64 → EReal} {c c' s s' : Fin 32 → EReal} {pad pad' : Fin 64 → EReal} {l l' : Fin 128}
    (h0 : ∀ d, p d = p' d) (h1 : ∀ d, c d = c' d) (h2 : ∀ d, s d = s' d) (h3 : ∀ d, pad d = pad' d) (h4 : l = l') :
    besideRow p c s pad l = besideRow p' c' s' pad' l' := by
  obtain rfl := funext h0; obtain rfl := funext h1; obtain rfl := funext h2; obtain rfl := funext h3; subst h4; rfl

theorem underCol_congr {v v' : Fin 64 → EReal} {d d' : Fin 80} (h0 : ∀ d, v d = v' d) (h1 : d = d') : underCol v d = underCol v' d' := by
  obtain rfl := funext h0; subst h1; rfl

theorem projRow_congr {x x' g g' : Fin 1024 → EReal} {w w' : Fin 1024 → Fin 4888 → EReal} {j j' : Fin 4888}
    (h0 : ∀ k, x k = x' k) (h1 : ∀ k, g k = g' k) (h2 : ∀ k j, w k j = w' k j) (h3 : j = j') : projRow x g w j = projRow x' g' w' j' := by
  obtain rfl := funext h0; obtain rfl := funext h1; obtain rfl := funext fun k => funext (h2 k); subst h3; rfl

end Cert.InRow

end
-- ==== Proof.InArith.lean ====
/- The input projection's arithmetic on one tile of 512 rows: the products of the normalised rows, the rotation of a pair of heads
   within 128 lanes, and the packing of each half with what stands beside it. -/
module

public import proofs.«01_k».proof.Proof.Gen.Kernel2Ideal.Value
public import Idealize.ShloMosaic.Lib.Pipeline.ValueKit
public import Idealize.ShloMosaic.Lib.Pipeline.ReadBack
public import proofs.«01_k».proof.Proof.InRow

@[expose] public section

set_option maxRecDepth 16384

noncomputable section

namespace Cert.InArith

open Idealize.ShloMosaic Idealize.ShloMosaic.TcCoe Idealize.SL.Sem
open Cert.Kernel2Ideal Cert.Kernel2Ideal.Gen Cert.FinalRow Cert.InRow

/-- A tile of 128 lanes. -/
abbrev V := FVec Ideal S512x128 .f32

/-! ## The products -/

section Products
variable (x : FVec Ideal S1x512x1024 .f32) (g : FVec Ideal S1x1024 .f32)

theorem h_at (r : Fin 512) (k : Fin 1024) :
    k0_pay1 (F := Ideal) x g (ix2 r k) = rmsRow (fun k => x (ix3 0 r k)) (fun k => g (ix2 0 k)) k := by
  pointwise [k0_pay1, rmsRow]

theorem pay6_at (w : FVec Ideal S1024x512 .bf16) (r : Fin 512) (j : Fin 512) :
    k0_pay6 (F := Ideal) x g w (ix2 r j)
      = dotRow (rmsRow (fun k => x (ix3 0 r k)) (fun k => g (ix2 0 k))) (fun k j => w (ix2 k j)) j := by
  pointwise [k0_pay6, h_at, dotRow]

theorem pay26_at (w : FVec Ideal S1024x896 .bf16) (r : Fin 512) (j : Fin 896) :
    k0_pay26 (F := Ideal) (k0_pay1 (F := Ideal) x g) w (ix2 r j)
      = dotRow (rmsRow (fun k => x (ix3 0 r k)) (fun k => g (ix2 0 k))) (fun k j => w (ix2 k j)) j := by
  pointwise [k0_pay26, h_at, dotRow]

theorem pay49_at (w : FVec Ideal S1024x512 .bf16) (r : Fin 512) (j : Fin 512) :
    k0_pay49 (F := Ideal) (k0_pay1 (F := Ideal) x g) w (ix2 r j)
      = dotRow (rmsRow (fun k => x (ix3 0 r k)) (fun k => g (ix2 0 k))) (fun k j => w (ix2 k j)) j := by
  pointwise [k0_pay49, h_at, dotRow]
end Products

/-! ## The lane masks -/

theorem mask4 : ∀ l : Fin 128, IntOp.cmpi .slt (IntOp.andi (BitVec.ofNat 32 l.val) 63#32) 32#32 = if l.val % 64 < 32 then 1#1 else 0#1 := by
  decide +kernel

theorem mask5 : ∀ l : Fin 128, IntOp.cmpi .slt (BitVec.ofNat 32 l.val) 64#32 = if l.val < 64 then 1#1 else 0#1 := by
  decide +kernel

theorem pay4_at (r : Fin 512) (l : Fin 128) : k0_pay4 (ix2 r l) = if l.val % 64 < 32 then 1#1 else 0#1 := by
  pointwise [k0_pay4]
  exact mask4 l

theorem pay5_at (r : Fin 512) (l : Fin 128) : k0_pay5 (ix2 r l) = if l.val < 64 then 1#1 else 0#1 := by
  pointwise [k0_pay5]
  exact mask5 l

theorem sel4 (a b : V) (r : Fin 512) (l : Fin 128) :
    select k0_pay4 a b (ix2 r l) = if l.val % 64 < 32 then a (ix2 r l) else b (ix2 r l) := by
  pointwise [pay4_at]
  split <;> rfl

theorem sel5 (a b : V) (r : Fin 512) (l : Fin 128) :
    select k0_pay5 a b (ix2 r l) = if l.val < 64 then a (ix2 r l) else b (ix2 r l) := by
  pointwise [pay5_at]
  split <;> rfl

/-! ## The rotation -/

theorem rot96 (p : V) (r : Fin 512) (l : Fin 128) :
    dynamicRotate 1 96#32 none p rotates_S512x128_d1 (ix2 r l) = p (ix2 r ⟨(l.val + 32) % 128, by omega⟩) := by
  pointwise []
  exact congrArg p (congrArg (ix2 r) (Fin.ext (by simp only []; omega)))

theorem rot32 (p : V) (r : Fin 512) (l : Fin 128) :
    dynamicRotate 1 32#32 none p rotates_S512x128_d1 (ix2 r l) = p (ix2 r ⟨(l.val + 96) % 128, by omega⟩) := by
  pointwise []
  exact congrArg p (congrArg (ix2 r) (Fin.ext (by simp only []; omega)))

theorem rot64 (p : V) (r : Fin 512) (l : Fin 128) :
    dynamicRotate 1 64#32 none p rotates_S512x128_d1 (ix2 r l) = p (ix2 r ⟨(l.val + 64) % 128, by omega⟩) := by
  pointwise []
  exact congrArg p (congrArg (ix2 r) (Fin.ext (by simp only []; omega)))

/-- A pair of heads rotated by the doubled tables. -/
def ropeV (p c2 s2 : V) : V :=
  addf (mulf p c2) (mulf (select k0_pay4 (dynamicRotate 1 96#32 none p rotates_S512x128_d1)
    (dynamicRotate 1 32#32 none p rotates_S512x128_d1)) s2)

/-- The tables of a tile, row by row: the cosines four times, the sines four times with the first and third negative. -/
structure Tables (c2 s2 : V) (c s : Fin 512 → Fin 32 → EReal) : Prop where
  cos : ∀ r (l : Fin 128), c2 (ix2 r l) = c r ⟨l.val % 32, by omega⟩
  sin : ∀ r (l : Fin 128), s2 (ix2 r l) = if l.val % 64 < 32 then -s r ⟨l.val % 32, by omega⟩ else s r ⟨l.val % 32, by omega⟩

theorem ropeV_at {p c2 s2 : V} {c s : Fin 512 → Fin 32 → EReal} (hT : Tables c2 s2 c s) (r : Fin 512) (a : Fin 2) (d : Fin 64) :
    ropeV p c2 s2 (ix2 r ⟨64 * a.val + d.val, by omega⟩)
      = ropeRow (fun d => p (ix2 r ⟨64 * a.val + d.val, by omega⟩)) (c r) (s r) d := by
  have e : ropeV p c2 s2 (ix2 r ⟨64 * a.val + d.val, by omega⟩)
      = p (ix2 r ⟨64 * a.val + d.val, by omega⟩) * c2 (ix2 r ⟨64 * a.val + d.val, by omega⟩)
        + (select k0_pay4 (dynamicRotate 1 96#32 none p rotates_S512x128_d1)
          (dynamicRotate 1 32#32 none p rotates_S512x128_d1)) (ix2 r ⟨64 * a.val + d.val, by omega⟩)
          * s2 (ix2 r ⟨64 * a.val + d.val, by omega⟩) := rfl
  rw [e, sel4, rot96, rot32, hT.cos, hT.sin]
  unfold ropeRow
  have h4 : (64 * a.val + d.val) % 64 = d.val := by omega
  simp only [h4]
  by_cases h : d.val < 32
  · simp only [h, if_true, dif_pos]
    have e1 : (⟨(64 * a.val + d.val) % 32, by omega⟩ : Fin 32) = ⟨d.val, h⟩ := Fin.ext (by simp; omega)
    have e2 : (⟨(64 * a.val + d.val + 32) % 128, by omega⟩ : Fin 128) = ⟨64 * a.val + (d.val + 32), by omega⟩ := Fin.ext (by simp; omega)
    rw [e1, e2]
  · simp only [h, if_false, dif_neg, not_false_eq_true]
    have e1 : (⟨(64 * a.val + d.val) % 32, by omega⟩ : Fin 32) = ⟨d.val - 32, by omega⟩ := Fin.ext (by simp; omega)
    have e2 : (⟨(64 * a.val + d.val + 96) % 128, by omega⟩ : Fin 128) = ⟨64 * a.val + (d.val - 32), by omega⟩ := Fin.ext (by simp; omega)
    rw [e1, e2]

/-- The first head of a pair with the lanes of `b` above 64 beside it. -/
def evenV (p c2 s2 b : V) : FVec Ideal S1x1x512x128 .bf16 :=
  shapeCast S1x1x512x128 (truncf .bf16 (select k0_pay5 (ropeV p c2 s2) b) bitsLt_bf16_f32) shapeCasts_S512x128_S1x1x512x128

/-- The second head of a pair with the lanes of `b` above 64 beside it. -/
def oddV (p c2 s2 b : V) : FVec Ideal S1x1x512x128 .bf16 :=
  shapeCast S1x1x512x128 (truncf .bf16 (select k0_pay5 (dynamicRotate 1 64#32 none (ropeV p c2 s2) rotates_S512x128_d1) b) bitsLt_bf16_f32)
    shapeCasts_S512x128_S1x1x512x128

theorem evenV_at {p c2 s2 b : V} {c s : Fin 512 → Fin 32 → EReal} (hT : Tables c2 s2 c s) (r : Fin 512) (l : Fin 128) :
    evenV p c2 s2 b (ix4 0 0 r l)
      = besideRow (fun d => p (ix2 r ⟨d.val, by omega⟩)) (c r) (s r) (fun d => b (ix2 r ⟨64 + d.val, by omega⟩)) l := by
  have e : evenV p c2 s2 b (ix4 0 0 r l) = (show EReal from select k0_pay5 (ropeV p c2 s2) b (ix2 r l)) := by
    unfold evenV
    pointwise []
  refine e.trans ?_
  rw [sel5]
  unfold besideRow
  by_cases h : l.val < 64
  · rw [if_pos h, dif_pos h]
    have e0 : l = ⟨64 * (0 : Fin 2).val + (⟨l.val, h⟩ : Fin 64).val, by simp⟩ := Fin.ext (by simp)
    refine (congrArg (fun l => ropeV p c2 s2 (ix2 r l)) e0).trans ((ropeV_at hT r 0 ⟨l.val, h⟩).trans ?_)
    simp
  · rw [if_neg h, dif_neg h]
    exact congrArg (fun l => b (ix2 r l)) (Fin.ext (by simp; omega))

theorem oddV_at {p c2 s2 b : V} {c s : Fin 512 → Fin 32 → EReal} (hT : Tables c2 s2 c s) (r : Fin 512) (l : Fin 128) :
    oddV p c2 s2 b (ix4 0 0 r l)
      = besideRow (fun d => p (ix2 r ⟨64 + d.val, by omega⟩)) (c r) (s r) (fun d => b (ix2 r ⟨64 + d.val, by omega⟩)) l := by
  have e : oddV p c2 s2 b (ix4 0 0 r l)
      = (show EReal from select k0_pay5 (dynamicRotate 1 64#32 none (ropeV p c2 s2) rotates_S512x128_d1) b (ix2 r l)) := by
    unfold oddV
    pointwise []
  refine e.trans ?_
  rw [sel5, rot64]
  unfold besideRow
  by_cases h : l.val < 64
  · rw [if_pos h, dif_pos h]
    have e0 : (⟨(l.val + 64) % 128, by omega⟩ : Fin 128) = ⟨64 * (1 : Fin 2).val + (⟨l.val, h⟩ : Fin 64).val, by simp; omega⟩ :=
      Fin.ext (by simp; omega)
    refine (congrArg (fun l => ropeV p c2 s2 (ix2 r l)) e0).trans ((ropeV_at hT r 1 ⟨l.val, h⟩).trans ?_)
    simp
  · rw [if_neg h, dif_neg h]
    exact congrArg (fun l => b (ix2 r l)) (Fin.ext (by simp; omega))

/-! ## The number of a row's block as a one-hot row -/

/-- A row's block number, by the division the kernel writes. -/
abbrev floorDiv (n : BitVec 32) : BitVec 32 :=
  Scalar.select (IntOp.andi (IntOp.cmpi .ne (IntOp.subi (BitVec.setWidth 32 (IntOp.cmpi .sgt n 0#32))
      (BitVec.setWidth 32 (IntOp.cmpi .slt n 0#32))) (Scalar.subi 1#32 (Scalar.extui (Scalar.cmpi .slt 64#32 0#32))))
    (IntOp.cmpi .ne (IntOp.remsi .vector n 64#32) 0#32))
    (IntOp.subi (IntOp.divsi .vector n 64#32) 1#32) (IntOp.divsi .vector n 64#32)

theorem floorDiv_at : ∀ n : Fin 4096, floorDiv (BitVec.ofNat 32 n.val) = BitVec.ofNat 32 (n.val / 64) := by
  decide +kernel

theorem lane_eq : ∀ (l : Fin 128) (q : Fin 64),
    IntOp.cmpi .eq (IntOp.subi (BitVec.ofNat 32 l.val) 64#32) (BitVec.ofNat 32 q.val) = if q.val + 64 = l.val then 1#1 else 0#1 := by
  decide +kernel

theorem row_eq : ∀ (i : Fin 8) (r : Fin 512),
    IntOp.addi (Scalar.muli (BitVec.ofNat 32 i.val) 512#32) (BitVec.ofNat 32 r.val) = BitVec.ofNat 32 (512 * i.val + r.val) := by
  decide +kernel

theorem hot_at (i : Fin 8) (r : Fin 512) (l : Fin 128) :
    k0_pay33 (F := Ideal) (k0_pay29 (BitVec.ofNat 32 i.val)) (k0_pay30 (iota .tc S512x128 32 [1] iota_S512x128_d1_w32)) 64#32
        (k0_pay31 (BitVec.ofNat 32 i.val)) (k0_pay32 (BitVec.ofNat 32 i.val)) 1#32 (ix2 r l)
      = if (512 * i.val + r.val) / 64 + 64 = l.val then (1 : EReal) else 0 := by
  pointwise [k0_pay33, k0_pay29, k0_pay30, k0_pay31, k0_pay32]
  rw [row_eq]
  refine (congrArg (fun n => Scalar.select (IntOp.cmpi CmpIPredicate.eq (IntOp.subi (BitVec.ofNat 32 l.val) 64#32) n) (1 : EReal) 0)
    (floorDiv_at ⟨512 * i.val + r.val, by omega⟩)).trans ?_
  simp only []
  rw [lane_eq l ⟨(512 * i.val + r.val) / 64, by omega⟩]
  split <;> rfl

/-! ## The columns laid out with the ones under them, the gates, the recurrence's input -/

theorem ones_at (d : Fin 16) (r : Fin 512) : k0_pay34 (F := Ideal) (ix2 d r) = if d.val = 0 then (1 : EReal) else 0 := by
  pointwise [k0_pay34]
  have e : ∀ d : Fin 16, IntOp.cmpi .eq (BitVec.ofNat 32 d.val) 0#32 = if d.val = 0 then 1#1 else 0#1 := by decide
  rw [e]
  split <;> rfl

theorem under_form (v : Fin 64 → EReal) (d : Fin 80) :
    (if h : d.val < 64 then v ⟨d.val, h⟩ else if d.val - 64 = 0 then 1 else 0) = underCol v d := by
  unfold underCol
  split
  · rfl
  · have e : d.val - 64 = 0 ↔ d.val = 64 := by omega
    simp only [e]

theorem vs0_at (p : FVec Ideal S512x896 .f32) (d : Fin 80) (r : Fin 512) :
    k0_pay40 (F := Ideal) p (k0_pay34 (F := Ideal)) (ix4 0 0 d r) = underCol (fun d => p (ix2 r ⟨384 + d.val, by omega⟩)) d := by
  pointwise [k0_pay40, k0_pay39, ones_at]
  exact under_form (fun d => p (ix2 r ⟨384 + d.val, by omega⟩)) d

theorem vs1_at (p : FVec Ideal S512x896 .f32) (d : Fin 80) (r : Fin 512) :
    k0_pay41 (F := Ideal) p (k0_pay34 (F := Ideal)) (ix4 0 0 d r) = underCol (fun d => p (ix2 r ⟨384 + (64 + d.val), by omega⟩)) d := by
  pointwise [k0_pay41, k0_pay39, ones_at]
  exact under_form (fun d => p (ix2 r ⟨384 + (64 + d.val), by omega⟩)) d

theorem vw0_at (p : FVec Ideal S512x896 .f32) (d : Fin 80) (r : Fin 512) :
    k0_pay46 (F := Ideal) p (k0_pay34 (F := Ideal)) (ix4 0 0 d r) = underCol (fun d => p (ix2 r ⟨640 + d.val, by omega⟩)) d := by
  pointwise [k0_pay46, k0_pay45, ones_at]
  exact under_form (fun d => p (ix2 r ⟨640 + d.val, by omega⟩)) d

theorem vw1_at (p : FVec Ideal S512x896 .f32) (d : Fin 80) (r : Fin 512) :
    k0_pay47 (F := Ideal) p (k0_pay34 (F := Ideal)) (ix4 0 0 d r) = underCol (fun d => p (ix2 r ⟨640 + (64 + d.val), by omega⟩)) d := by
  pointwise [k0_pay47, k0_pay45, ones_at]
  exact under_form (fun d => p (ix2 r ⟨640 + (64 + d.val), by omega⟩)) d

theorem gates_at (p : FVec Ideal S512x896 .f32) (d : Fin 32) (r : Fin 512) :
    k0_pay48 (F := Ideal) p (ix3 0 d r) = sgm (p (ix2 r ⟨768 + d.val, by omega⟩)) := by
  pointwise [k0_pay48, sgm, zero_sub]

/-! ## The packed heads as the kernel names them -/

section Heads
variable (c2 s2 : V) (p0 : FVec Ideal S512x512 .f32) (p1 : FVec Ideal S512x896 .f32)

/-- A pair of scaled query heads. -/
theorem qa_at (r : Fin 512) (l : Fin 128) : k0_pay12 (F := Ideal) p0 (ix2 r l) = p0 (ix2 r ⟨128 + l.val, by omega⟩) * scale := by
  pointwise [k0_pay12, scale]

theorem qb_at (r : Fin 512) (l : Fin 128) : k0_pay17 (F := Ideal) p0 (ix2 r l) = p0 (ix2 r ⟨256 + l.val, by omega⟩) * scale := by
  pointwise [k0_pay17, scale]

theorem qc_at (r : Fin 512) (l : Fin 128) : k0_pay21 (F := Ideal) p0 (ix2 r l) = p0 (ix2 r ⟨384 + l.val, by omega⟩) * scale := by
  pointwise [k0_pay21, scale]

theorem q0_at (x : FVec Ideal S1x512x1024 .f32) (g : FVec Ideal S1x1024 .f32) (w : FVec Ideal S1024x512 .bf16) (r : Fin 512) (l : Fin 128) :
    k0_pay7 (F := Ideal) x g w (ix2 r l) = k0_pay6 (F := Ideal) x g w (ix2 r ⟨l.val, by omega⟩) * scale := by
  pointwise [k0_pay7, scale]

theorem q_even {p c2 s2 : V} {c s : Fin 512 → Fin 32 → EReal} (hT : Tables c2 s2 c s) (r : Fin 512) (l : Fin 128) :
    evenV p c2 s2 (dynamicRotate 1 64#32 none p rotates_S512x128_d1) (ix4 0 0 r l)
      = besideRow (fun d => p (ix2 r ⟨d.val, by omega⟩)) (c r) (s r) (fun d => p (ix2 r ⟨d.val, by omega⟩)) l := by
  refine (evenV_at hT r l).trans (besideRow_congr (fun _ => rfl) (fun _ => rfl) (fun _ => rfl) (fun d => ?_) rfl)
  rw [rot64]
  exact congrArg (fun l => p (ix2 r l)) (Fin.ext (by simp only []; omega))

theorem q_odd {p c2 s2 : V} {c s : Fin 512 → Fin 32 → EReal} (hT : Tables c2 s2 c s) (r : Fin 512) (l : Fin 128) :
    oddV p c2 s2 p (ix4 0 0 r l)
      = besideRow (fun d => p (ix2 r ⟨64 + d.val, by omega⟩)) (c r) (s r) (fun d => p (ix2 r ⟨64 + d.val, by omega⟩)) l :=
  oddV_at hT r l

/-- The pair of selected keys' heads, and that of the window's. -/
theorem ks_slice (r : Fin 512) (l : Fin 128) :
    extractStridedSlice S512x128 ![0, 256] p1 slices_S512x896_o0_256_S512x128 (ix2 r l) = p1 (ix2 r ⟨256 + l.val, by omega⟩) := by
  pointwise []

theorem kw_slice (r : Fin 512) (l : Fin 128) :
    extractStridedSlice S512x128 ![0, 512] p1 slices_S512x896_o0_512_S512x128 (ix2 r l) = p1 (ix2 r ⟨512 + l.val, by omega⟩) := by
  pointwise []

theorem kc_at (h : FVec Ideal S512x1024 .bf16) (w : FVec Ideal S1024x896 .bf16) (r : Fin 512) (l : Fin 128) :
    k0_pay27 (F := Ideal) h w (ix3 0 r l) = k0_pay26 (F := Ideal) h w (ix2 r ⟨l.val, by omega⟩) := by
  pointwise [k0_pay27]

theorem vc_at (h : FVec Ideal S512x1024 .bf16) (w : FVec Ideal S1024x896 .bf16) (r : Fin 512) (l : Fin 128) :
    k0_pay28 (F := Ideal) h w (ix3 0 r l) = k0_pay26 (F := Ideal) h w (ix2 r ⟨128 + l.val, by omega⟩) := by
  pointwise [k0_pay28]
end Heads

/-! ## Each packed head -/

section Packed
variable {c2 s2 : V} {c s : Fin 512 → Fin 32 → EReal} (hT : Tables c2 s2 c s) (p0 : FVec Ideal S512x512 .f32) (p1 : FVec Ideal S512x896 .f32)
  (x : FVec Ideal S1x512x1024 .f32) (g : FVec Ideal S1x1024 .f32) (w : FVec Ideal S1024x512 .bf16)
include hT

/-- Head `h` of the scaled projection, rotated and with itself beside. -/
abbrev qRow (c s : Fin 512 → Fin 32 → EReal) (p0 : FVec Ideal S512x512 .f32) (h : Fin 8) (r : Fin 512) (l : Fin 128) : EReal :=
  besideRow (fun d => p0 (ix2 r ⟨h.val * 64 + d.val, by omega⟩) * scale) (c r) (s r)
    (fun d => p0 (ix2 r ⟨h.val * 64 + d.val, by omega⟩) * scale) l

theorem head0_at (r : Fin 512) (l : Fin 128) :
    k0_pay10 (F := Ideal) c2 s2 k0_pay5 (k0_pay7 (F := Ideal) x g w) (k0_pay8 (F := Ideal) x g w) (ix4 0 0 r l) = qRow c s (k0_pay6 (F := Ideal) x g w) 0 r l := by
  rw [show k0_pay10 (F := Ideal) c2 s2 k0_pay5 (k0_pay7 (F := Ideal) x g w) (k0_pay8 (F := Ideal) x g w)
    = evenV (k0_pay7 (F := Ideal) x g w) c2 s2 (dynamicRotate 1 64#32 none (k0_pay7 (F := Ideal) x g w) rotates_S512x128_d1) from rfl]
  refine (q_even hT r l).trans (besideRow_congr (fun d => ?_) (fun _ => rfl) (fun _ => rfl) (fun d => ?_) rfl)
  all_goals
    refine (q0_at x g w r ⟨d.val, by omega⟩).trans ?_
    exact congrArg (fun l => (k0_pay6 (F := Ideal) x g w) (ix2 r l) * scale) (Fin.ext (by simp; try omega))

theorem head1_at (r : Fin 512) (l : Fin 128) :
    k0_pay11 (F := Ideal) c2 s2 k0_pay5 (k0_pay7 (F := Ideal) x g w) (k0_pay8 (F := Ideal) x g w) (ix4 0 0 r l) = qRow c s (k0_pay6 (F := Ideal) x g w) 1 r l := by
  rw [show k0_pay11 (F := Ideal) c2 s2 k0_pay5 (k0_pay7 (F := Ideal) x g w) (k0_pay8 (F := Ideal) x g w)
    = oddV (k0_pay7 (F := Ideal) x g w) c2 s2 (k0_pay7 (F := Ideal) x g w) from rfl]
  refine (q_odd hT r l).trans (besideRow_congr (fun d => ?_) (fun _ => rfl) (fun _ => rfl) (fun d => ?_) rfl)
  all_goals
    refine (q0_at x g w r ⟨64 + d.val, by omega⟩).trans ?_
    exact congrArg (fun l => (k0_pay6 (F := Ideal) x g w) (ix2 r l) * scale) (Fin.ext (by simp; try omega))

theorem head2_at (r : Fin 512) (l : Fin 128) :
    k0_pay14 (F := Ideal) c2 s2 k0_pay4 k0_pay5 p0 (ix4 0 0 r l) = qRow c s p0 2 r l := by
  rw [show k0_pay14 (F := Ideal) c2 s2 k0_pay4 k0_pay5 p0
    = evenV (k0_pay12 (F := Ideal) p0) c2 s2 (dynamicRotate 1 64#32 none (k0_pay12 (F := Ideal) p0) rotates_S512x128_d1) from rfl]
  refine (q_even hT r l).trans (besideRow_congr (fun d => ?_) (fun _ => rfl) (fun _ => rfl) (fun d => ?_) rfl)
  all_goals
    refine (qa_at p0 r ⟨d.val, by omega⟩).trans ?_
    exact congrArg (fun l => p0 (ix2 r l) * scale) (Fin.ext (by simp; try omega))

theorem head3_at (r : Fin 512) (l : Fin 128) :
    k0_pay16 (F := Ideal) (k0_pay15 (F := Ideal) c2 s2 k0_pay4 k0_pay5 p0) (ix4 0 0 r l) = qRow c s p0 3 r l := by
  rw [show k0_pay16 (F := Ideal) (k0_pay15 (F := Ideal) c2 s2 k0_pay4 k0_pay5 p0)
    = oddV (k0_pay12 (F := Ideal) p0) c2 s2 (k0_pay12 (F := Ideal) p0) from rfl]
  refine (q_odd hT r l).trans (besideRow_congr (fun d => ?_) (fun _ => rfl) (fun _ => rfl) (fun d => ?_) rfl)
  all_goals
    refine (qa_at p0 r ⟨64 + d.val, by omega⟩).trans ?_
    exact congrArg (fun l => p0 (ix2 r l) * scale) (Fin.ext (by simp; try omega))

theorem head4_at (r : Fin 512) (l : Fin 128) :
    k0_pay19 (F := Ideal) c2 s2 k0_pay4 k0_pay5 p0 (ix4 0 0 r l) = qRow c s p0 4 r l := by
  rw [show k0_pay19 (F := Ideal) c2 s2 k0_pay4 k0_pay5 p0
    = evenV (k0_pay17 (F := Ideal) p0) c2 s2 (dynamicRotate 1 64#32 none (k0_pay17 (F := Ideal) p0) rotates_S512x128_d1) from rfl]
  refine (q_even hT r l).trans (besideRow_congr (fun d => ?_) (fun _ => rfl) (fun _ => rfl) (fun d => ?_) rfl)
  all_goals
    refine (qb_at p0 r ⟨d.val, by omega⟩).trans ?_
    exact congrArg (fun l => p0 (ix2 r l) * scale) (Fin.ext (by simp; try omega))

theorem head5_at (r : Fin 512) (l : Fin 128) :
    k0_pay20 (F := Ideal) c2 s2 k0_pay4 k0_pay5 p0 (ix4 0 0 r l) = qRow c s p0 5 r l := by
  rw [show k0_pay20 (F := Ideal) c2 s2 k0_pay4 k0_pay5 p0
    = oddV (k0_pay17 (F := Ideal) p0) c2 s2 (k0_pay17 (F := Ideal) p0) from rfl]
  refine (q_odd hT r l).trans (besideRow_congr (fun d => ?_) (fun _ => rfl) (fun _ => rfl) (fun d => ?_) rfl)
  all_goals
    refine (qb_at p0 r ⟨64 + d.val, by omega⟩).trans ?_
    exact congrArg (fun l => p0 (ix2 r l) * scale) (Fin.ext (by simp; try omega))

theorem head6_at (r : Fin 512) (l : Fin 128) :
    k0_pay24 (F := Ideal) (k0_pay23 (F := Ideal) c2 s2 k0_pay4 k0_pay5 p0) (ix4 0 0 r l) = qRow c s p0 6 r l := by
  rw [show k0_pay24 (F := Ideal) (k0_pay23 (F := Ideal) c2 s2 k0_pay4 k0_pay5 p0)
    = evenV (k0_pay21 (F := Ideal) p0) c2 s2 (dynamicRotate 1 64#32 none (k0_pay21 (F := Ideal) p0) rotates_S512x128_d1) from rfl]
  refine (q_even hT r l).trans (besideRow_congr (fun d => ?_) (fun _ => rfl) (fun _ => rfl) (fun d => ?_) rfl)
  all_goals
    refine (qc_at p0 r ⟨d.val, by omega⟩).trans ?_
    exact congrArg (fun l => p0 (ix2 r l) * scale) (Fin.ext (by simp; try omega))

theorem head7_at (r : Fin 512) (l : Fin 128) :
    k0_pay25 (F := Ideal) k0_pay5 (k0_pay21 (F := Ideal) p0) (k0_pay22 (F := Ideal) c2 s2 k0_pay4 p0) (ix4 0 0 r l) = qRow c s p0 7 r l := by
  rw [show k0_pay25 (F := Ideal) k0_pay5 (k0_pay21 (F := Ideal) p0) (k0_pay22 (F := Ideal) c2 s2 k0_pay4 p0)
    = oddV (k0_pay21 (F := Ideal) p0) c2 s2 (k0_pay21 (F := Ideal) p0) from rfl]
  refine (q_odd hT r l).trans (besideRow_congr (fun d => ?_) (fun _ => rfl) (fun _ => rfl) (fun d => ?_) rfl)
  all_goals
    refine (qc_at p0 r ⟨64 + d.val, by omega⟩).trans ?_
    exact congrArg (fun l => p0 (ix2 r l) * scale) (Fin.ext (by simp; try omega))

theorem ks0_at (a b : IVec S512x128 32) (v : BitVec 32) (d e : IVec S512x128 32) (f : BitVec 32) (r : Fin 512) (l : Fin 128) :
    k0_pay36 (F := Ideal) c2 s2 k0_pay4 k0_pay5 p1 a b v d e f (ix4 0 0 r l)
      = besideRow (fun j => p1 (ix2 r ⟨256 + j.val, by omega⟩)) (c r) (s r)
          (fun j => k0_pay33 (F := Ideal) a b v d e f (ix2 r ⟨64 + j.val, by omega⟩)) l := by
  rw [show k0_pay36 (F := Ideal) c2 s2 k0_pay4 k0_pay5 p1 a b v d e f
    = evenV (extractStridedSlice S512x128 ![0, 256] p1 slices_S512x896_o0_256_S512x128) c2 s2 (k0_pay33 (F := Ideal) a b v d e f) from rfl]
  exact (evenV_at hT r l).trans (besideRow_congr (fun j => ks_slice p1 r ⟨j.val, by omega⟩) (fun _ => rfl) (fun _ => rfl) (fun _ => rfl) rfl)

theorem ks1_at (a b : IVec S512x128 32) (v : BitVec 32) (d e : IVec S512x128 32) (f : BitVec 32) (r : Fin 512) (l : Fin 128) :
    k0_pay38 (F := Ideal) (k0_pay37 (F := Ideal) c2 s2 k0_pay4 k0_pay5 p1 a b v d e f) (ix4 0 0 r l)
      = besideRow (fun j => p1 (ix2 r ⟨256 + (64 + j.val), by omega⟩)) (c r) (s r)
          (fun j => k0_pay33 (F := Ideal) a b v d e f (ix2 r ⟨64 + j.val, by omega⟩)) l := by
  rw [show k0_pay38 (F := Ideal) (k0_pay37 (F := Ideal) c2 s2 k0_pay4 k0_pay5 p1 a b v d e f)
    = oddV (extractStridedSlice S512x128 ![0, 256] p1 slices_S512x896_o0_256_S512x128) c2 s2 (k0_pay33 (F := Ideal) a b v d e f) from rfl]
  exact (oddV_at hT r l).trans (besideRow_congr (fun j => ks_slice p1 r ⟨64 + j.val, by omega⟩) (fun _ => rfl) (fun _ => rfl) (fun _ => rfl) rfl)

theorem zero_lane (r : Fin 512) (l : Fin 128) : broadcast S512x128 (Scalar.ofBits (F := Ideal) .f32 0x00000000#32) (ix2 r l) = (0 : EReal) := by
  pointwise []

theorem kw0_at (r : Fin 512) (l : Fin 128) :
    k0_pay43 (F := Ideal) c2 s2 k0_pay4 k0_pay5 p1 (ix4 0 0 r l)
      = besideRow (fun j => p1 (ix2 r ⟨512 + j.val, by omega⟩)) (c r) (s r) (fun _ => 0) l := by
  rw [show k0_pay43 (F := Ideal) c2 s2 k0_pay4 k0_pay5 p1
    = evenV (extractStridedSlice S512x128 ![0, 512] p1 slices_S512x896_o0_512_S512x128) c2 s2
      (broadcast S512x128 (Scalar.ofBits (F := Ideal) .f32 0x00000000#32)) from rfl]
  exact (evenV_at hT r l).trans (besideRow_congr (fun j => kw_slice p1 r ⟨j.val, by omega⟩) (fun _ => rfl) (fun _ => rfl)
    (fun j => zero_lane hT r _) rfl)

theorem kw1_at (r : Fin 512) (l : Fin 128) :
    k0_pay44 (F := Ideal) c2 s2 k0_pay4 k0_pay5 p1 (ix4 0 0 r l)
      = besideRow (fun j => p1 (ix2 r ⟨512 + (64 + j.val), by omega⟩)) (c r) (s r) (fun _ => 0) l := by
  rw [show k0_pay44 (F := Ideal) c2 s2 k0_pay4 k0_pay5 p1
    = oddV (extractStridedSlice S512x128 ![0, 512] p1 slices_S512x896_o0_512_S512x128) c2 s2
      (broadcast S512x128 (Scalar.ofBits (F := Ideal) .f32 0x00000000#32)) from rfl]
  exact (oddV_at hT r l).trans (besideRow_congr (fun j => kw_slice p1 r ⟨64 + j.val, by omega⟩) (fun _ => rfl) (fun _ => rfl)
    (fun j => zero_lane hT r _) rfl)
end Packed

end Cert.InArith

end
-- ==== Proof.InRef.lean ====
/- The reference of the input projection, read at one index: each of its results against the functions of `InRow`. -/
module

public import proofs.«01_k».proof.Proof.Gen.Reference2Ideal.Read
public import proofs.«01_k».proof.Proof.InRow

@[expose] public section

set_option maxRecDepth 16384

noncomputable section

namespace Cert.InRef

open Idealize.ShloMosaic Idealize.ShloMosaic.TcCoe
open Cert.Reference2Ideal Cert.Reference2Ideal.Gen Cert.Reference2Ideal.Read Cert.FinalRow Cert.InRow

variable (x0 : FVec Ideal S4x4096x1024 .f32) (x1 : FVec Ideal S1024 .f32) (x2 : FVec Ideal S1024x4888 .f32) (x3 x4 : FVec Ideal S4096x32 .f32)

/-- The projected row `t` of batch entry `b`. -/
abbrev P (b : Fin 4) (t : Fin 4096) : Fin 4888 → EReal :=
  projRow (fun k => x0 (ix3 b t k)) (fun k => x1 (ix1 k)) (fun k j => x2 (ix2 k j))

/-- The normalised input row. -/
theorem h_at (b : Fin 4) (t : Fin 4096) (k : Fin 1024) :
    val_main_v12 (F := Ideal) x0 x1 (ix3 b t k) = rmsRow (fun k => x0 (ix3 b t k)) (fun k => x1 (ix1 k)) k := by
  pointwise [val_main_v12, val_main_v9, val_main_v8, val_main_v7, val_main_v6, val_main_v5, val_main_v4, val_main_v3, val_main_v2, val_main_v1,
    val_main_v0, val_main_v11, val_main_v10, val_main_cst, val_main_cst_0, val_main_cst_1, rmsRow]

/-- The projected row. -/
theorem proj_at (b : Fin 4) (t : Fin 4096) (j : Fin 4888) :
    val_main_v13 (F := Ideal) x0 x1 x2 (ix3 b t j) = P x0 x1 x2 b t j := by
  pointwise [val_main_v13, h_at, dotRow, projRow]

/-- The plain columns. -/
theorem kc_at (b : Fin 4) (t : Fin 4096) (j : Fin 128) :
    val_main_v15 (F := Ideal) x0 x1 x2 (ix3 b t j) = P x0 x1 x2 b t ⟨512 + j.val, by omega⟩ := by
  pointwise [val_main_v15, proj_at]

theorem vc_at (b : Fin 4) (t : Fin 4096) (j : Fin 128) :
    val_main_v16 (F := Ideal) x0 x1 x2 (ix3 b t j) = P x0 x1 x2 b t ⟨640 + j.val, by omega⟩ := by
  pointwise [val_main_v16, proj_at]

/-- The recurrence's input, eight rows packed in one. -/
theorem u_at (b : Fin 4) (q : Fin 512) (j : Fin 4096) :
    val_main_v112 (F := Ideal) x0 x1 x2 (ix3 b q j)
      = P x0 x1 x2 b ⟨q.val * 8 + j.val / 512, by omega⟩ ⟨1816 + j.val % 512, by omega⟩ := by
  pointwise [val_main_v112, val_main_v22, proj_at]

/-- The rotation as the reference writes it. -/
theorem rope_form (p : Fin 64 → EReal) (c s : Fin 32 → EReal) (d : Fin 64) :
    (if h : d.val < 32 then p d * c ⟨d.val, h⟩ - p ⟨32 + d.val, by omega⟩ * s ⟨d.val, h⟩
      else p ⟨32 + (d.val - 32), by omega⟩ * c ⟨d.val - 32, by omega⟩ + p ⟨d.val - 32, by omega⟩ * s ⟨d.val - 32, by omega⟩)
      = ropeRow p c s d := by
  unfold ropeRow
  split
  · have e : (⟨32 + d.val, by omega⟩ : Fin 64) = ⟨d.val + 32, by omega⟩ := by ext; simp; omega
    rw [e, sub_eq_add_neg, mul_neg]
  · have e : (⟨32 + (d.val - 32), by omega⟩ : Fin 64) = d := by ext; simp; omega
    rw [e]

/-- The scaled queries, head by head. -/
theorem q_at (b : Fin 4) (t : Fin 4096) (h : Fin 8) (d : Fin 64) :
    val_main_v25 (F := Ideal) x0 x1 x2 (ix4 b t h d) = P x0 x1 x2 b t ⟨h.val * 64 + d.val, by omega⟩ * scale := by
  pointwise [val_main_v25, val_main_v24, val_main_v23, val_main_v14, val_main_cst_2, proj_at, scale]

theorem rope_q_at (b : Fin 4) (t : Fin 4096) (h : Fin 8) (d : Fin 64) :
    val_main_v61 (F := Ideal) x0 x1 x2 x3 x4 (ix4 b t h d)
      = ropeRow (fun d => val_main_v25 (F := Ideal) x0 x1 x2 (ix4 b t h d)) (fun d => x3 (ix2 t d)) (fun d => x4 (ix2 t d)) d := by
  pointwise [val_main_v61, val_main_v60, val_main_v59, val_main_v58, val_main_v57, val_main_v56, val_main_v55, val_main_v54, val_main_v53,
    val_main_v52, val_main_v51, val_main_v50, val_main_v49, val_main_v48, val_main_v47]
  exact rope_form (fun d => val_main_v25 (F := Ideal) x0 x1 x2 (ix4 b t h d)) (fun d => x3 (ix2 t d)) (fun d => x4 (ix2 t d)) d

/-- The queries: each head rotated, with the unrotated head beside it. -/
theorem qq_at (b : Fin 4) (h : Fin 8) (t : Fin 4096) (l : Fin 128) :
    val_main_v64 (F := Ideal) x0 x1 x2 x3 x4 (ix4 b h t l)
      = besideRow (fun d => P x0 x1 x2 b t ⟨h.val * 64 + d.val, by omega⟩ * scale) (fun d => x3 (ix2 t d)) (fun d => x4 (ix2 t d))
          (fun d => P x0 x1 x2 b t ⟨h.val * 64 + d.val, by omega⟩ * scale) l := by
  pointwise [val_main_v64, val_main_v63, val_main_v62, rope_q_at, q_at, besideRow]

theorem k_at (b : Fin 4) (t : Fin 4096) (h : Fin 2) (d : Fin 64) :
    val_main_v65 (F := Ideal) x0 x1 x2 (ix4 b t h d) = P x0 x1 x2 b t ⟨768 + (h.val * 64 + d.val), by omega⟩ := by
  pointwise [val_main_v65, val_main_v17, proj_at]

theorem rope_k_at (b : Fin 4) (t : Fin 4096) (h : Fin 2) (d : Fin 64) :
    val_main_v80 (F := Ideal) x0 x1 x2 x3 x4 (ix4 b t h d)
      = ropeRow (fun d => val_main_v65 (F := Ideal) x0 x1 x2 (ix4 b t h d)) (fun d => x3 (ix2 t d)) (fun d => x4 (ix2 t d)) d := by
  pointwise [val_main_v80, val_main_v79, val_main_v78, val_main_v77, val_main_v76, val_main_v75, val_main_v74, val_main_v73, val_main_v72,
    val_main_v71, val_main_v70, val_main_v69, val_main_v68, val_main_v67, val_main_v66]
  exact rope_form (fun d => val_main_v65 (F := Ideal) x0 x1 x2 (ix4 b t h d)) (fun d => x3 (ix2 t d)) (fun d => x4 (ix2 t d)) d

/-- A comparison's bit as a number. -/
theorem bit_at (a b : ℕ) (ha : a < 4096) (hb : b < 4096) :
    (FloatOps.uitofp (F := Ideal) FTy.f32 (IntOp.cmpi .eq (BitVec.ofNat 32 a) (BitVec.ofNat 32 b))) = if a = b then (1 : EReal) else 0 := by
  have e : (BitVec.ofNat 32 a = BitVec.ofNat 32 b) ↔ a = b := by
    rw [← BitVec.toNat_inj, BitVec.toNat_ofNat, BitVec.toNat_ofNat, Nat.mod_eq_of_lt (by omega), Nat.mod_eq_of_lt (by omega)]
  show (((IntOp.cmpi .eq (BitVec.ofNat 32 a) (BitVec.ofNat 32 b)).toNat : ℝ) : EReal) = _
  by_cases h : a = b
  · subst h; simp [IntOp.cmpi]
  · simp [IntOp.cmpi, e, h]

/-- The block's number as a one-hot row. -/
theorem hot_at (b : Fin 4) (t : Fin 4096) (h : Fin 2) (d : Fin 64) :
    val_main_v35 (F := Ideal) (ix4 b t h d) = if t.val / 64 = d.val then (1 : EReal) else 0 := by
  pointwise [val_main_v35, val_main_v34, val_main_v33, val_main_v32, val_main_v31, val_main_v30, val_main_v29, val_main_v28,
    val_main_v27, val_main_v26, val_main_c]
  rw [show IntOp.addi (BitVec.ofNat 32 (t.val / 64)) 0#32 = BitVec.ofNat 32 (t.val / 64) from BitVec.add_zero _]
  exact bit_at _ _ (by omega) (by omega)

/-- The selected branch's keys. -/
theorem ks_at (b : Fin 4) (h : Fin 2) (t : Fin 4096) (l : Fin 128) :
    val_main_v83 (F := Ideal) x0 x1 x2 x3 x4 (ix4 b h t l)
      = besideRow (fun d => P x0 x1 x2 b t ⟨768 + (h.val * 64 + d.val), by omega⟩) (fun d => x3 (ix2 t d)) (fun d => x4 (ix2 t d))
          (fun d => if t.val / 64 = d.val then (1 : EReal) else 0) l := by
  pointwise [val_main_v83, val_main_v82, val_main_v81, rope_k_at, k_at, hot_at, besideRow]

theorem under_form (v : Fin 64 → EReal) (d : Fin 80) :
    (if h : d.val < 64 then v ⟨d.val, h⟩ else if h : d.val - 64 < 1 then 1 else 0) = underCol v d := by
  have e : d.val < 64 ∨ d.val = 64 ∨ 64 < d.val := by omega
  unfold underCol
  rcases e with h | h | h
  · simp [h]
  · simp [h]
  · have h1 : ¬ d.val < 64 := by omega
    have h2 : ¬ d.val - 64 < 1 := by omega
    have h3 : ¬ d.val = 64 := by omega
    simp [h1, h2, h3]

/-- The selected branch's values. -/
theorem vs_at (b : Fin 4) (h : Fin 2) (d : Fin 80) (t : Fin 4096) :
    val_main_v87 (F := Ideal) x0 x1 x2 (ix4 b h d t)
      = underCol (fun d => P x0 x1 x2 b t ⟨896 + (h.val * 64 + d.val), by omega⟩) d := by
  pointwise [val_main_v87, val_main_v86, val_main_v85, val_main_v84, val_main_v18, val_main_v38, val_main_v37, val_main_v36, val_main_cst_3,
    val_main_cst_4, proj_at, underCol]
  exact under_form (fun d => P x0 x1 x2 b t ⟨896 + (h.val * 64 + d.val), by omega⟩) d

theorem kw0_at (b : Fin 4) (t : Fin 4096) (h : Fin 2) (d : Fin 64) :
    val_main_v88 (F := Ideal) x0 x1 x2 (ix4 b t h d) = P x0 x1 x2 b t ⟨1024 + (h.val * 64 + d.val), by omega⟩ := by
  pointwise [val_main_v88, val_main_v19, proj_at]

theorem rope_kw_at (b : Fin 4) (t : Fin 4096) (h : Fin 2) (d : Fin 64) :
    val_main_v103 (F := Ideal) x0 x1 x2 x3 x4 (ix4 b t h d)
      = ropeRow (fun d => val_main_v88 (F := Ideal) x0 x1 x2 (ix4 b t h d)) (fun d => x3 (ix2 t d)) (fun d => x4 (ix2 t d)) d := by
  pointwise [val_main_v103, val_main_v102, val_main_v101, val_main_v100, val_main_v99, val_main_v98, val_main_v97, val_main_v96, val_main_v95,
    val_main_v94, val_main_v93, val_main_v92, val_main_v91, val_main_v90, val_main_v89]
  exact rope_form (fun d => val_main_v88 (F := Ideal) x0 x1 x2 (ix4 b t h d)) (fun d => x3 (ix2 t d)) (fun d => x4 (ix2 t d)) d

/-- The window branch's keys. -/
theorem kw_at (b : Fin 4) (h : Fin 2) (t : Fin 4096) (l : Fin 128) :
    val_main_v107 (F := Ideal) x0 x1 x2 x3 x4 (ix4 b h t l)
      = besideRow (fun d => P x0 x1 x2 b t ⟨1024 + (h.val * 64 + d.val), by omega⟩) (fun d => x3 (ix2 t d)) (fun d => x4 (ix2 t d))
          (fun _ => 0) l := by
  pointwise [val_main_v107, val_main_v106, val_main_v105, val_main_v104, val_main_cst_8, rope_kw_at, kw0_at, besideRow]

/-- The window branch's values. -/
theorem vw_at (b : Fin 4) (h : Fin 2) (d : Fin 80) (t : Fin 4096) :
    val_main_v111 (F := Ideal) x0 x1 x2 (ix4 b h d t)
      = underCol (fun d => P x0 x1 x2 b t ⟨1152 + (h.val * 64 + d.val), by omega⟩) d := by
  pointwise [val_main_v111, val_main_v110, val_main_v109, val_main_v108, val_main_v20, val_main_v38, val_main_v37, val_main_v36, val_main_cst_3,
    val_main_cst_4, proj_at, underCol]
  exact under_form (fun d => P x0 x1 x2 b t ⟨1152 + (h.val * 64 + d.val), by omega⟩) d

/-- The padding is the integer zero converted. -/
theorem pad_zero : (FloatOps.sitofp (F := Ideal) FTy.f32 (0#32 : BitVec 32)) = (0 : EReal) :=
  show (((0#32 : BitVec 32).toInt : ℝ) : EReal) = 0 by simp

/-- The gates: 24 columns, and eight more that stand at the gate of zero. -/
theorem gates_at (b : Fin 4) (d : Fin 32) (t : Fin 4096) :
    val_main_v46 (F := Ideal) x0 x1 x2 (ix3 b d t)
      = sgm (if h : d.val < 24 then P x0 x1 x2 b t ⟨1280 + d.val, by omega⟩ else 0) := by
  pointwise [val_main_v46, val_main_v45, val_main_v44, val_main_v43, val_main_v42, val_main_v41, val_main_v40, val_main_v39, val_main_v21,
    val_main_call0_v0, val_main_c_5, val_main_cst_6, val_main_cst_7, proj_at]
  rw [pad_zero, sgm]

end Cert.InRef

end
-- ==== Proof.InKernel.lean ====
/- The operands of the input projection's kernel: what the host prepares from the arguments, and the blocks a grid point is given. -/
module

public import proofs.«01_k».proof.Proof.InArith
public import proofs.«01_k».proof.Proof.InRef

@[expose] public section

set_option maxRecDepth 16384

noncomputable section

namespace Cert.InKernel

open Idealize.ShloMosaic Idealize.ShloMosaic.TcCoe Idealize.SL.Sem
open Idealize.ShloMosaic.Pipeline (Dat)
open Cert.Kernel2Ideal Cert.Kernel2Ideal.Gen Cert.FinalRow Cert.InRow

variable (m : (ℓ : Loc nD τ sig) → Buf (Elt Ideal) ℓ)

/-! ## The operands the host prepares -/

section Entry
variable (c : Dev nD)

theorem g_entry (k : Fin 1024) : V m c main_v10 (ix2 0 k) = m ((c : Thread nD τ).loc main_arg1) (ix1 k) := by
  simp only [V, hostOps0, hostOps0_1, hostOps0_2, List.flatten_cons, List.flatten_nil, List.append_nil, List.cons_append, List.nil_append]
  entry_read
  pointwise []

/-- The packed columns: 104 columns of zeros stand behind column 1304. -/
def packed (w : FVec Ideal S1024x4888 .f32) (k : Fin 1024) (j : Fin 4992) : EReal :=
  if h : j.val < 1304 then w (ix2 k ⟨j.val, by omega⟩) else if j.val < 1408 then 0 else w (ix2 k ⟨j.val - 104, by omega⟩)

theorem packed_form (w : FVec Ideal S1024x4888 .f32) (k : Fin 1024) (j : Fin 4992) :
    (if h : j.val < 1280 then w (ix2 k ⟨j.val, by omega⟩)
      else if h : j.val - 1280 < 128 then
        if h : j.val - 1280 < 24 then w (ix2 k ⟨1280 + (j.val - 1280), by omega⟩) else (0 : EReal)
      else w (ix2 k ⟨1304 + (j.val - 1280 - 128), by omega⟩)) = packed w k j := by
  unfold packed
  by_cases h1 : j.val < 1280
  · rw [dif_pos h1, dif_pos (by omega)]
  · rw [dif_neg h1]
    by_cases h2 : j.val - 1280 < 128
    · rw [dif_pos h2]
      by_cases h3 : j.val - 1280 < 24
      · rw [dif_pos h3, dif_pos (by omega)]
        exact congrArg (fun j => w (ix2 k j)) (Fin.ext (by simp only []; omega))
      · rw [dif_neg h3, dif_neg (by omega), if_pos (by omega)]
    · rw [dif_neg h2, dif_neg (by omega), if_neg (by omega)]
      exact congrArg (fun j => w (ix2 k j)) (Fin.ext (by simp only []; omega))

theorem four_form (a b d e : Fin 32 → EReal) (l : Fin 128) :
    (if h : l.val < 32 then a ⟨l.val, h⟩ else if h : l.val - 32 < 32 then b ⟨l.val - 32, h⟩
      else if h : l.val - 32 - 32 < 32 then d ⟨l.val - 32 - 32, h⟩ else e ⟨l.val - 32 - 32 - 32, by omega⟩)
      = if l.val < 32 then a ⟨l.val % 32, by omega⟩ else if l.val < 64 then b ⟨l.val % 32, by omega⟩
        else if l.val < 96 then d ⟨l.val % 32, by omega⟩ else e ⟨l.val % 32, by omega⟩ := by
  by_cases h1 : l.val < 32
  · rw [dif_pos h1, if_pos h1]
    exact congrArg a (Fin.ext (by simp only []; omega))
  · rw [dif_neg h1, if_neg h1]
    by_cases h2 : l.val - 32 < 32
    · rw [dif_pos h2, if_pos (by omega)]
      exact congrArg b (Fin.ext (by simp only []; omega))
    · rw [dif_neg h2, if_neg (by omega)]
      by_cases h3 : l.val - 32 - 32 < 32
      · rw [dif_pos h3, if_pos (by omega)]
        exact congrArg d (Fin.ext (by simp only []; omega))
      · rw [dif_neg h3, if_neg (by omega)]
        exact congrArg e (Fin.ext (by simp only []; omega))

theorem cat_at (w : FVec Ideal S1024x4888 .f32) (a : FVec Ideal S1024x1280 .f32) (b : FVec Ideal S1024x128 .f32) (d : FVec Ideal S1024x3584 .f32) (h)
    (k : Fin 1024) (j : Fin 4992) (ha : ∀ j, a (ix2 k j) = w (ix2 k ⟨j.val, by omega⟩))
    (hb : ∀ j, b (ix2 k j) = if h : j.val < 24 then w (ix2 k ⟨1280 + j.val, by omega⟩) else 0)
    (hd : ∀ j, d (ix2 k j) = w (ix2 k ⟨1304 + j.val, by omega⟩)) :
    concatenate S1024x4992 1 [⟨S1024x1280, a⟩, ⟨S1024x128, b⟩, ⟨S1024x3584, d⟩] h (ix2 k j) = packed w k j := by
  pointwise [ha, hb, hd]
  exact packed_form w k j

theorem cat4_at (a b d e : FVec Ideal S4096x32 .f32) (h) (r : Fin 4096) (l : Fin 128) :
    concatenate S4096x128 1 [⟨S4096x32, a⟩, ⟨S4096x32, b⟩, ⟨S4096x32, d⟩, ⟨S4096x32, e⟩] h (ix2 r l)
      = if l.val < 32 then a (ix2 r ⟨l.val % 32, by omega⟩) else if l.val < 64 then b (ix2 r ⟨l.val % 32, by omega⟩)
        else if l.val < 96 then d (ix2 r ⟨l.val % 32, by omega⟩) else e (ix2 r ⟨l.val % 32, by omega⟩) := by
  pointwise []
  exact four_form (fun l => a (ix2 r l)) (fun l => b (ix2 r l)) (fun l => d (ix2 r l)) (fun l => e (ix2 r l)) l

/-- A conversion between floats is the identity. -/
theorem truncf_at (x : FVec Ideal S1024x4992 .f32) (i) : (show EReal from truncf .bf16 x bitsLt_bf16_f32 i) = x i := by
  pointwise []

/-- The gate columns with their zeros. -/
theorem pad_at (w : FVec Ideal S1024x4888 .f32) (h) (k : Fin 1024) (j : Fin 128) :
    pad S1024x128 ![0, 0] ![0, 104] ![0, 0] (extractStridedSlice S1024x24 ![0, 1280] w slices_S1024x4888_S1024x24_0_1280)
      (sitofp (F := Ideal) .f32 (constantI S_ 32 0#32)) h h_S_ (ix2 k j)
      = if h : j.val < 24 then w (ix2 k ⟨1280 + j.val, by omega⟩) else 0 := by
  pointwise []
  rw [InRef.pad_zero]

theorem sign_form (a b : EReal) (l : Fin 128) :
    (if l.val < 32 then a else if l.val < 64 then b else if l.val < 96 then a else b) = if l.val % 64 < 32 then a else b := by
  split_ifs <;> first | rfl | omega

/-- The three packings, over any contents before them. -/
theorem w_nary (σ : Valuation τ sig (Elt Ideal)) (h1) (h2) :
    ((StableHlo.nary ![main_v0, main_v2, main_v3] main_v4 (fun u => (concatenate S1024x4992 1
      [⟨S1024x1280, (u 0 : (⟨S1024x1280, .f32⟩ : BufTy).Contents (Elt Ideal))⟩, ⟨S1024x128, (u 1 : (⟨S1024x128, .f32⟩ : BufTy).Contents (Elt Ideal))⟩,
        ⟨S1024x3584, (u 2 : (⟨S1024x3584, .f32⟩ : BufTy).Contents (Elt Ideal))⟩] concatenates_S1024x1280_S1024x128_S1024x3584_S1024x4992_d1
          : (⟨S1024x4992, .f32⟩ : BufTy).Contents (Elt Ideal))) h1 h2).result σ main_v4 : FVec Ideal S1024x4992 .f32)
      = concatenate S1024x4992 1 [⟨S1024x1280, (σ main_v0 : FVec Ideal S1024x1280 .f32)⟩, ⟨S1024x128, (σ main_v2 : FVec Ideal S1024x128 .f32)⟩,
        ⟨S1024x3584, (σ main_v3 : FVec Ideal S1024x3584 .f32)⟩] concatenates_S1024x1280_S1024x128_S1024x3584_S1024x4992_d1 :=
  StableHlo.nary_result ..

theorem cos_nary (σ : Valuation τ sig (Elt Ideal)) (h1) (h2) :
    ((StableHlo.nary ![main_arg3, main_arg3, main_arg3, main_arg3] main_v6 (fun u => (concatenate S4096x128 1
      [⟨S4096x32, (u 0 : (⟨S4096x32, .f32⟩ : BufTy).Contents (Elt Ideal))⟩, ⟨S4096x32, (u 1 : (⟨S4096x32, .f32⟩ : BufTy).Contents (Elt Ideal))⟩,
        ⟨S4096x32, (u 2 : (⟨S4096x32, .f32⟩ : BufTy).Contents (Elt Ideal))⟩, ⟨S4096x32, (u 3 : (⟨S4096x32, .f32⟩ : BufTy).Contents (Elt Ideal))⟩]
        concatenates_S4096x32_S4096x32_S4096x32_S4096x32_S4096x128_d1 : (⟨S4096x128, .f32⟩ : BufTy).Contents (Elt Ideal))) h1 h2).result σ main_v6
        : FVec Ideal S4096x128 .f32)
      = concatenate S4096x128 1 [⟨S4096x32, (σ main_arg3 : FVec Ideal S4096x32 .f32)⟩, ⟨S4096x32, (σ main_arg3 : FVec Ideal S4096x32 .f32)⟩,
        ⟨S4096x32, (σ main_arg3 : FVec Ideal S4096x32 .f32)⟩, ⟨S4096x32, (σ main_arg3 : FVec Ideal S4096x32 .f32)⟩]
        concatenates_S4096x32_S4096x32_S4096x32_S4096x32_S4096x128_d1 :=
  StableHlo.nary_result ..

theorem sin_nary (σ : Valuation τ sig (Elt Ideal)) (h1) (h2) :
    ((StableHlo.nary ![main_v7, main_arg4, main_v8, main_arg4] main_v9 (fun u => (concatenate S4096x128 1
      [⟨S4096x32, (u 0 : (⟨S4096x32, .f32⟩ : BufTy).Contents (Elt Ideal))⟩, ⟨S4096x32, (u 1 : (⟨S4096x32, .f32⟩ : BufTy).Contents (Elt Ideal))⟩,
        ⟨S4096x32, (u 2 : (⟨S4096x32, .f32⟩ : BufTy).Contents (Elt Ideal))⟩, ⟨S4096x32, (u 3 : (⟨S4096x32, .f32⟩ : BufTy).Contents (Elt Ideal))⟩]
        concatenates_S4096x32_S4096x32_S4096x32_S4096x32_S4096x128_d1 : (⟨S4096x128, .f32⟩ : BufTy).Contents (Elt Ideal))) h1 h2).result σ main_v9
        : FVec Ideal S4096x128 .f32)
      = concatenate S4096x128 1 [⟨S4096x32, (σ main_v7 : FVec Ideal S4096x32 .f32)⟩, ⟨S4096x32, (σ main_arg4 : FVec Ideal S4096x32 .f32)⟩,
        ⟨S4096x32, (σ main_v8 : FVec Ideal S4096x32 .f32)⟩, ⟨S4096x32, (σ main_arg4 : FVec Ideal S4096x32 .f32)⟩]
        concatenates_S4096x32_S4096x32_S4096x32_S4096x32_S4096x128_d1 :=
  StableHlo.nary_result ..

theorem w_entry (k : Fin 1024) (j : Fin 4992) : V m c main_v5 (ix2 k j) = packed (m ((c : Thread nD τ).loc main_arg2)) k j := by
  simp only [V, List.flatten_cons, List.flatten_nil, List.append_nil, hostOps0, hostOps0_1, hostOps0_2, List.cons_append, List.nil_append,
    StableHlo.after_cons, StableHlo.after_nil]
  rw [StableHlo.unary_result_ne, StableHlo.nary_result_ne, StableHlo.unary_result_ne, StableHlo.unary_result_ne, StableHlo.nary_result_ne,
    StableHlo.unary_result]
  any_goals decide
  refine Eq.trans (truncf_at ..) ?_
  rw [w_nary]
  refine cat_at _ _ _ _ _ k j (fun j => ?_) (fun j => ?_) (fun j => ?_)
  · after_results_simp
    pointwise []
  · after_results_simp
    exact pad_at _ pads_S1024x24_S1024x128_000_01040 k j
  · after_results_simp
    pointwise []

/-- The doubled cosines. -/
theorem cos_entry (r : Fin 4096) (l : Fin 128) :
    V m c main_v6 (ix2 r l) = m ((c : Thread nD τ).loc main_arg3) (ix2 r ⟨l.val % 32, by omega⟩) := by
  simp only [V, List.flatten_cons, List.flatten_nil, List.append_nil, hostOps0, hostOps0_1, hostOps0_2, List.cons_append, List.nil_append,
    StableHlo.after_cons, StableHlo.after_nil]
  rw [StableHlo.unary_result_ne, StableHlo.nary_result_ne, StableHlo.unary_result_ne, StableHlo.unary_result_ne, cos_nary]
  any_goals decide
  refine (cat4_at ..).trans ?_
  after_results_simp
  simp only [ite_self]

/-- The doubled sines, negative for the first half of a head. -/
theorem sin_entry (r : Fin 4096) (l : Fin 128) :
    V m c main_v9 (ix2 r l) = (show EReal from if l.val % 64 < 32 then -(show EReal from m ((c : Thread nD τ).loc main_arg4) (ix2 r ⟨l.val % 32, by omega⟩))
      else m ((c : Thread nD τ).loc main_arg4) (ix2 r ⟨l.val % 32, by omega⟩)) := by
  simp only [V, List.flatten_cons, List.flatten_nil, List.append_nil, hostOps0, hostOps0_1, hostOps0_2, List.cons_append, List.nil_append,
    StableHlo.after_cons, StableHlo.after_nil]
  rw [StableHlo.unary_result_ne, sin_nary]
  any_goals decide
  refine (cat4_at ..).trans ?_
  after_results_simp
  pointwise []
  exact sign_form _ _ l

end Entry

/-! ## The blocks of a grid point -/

section Blocks
variable (c : Dev nD) (t : Fin cfg0.N)

theorem t_lt (t : Fin cfg0.N) : t.val < 32 := lt_of_lt_of_eq t.isLt (by decide)

/-- The batch and the row of the arrays at row `r` of a grid point's blocks. -/
abbrev bat (t : Fin cfg0.N) : Fin 4 := ⟨t.val / 8, by have := t_lt t; omega⟩
abbrev row (t : Fin cfg0.N) (r : Fin 512) : Fin 4096 := ⟨t.val % 8 * 512 + r.val, by omega⟩

/-- The blocks of a grid point (batch `t / 8`, row tile `t % 8` of 512 rows). -/
theorem idx : ∀ t : Fin cfg0.N, win0_0.index t = ![t.val / 8, t.val % 8, 0] ∧ win0_1.index t = ![0, 0] ∧ win0_2.index t = ![0, 0]
    ∧ win0_3.index t = ![t.val % 8, 0] ∧ win0_4.index t = ![t.val % 8, 0] ∧ win0_5.index t = ![t.val / 8, 0, t.val % 8, 0]
    ∧ win0_6.index t = ![t.val / 8, t.val % 8, 0] ∧ win0_7.index t = ![t.val / 8, t.val % 8, 0]
    ∧ win0_8.index t = ![t.val / 8, 0, t.val % 8, 0] ∧ win0_9.index t = ![t.val / 8, 0, 0, t.val % 8]
    ∧ win0_10.index t = ![t.val / 8, 0, t.val % 8, 0] ∧ win0_11.index t = ![t.val / 8, 0, 0, t.val % 8]
    ∧ win0_12.index t = ![t.val / 8, 0, t.val % 8] ∧ win0_13.index t = ![t.val / 8, t.val % 8, 0] :=
  (by decide +kernel : ∀ t : Fin grid0.N, _)

/-- The row-tile coordinate of a grid point. -/
theorem coord1 : ∀ t : Fin cfg0.N, (grid0.coords t 1).val = t.val % 8 := (by decide +kernel : ∀ t : Fin grid0.N, _)

theorem x_blk (r : Fin 512) (k : Fin 1024) :
    iblk m c 0 t (ix3 0 r k) = m ((c : Thread nD τ).loc main_arg0) (ix3 (bat t) (row t r) k) := by
  rw [← V_main_arg0 m c]
  blk_ext [iblk, idx t]

theorem g_blk (k : Fin 1024) : iblk m c 1 t (ix2 0 k) = m ((c : Thread nD τ).loc main_arg1) (ix1 k) := by
  rw [← g_entry m c k]
  blk_ext [iblk, idx t]

theorem w_blk (k : Fin 1024) (j : Fin 4992) : iblk m c 2 t (ix2 k j) = packed (m ((c : Thread nD τ).loc main_arg2)) k j := by
  rw [← w_entry m c k j]
  blk_ext [iblk, idx t]

/-- The tables of a grid point's rows. -/
theorem tables : InArith.Tables (k0_pay2 (F := Ideal) (iblk m c 3 t)) (k0_pay3 (F := Ideal) (iblk m c 4 t))
    (fun r d => m ((c : Thread nD τ).loc main_arg3) (ix2 (row t r) d)) (fun r d => m ((c : Thread nD τ).loc main_arg4) (ix2 (row t r) d)) where
  cos r l := by
    rw [← cos_entry m c]
    pointwise [k0_pay2]
    blk_ext [iblk, idx t]
  sin r l := by
    refine .trans ?_ (sin_entry m c (row t r) l)
    pointwise [k0_pay3]
    blk_ext [iblk, idx t]

/-- The projected row of an array row. -/
abbrev P (r : Fin 512) : Fin 4888 → EReal :=
  InRef.P (m ((c : Thread nD τ).loc main_arg0)) (m ((c : Thread nD τ).loc main_arg1)) (m ((c : Thread nD τ).loc main_arg2)) (bat t) (row t r)

theorem wa_ld (h) (k : Fin 1024) (j : Fin 512) :
    View.ld (iblk m c 2 t) (Rect.unit (s := S1024x4992) ![0, 0] ![1024, 512] h) (ix2 k j)
      = m ((c : Thread nD τ).loc main_arg2) (ix2 k ⟨j.val, by omega⟩) := by
  have e : (Rect.unit (s := S1024x4992) ![0, 0] ![1024, 512] h).idx (ix2 k j) = ix2 k ⟨j.val, by omega⟩ := by blk_ext <;> simp
  rw [View.ld_apply, e, w_blk]
  unfold packed
  rw [dif_pos (show j.val < 1304 by omega)]

theorem wb_ld (h) (k : Fin 1024) (j : Fin 896) :
    View.ld (iblk m c 2 t) (Rect.unit (s := S1024x4992) ![0, 512] ![1024, 896] h) (ix2 k j)
      = if h : j.val < 792 then m ((c : Thread nD τ).loc main_arg2) (ix2 k ⟨512 + j.val, by omega⟩) else (0 : EReal) := by
  have e : (Rect.unit (s := S1024x4992) ![0, 512] ![1024, 896] h).idx (ix2 k j) = ix2 k ⟨512 + j.val, by omega⟩ := by blk_ext <;> simp
  rw [View.ld_apply, e, w_blk]
  unfold packed
  by_cases h : j.val < 792
  · rw [dif_pos (show 512 + j.val < 1304 by omega), dif_pos h]
  · rw [dif_neg (show ¬ 512 + j.val < 1304 by omega), dif_neg h, if_pos (show 512 + j.val < 1408 by omega)]

theorem wc_ld (h) (k : Fin 1024) (j : Fin 512) :
    View.ld (iblk m c 2 t) (Rect.unit (s := S1024x4992) ![0, 1920] ![1024, 512] h) (ix2 k j)
      = m ((c : Thread nD τ).loc main_arg2) (ix2 k ⟨1816 + j.val, by omega⟩) := by
  have e : (Rect.unit (s := S1024x4992) ![0, 1920] ![1024, 512] h).idx (ix2 k j) = ix2 k ⟨1920 + j.val, by omega⟩ := by blk_ext <;> simp
  rw [View.ld_apply, e, w_blk]
  unfold packed
  rw [dif_neg (show ¬ 1920 + j.val < 1304 by omega), if_neg (show ¬ 1920 + j.val < 1408 by omega)]
  exact congrArg (fun j => m ((c : Thread nD τ).loc main_arg2) (ix2 k j)) (Fin.ext (by simp only []; omega))

theorem row_cols {n p q : ℕ} {h h' : Fin n → EReal} {w : Fin n → Fin p → EReal} {w' : Fin n → Fin q → EReal} {j : Fin p} {j' : Fin q}
    (hh : ∀ k, h k = h' k) (hw : ∀ k, w k j = w' k j') : dotRow h w j = dotRow h' w' j' := by
  unfold dotRow
  exact Finset.sum_congr rfl fun k _ => congrArg₂ (· * ·) (hh k) (hw k)

theorem row_zero {n p : ℕ} {h : Fin n → EReal} {w : Fin n → Fin p → EReal} {j : Fin p} (hw : ∀ k, w k j = 0) : dotRow h w j = 0 := by
  unfold dotRow
  exact Finset.sum_eq_zero fun k _ => by rw [hw, mul_zero]

theorem rms_blk (r : Fin 512) (k : Fin 1024) :
    rmsRow (fun k => iblk m c 0 t (ix3 0 r k)) (fun k => iblk m c 1 t (ix2 0 k)) k
      = rmsRow (fun k => m ((c : Thread nD τ).loc main_arg0) (ix3 (bat t) (row t r) k)) (fun k => m ((c : Thread nD τ).loc main_arg1) (ix1 k)) k :=
  congrFun (congrArg₂ rmsRow (funext (x_blk m c t r)) (funext (g_blk m c t))) k

/-- The first 512 projected columns of a grid point's rows. -/
theorem pa_at (h) (r : Fin 512) (j : Fin 512) :
    k0_pay6 (F := Ideal) (iblk m c 0 t) (iblk m c 1 t) (View.ld (iblk m c 2 t) (Rect.unit (s := S1024x4992) ![0, 0] ![1024, 512] h)) (ix2 r j)
      = P m c t r ⟨j.val, by omega⟩ := by
  refine (InArith.pay6_at ..).trans ?_
  exact row_cols (rms_blk m c t r) fun k => wa_ld m c t h k j

/-- The next 896 packed columns: 792 projected columns and zeros. -/
theorem pb_at (h) (r : Fin 512) (j : Fin 896) :
    k0_pay26 (F := Ideal) (k0_pay1 (F := Ideal) (iblk m c 0 t) (iblk m c 1 t))
        (View.ld (iblk m c 2 t) (Rect.unit (s := S1024x4992) ![0, 512] ![1024, 896] h)) (ix2 r j)
      = if h : j.val < 792 then P m c t r ⟨512 + j.val, by omega⟩ else 0 := by
  refine (InArith.pay26_at ..).trans ?_
  by_cases h7 : j.val < 792
  · rw [dif_pos h7]
    exact row_cols (rms_blk m c t r) fun k => (wb_ld m c t h k j).trans (dif_pos h7)
  · rw [dif_neg h7]
    exact row_zero fun k => (wb_ld m c t h k j).trans (dif_neg h7)

/-- The columns of the recurrence's input. -/
theorem pc_at (h) (r : Fin 512) (j : Fin 512) :
    k0_pay49 (F := Ideal) (k0_pay1 (F := Ideal) (iblk m c 0 t) (iblk m c 1 t))
        (View.ld (iblk m c 2 t) (Rect.unit (s := S1024x4992) ![0, 1920] ![1024, 512] h)) (ix2 r j)
      = P m c t r ⟨1816 + j.val, by omega⟩ := by
  refine (InArith.pay49_at ..).trans ?_
  exact row_cols (rms_blk m c t r) fun k => wc_ld m c t h k j
end Blocks

end Cert.InKernel
end
-- ==== Proof.InValue.lean ====
/- The arrays the kernel of the input projection leaves, all but the recurrence's input: at every index the reference's values. -/
module

public import proofs.«01_k».proof.Proof.InKernel

@[expose] public section

set_option maxRecDepth 16384

noncomputable section

namespace Cert.InKernel

open Idealize.ShloMosaic Idealize.ShloMosaic.TcCoe Idealize.SL.Sem
open Idealize.ShloMosaic.Pipeline (Dat)
open Cert.Kernel2Ideal Cert.Kernel2Ideal.Gen Cert.FinalRow Cert.InRow
open Cert.Reference2Ideal.Read

variable (m : (ℓ : Loc nD τ sig) → Buf (Elt Ideal) ℓ)

section Columns
variable (c : Dev nD) (t : Fin cfg0.N)

/-- The 896 packed columns from 512 on, of a grid point's rows. -/
abbrev B : FVec Ideal S512x896 .f32 :=
  k0_pay26 (F := Ideal) (k0_pay1 (F := Ideal) (iblk m c 0 t) (iblk m c 1 t))
    (View.ld (iblk m c 2 t) (Rect.unit (s := S1024x4992) ![0, 512] ![1024, 896] inb_S1024x4992_S1024x896_0_512))

/-- The first 512 columns. -/
abbrev A : FVec Ideal S512x512 .f32 :=
  k0_pay6 (F := Ideal) (iblk m c 0 t) (iblk m c 1 t)
    (View.ld (iblk m c 2 t) (Rect.unit (s := S1024x4992) ![0, 0] ![1024, 512] inb_S1024x4992_S1024x512_0_0))

theorem B_at (r : Fin 512) (j : Fin 896) (q : Fin 4888) (hq : 512 + j.val = q.val) (hj : j.val < 792) :
    B m c t (ix2 r j) = P m c t r q := by
  refine (pb_at m c t _ r j).trans ((dif_pos hj).trans ?_)
  exact congrArg (P m c t r) (Fin.ext hq)

theorem A_at (r : Fin 512) (j : Fin 512) (q : Fin 4888) (hq : j.val = q.val) : A m c t (ix2 r j) = P m c t r q := by
  refine (pa_at m c t _ r j).trans ?_
  exact congrArg (P m c t r) (Fin.ext hq)

/-- The one-hot of a row's block. -/
theorem hot_blk (r : Fin 512) (d : Fin 64) :
    k0_pay33 (F := Ideal) (k0_pay29 (BitVec.ofNat 32 (grid0.coords t 1).val)) (k0_pay30 (iota .tc S512x128 32 [1] iota_S512x128_d1_w32)) 64#32
        (k0_pay31 (BitVec.ofNat 32 (grid0.coords t 1).val)) (k0_pay32 (BitVec.ofNat 32 (grid0.coords t 1).val)) 1#32
        (ix2 r ⟨64 + d.val, by omega⟩)
      = if (row t r).val / 64 = d.val then (1 : EReal) else 0 := by
  rw [coord1 t]
  refine (InArith.hot_at ⟨t.val % 8, by omega⟩ r ⟨64 + d.val, by omega⟩).trans ?_
  have e : ((512 * (t.val % 8) + r.val) / 64 + 64 = 64 + d.val) ↔ ((t.val % 8 * 512 + r.val) / 64 = d.val) := by omega
  simp only [e]

/-- The rows of the packed heads, in the reference's words. -/
theorem q_row (h : Fin 8) (r : Fin 512) (l : Fin 128) :
    InArith.qRow (fun r d => m ((c : Thread nD τ).loc main_arg3) (ix2 (row t r) d)) (fun r d => m ((c : Thread nD τ).loc main_arg4) (ix2 (row t r) d))
        (A m c t) h r l
      = val_main_v64 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (ix4 (bat t) h (row t r) l) := by
  refine .trans ?_ (InRef.qq_at ..).symm
  refine besideRow_congr (fun d => ?_) (fun _ => rfl) (fun _ => rfl) (fun d => ?_) rfl
  all_goals exact congrArg (· * scale) (A_at m c t r _ _ rfl)

theorem ks_row (h : Fin 2) (r : Fin 512) (l : Fin 128) (p pad : Fin 64 → EReal) (hp : ∀ d, p d = P m c t r ⟨768 + (h.val * 64 + d.val), by omega⟩)
    (hpad : ∀ d : Fin 64, pad d = if (row t r).val / 64 = d.val then (1 : EReal) else 0) :
    besideRow p (fun d => m ((c : Thread nD τ).loc main_arg3) (ix2 (row t r) d)) (fun d => m ((c : Thread nD τ).loc main_arg4) (ix2 (row t r) d)) pad l
      = val_main_v83 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (ix4 (bat t) h (row t r) l) := by
  refine .trans ?_ (InRef.ks_at ..).symm
  exact besideRow_congr hp (fun _ => rfl) (fun _ => rfl) hpad rfl

theorem kw_row (h : Fin 2) (r : Fin 512) (l : Fin 128) (p : Fin 64 → EReal) (hp : ∀ d, p d = P m c t r ⟨1024 + (h.val * 64 + d.val), by omega⟩) :
    besideRow p (fun d => m ((c : Thread nD τ).loc main_arg3) (ix2 (row t r) d)) (fun d => m ((c : Thread nD τ).loc main_arg4) (ix2 (row t r) d))
        (fun _ => 0) l
      = val_main_v107 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (ix4 (bat t) h (row t r) l) := by
  refine .trans ?_ (InRef.kw_at ..).symm
  exact besideRow_congr hp (fun _ => rfl) (fun _ => rfl) (fun _ => rfl) rfl
theorem emb5 (y : ((cfg0.win 5).xblock (cfg0.grid.coords t)).Idx) (h : Fin 8) (r : Fin 512) (l : Fin 128) (h1 : (y 1).val = h.val)
    (h2 : (y 2).val = r.val) (h3 : (y 3).val = l.val) :
    ((View.whole main_v11_0).slice (win0_5.rect t)).emb y = ix4 (bat t) h (row t r) l := by
  have h0 : (y 0).val = 0 := Nat.lt_one_iff.mp (y 0).isLt
  have ht := t_lt t
  blk_ext [idx t]
end Columns

/-- The keys before compression. -/
theorem result6 (c : Dev nD) : (dats m 0 c).arrAt 6 (cfgs 0).N
    = val_main_v15 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  have ht := t_lt t
  blk_simp
  rw [after0_6]
  unfold outsAt0
  frame_out
  obtain ⟨x0, x1, x2, rfl⟩ : ∃ (x0 : Fin 1) (x1 : Fin 512) (x2 : Fin 128), y = ix3 x0 x1 x2 := ⟨y 0, y 1, y 2, by idx_vars y⟩
  obtain rfl : x0 = 0 := Subsingleton.elim _ _
  have e : ((View.whole main_v11_1).slice (win0_6.rect t)).emb (ix3 0 x1 x2) = ix3 (bat t) (row t x1) x2 := by
    blk_ext [idx t]
  rw [e]
  refine (InArith.kc_at ..).trans ((B_at m c t x1 _ ⟨512 + x2.val, by omega⟩ ?_ ?_).trans (InRef.kc_at ..).symm)
  all_goals simp; try omega

/-- The values before compression. -/
theorem result7 (c : Dev nD) : (dats m 0 c).arrAt 7 (cfgs 0).N
    = val_main_v16 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  have ht := t_lt t
  blk_simp
  rw [after0_7]
  unfold outsAt0
  frame_out
  obtain ⟨x0, x1, x2, rfl⟩ : ∃ (x0 : Fin 1) (x1 : Fin 512) (x2 : Fin 128), y = ix3 x0 x1 x2 := ⟨y 0, y 1, y 2, by idx_vars y⟩
  obtain rfl : x0 = 0 := Subsingleton.elim _ _
  have e : ((View.whole main_v11_2).slice (win0_7.rect t)).emb (ix3 0 x1 x2) = ix3 (bat t) (row t x1) x2 := by
    blk_ext [idx t]
  rw [e]
  refine (InArith.vc_at ..).trans ((B_at m c t x1 _ ⟨640 + x2.val, by omega⟩ ?_ ?_).trans (InRef.vc_at ..).symm)
  all_goals simp; try omega

/-- The gates. -/
theorem result12 (c : Dev nD) : (dats m 0 c).arrAt 12 (cfgs 0).N
    = val_main_v46 (F := Ideal) (m ((c : Thread nD τ).loc main_arg0)) (m ((c : Thread nD τ).loc main_arg1)) (m ((c : Thread nD τ).loc main_arg2)) := by
  refine (dats m 0 c).arrAt_eq_of_covers 12 _ (by decide +kernel) fun t _ y => ?_
  have ht := t_lt t
  blk_simp
  rw [after0_12]
  unfold outsAt0
  frame_out
  obtain ⟨x0, x1, x2, rfl⟩ : ∃ (x0 : Fin 1) (x1 : Fin 32) (x2 : Fin 512), y = ix3 x0 x1 x2 := ⟨y 0, y 1, y 2, by idx_vars y⟩
  obtain rfl : x0 = 0 := Subsingleton.elim _ _
  have e : ((View.whole main_v11_7).slice (win0_12.rect t)).emb (ix3 0 x1 x2) = ix3 (bat t) x1 (row t x2) := by
    blk_ext [idx t]
  rw [e]
  refine (InArith.gates_at ..).trans ((congrArg sgm (pb_at m c t ..)).trans ((congrArg sgm ?_).trans (InRef.gates_at ..).symm))
  by_cases h1 : x1.val < 24
  · rw [dif_pos h1, dif_pos (show 768 + x1.val < 792 by omega)]
    exact congrArg (P m c t x2) (Fin.ext (show 512 + (768 + x1.val) = 1280 + x1.val by omega))
  · rw [dif_neg h1, dif_neg (show ¬ 768 + x1.val < 792 by omega)]

/-- The selected branch's keys. -/
theorem result8 (c : Dev nD) : (dats m 0 c).arrAt 8 (cfgs 0).N
    = val_main_v83 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 8 _ (by decide +kernel) fun t _ y => ?_
  have ht := t_lt t
  blk_simp
  rw [after0_8]
  unfold outsAt0
  frame_out
  canon_tiles x h
  all_goals
    idx_vars x
    obtain rfl : x0 = 0 := Subsingleton.elim _ _
    obtain rfl : x1 = 0 := Subsingleton.elim _ _
  · have e : ((View.whole main_v11_3).slice (win0_8.rect t)).emb y = ix4 (bat t) 1 (row t x2) x3 := by
      blk_ext [idx t]
    rw [e]
    refine (InArith.ks1_at (tables m c t) .. ).trans (ks_row m c t 1 x2 x3 _ _ (fun d => B_at m c t x2 _ _ ?_ ?_) (fun d => hot_blk t x2 d))
    all_goals simp; try omega
  · have e : ((View.whole main_v11_3).slice (win0_8.rect t)).emb y = ix4 (bat t) 0 (row t x2) x3 := by
      blk_ext [idx t]
    rw [e]
    refine (InArith.ks0_at (tables m c t) .. ).trans (ks_row m c t 0 x2 x3 _ _ (fun d => B_at m c t x2 _ _ ?_ ?_) (fun d => hot_blk t x2 d))
    all_goals simp; try omega

/-- The window branch's keys. -/
theorem result10 (c : Dev nD) : (dats m 0 c).arrAt 10 (cfgs 0).N
    = val_main_v107 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 10 _ (by decide +kernel) fun t _ y => ?_
  have ht := t_lt t
  blk_simp
  rw [after0_10]
  unfold outsAt0
  frame_out
  canon_tiles x h
  all_goals
    idx_vars x
    obtain rfl : x0 = 0 := Subsingleton.elim _ _
    obtain rfl : x1 = 0 := Subsingleton.elim _ _
  · have e : ((View.whole main_v11_5).slice (win0_10.rect t)).emb y = ix4 (bat t) 1 (row t x2) x3 := by
      blk_ext [idx t]
    rw [e]
    refine (InArith.kw1_at (tables m c t) .. ).trans (kw_row m c t 1 x2 x3 _ (fun d => B_at m c t x2 _ _ ?_ ?_))
    all_goals simp; try omega
  · have e : ((View.whole main_v11_5).slice (win0_10.rect t)).emb y = ix4 (bat t) 0 (row t x2) x3 := by
      blk_ext [idx t]
    rw [e]
    refine (InArith.kw0_at (tables m c t) .. ).trans (kw_row m c t 0 x2 x3 _ (fun d => B_at m c t x2 _ _ ?_ ?_))
    all_goals simp; try omega

/-- The selected branch's values. -/
theorem result9 (c : Dev nD) : (dats m 0 c).arrAt 9 (cfgs 0).N
    = val_main_v87 (F := Ideal) (m ((c : Thread nD τ).loc main_arg0)) (m ((c : Thread nD τ).loc main_arg1)) (m ((c : Thread nD τ).loc main_arg2)) := by
  refine (dats m 0 c).arrAt_eq_of_covers 9 _ (by decide +kernel) fun t _ y => ?_
  have ht := t_lt t
  blk_simp
  rw [after0_9]
  unfold outsAt0
  frame_out
  canon_tiles x h
  all_goals
    idx_vars x
    obtain rfl : x0 = 0 := Subsingleton.elim _ _
    obtain rfl : x1 = 0 := Subsingleton.elim _ _
  · have e : ((View.whole main_v11_4).slice (win0_9.rect t)).emb y = ix4 (bat t) 1 x2 (row t x3) := by
      blk_ext [idx t]
    rw [e]
    refine (InArith.vs1_at (B m c t) x2 x3).trans (.trans ?_ (InRef.vs_at ..).symm)
    refine underCol_congr (fun d => B_at m c t x3 _ _ ?_ ?_) rfl
    all_goals simp; try omega
  · have e : ((View.whole main_v11_4).slice (win0_9.rect t)).emb y = ix4 (bat t) 0 x2 (row t x3) := by
      blk_ext [idx t]
    rw [e]
    refine (InArith.vs0_at (B m c t) x2 x3).trans (.trans ?_ (InRef.vs_at ..).symm)
    refine underCol_congr (fun d => B_at m c t x3 _ _ ?_ ?_) rfl
    all_goals simp; try omega

/-- The window branch's values. -/
theorem result11 (c : Dev nD) : (dats m 0 c).arrAt 11 (cfgs 0).N
    = val_main_v111 (F := Ideal) (m ((c : Thread nD τ).loc main_arg0)) (m ((c : Thread nD τ).loc main_arg1)) (m ((c : Thread nD τ).loc main_arg2)) := by
  refine (dats m 0 c).arrAt_eq_of_covers 11 _ (by decide +kernel) fun t _ y => ?_
  have ht := t_lt t
  blk_simp
  rw [after0_11]
  unfold outsAt0
  frame_out
  canon_tiles x h
  all_goals
    idx_vars x
    obtain rfl : x0 = 0 := Subsingleton.elim _ _
    obtain rfl : x1 = 0 := Subsingleton.elim _ _
  · have e : ((View.whole main_v11_6).slice (win0_11.rect t)).emb y = ix4 (bat t) 1 x2 (row t x3) := by
      blk_ext [idx t]
    rw [e]
    refine (InArith.vw1_at (B m c t) x2 x3).trans (.trans ?_ (InRef.vw_at ..).symm)
    refine underCol_congr (fun d => B_at m c t x3 _ _ ?_ ?_) rfl
    all_goals simp; try omega
  · have e : ((View.whole main_v11_6).slice (win0_11.rect t)).emb y = ix4 (bat t) 0 x2 (row t x3) := by
      blk_ext [idx t]
    rw [e]
    refine (InArith.vw0_at (B m c t) x2 x3).trans (.trans ?_ (InRef.vw_at ..).symm)
    refine underCol_congr (fun d => B_at m c t x3 _ _ ?_ ?_) rfl
    all_goals simp; try omega

/-- The queries. -/
theorem result5 (c : Dev nD) : (dats m 0 c).arrAt 5 (cfgs 0).N
    = val_main_v64 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  have ht := t_lt t
  blk_simp
  rw [after0_5]
  unfold outsAt0
  frame_out
  canon_tiles x h
  all_goals
    idx_vars x
    obtain rfl : x0 = 0 := Subsingleton.elim _ _
    obtain rfl : x1 = 0 := Subsingleton.elim _ _
  · rw [emb5 t y 7 x2 x3 h1 h2 h3]
    exact (InArith.head7_at (tables m c t) ..).trans (q_row m c t 7 x2 x3)
  · rw [emb5 t y 6 x2 x3 h1 h2 h3]
    exact (InArith.head6_at (tables m c t) ..).trans (q_row m c t 6 x2 x3)
  · rw [emb5 t y 5 x2 x3 h1 h2 h3]
    exact (InArith.head5_at (tables m c t) ..).trans (q_row m c t 5 x2 x3)
  · rw [emb5 t y 4 x2 x3 h1 h2 h3]
    exact (InArith.head4_at (tables m c t) ..).trans (q_row m c t 4 x2 x3)
  · rw [emb5 t y 3 x2 x3 h1 h2 h3]
    exact (InArith.head3_at (tables m c t) ..).trans (q_row m c t 3 x2 x3)
  · rw [emb5 t y 2 x2 x3 h1 h2 h3]
    exact (InArith.head2_at (tables m c t) ..).trans (q_row m c t 2 x2 x3)
  · rw [emb5 t y 1 x2 x3 h1 h2 h3]
    exact (InArith.head1_at (tables m c t) ..).trans (q_row m c t 1 x2 x3)
  · rw [emb5 t y 0 x2 x3 h1 h2 h3]
    exact (InArith.head0_at (tables m c t) ..).trans (q_row m c t 0 x2 x3)

end Cert.InKernel
end
-- ==== Proof.InScan.lean ====
/- The recurrence's input as the kernel of the input projection leaves it: eight rows packed in one, by way of a scratch buffer. -/
module

public import proofs.«01_k».proof.Proof.InKernel

@[expose] public section

set_option maxRecDepth 16384

noncomputable section

namespace Cert.InKernel

open Idealize.ShloMosaic Idealize.ShloMosaic.TcCoe Idealize.SL.Sem
open Idealize.ShloMosaic.Pipeline (Dat)
open Cert.Kernel2Ideal Cert.Kernel2Ideal.Gen Cert.FinalRow Cert.InRow
open Cert.Reference2Ideal.Read

variable (m : (ℓ : Loc nD τ sig) → Buf (Elt Ideal) ℓ)

/-- What the body leaves in the scratch: entry (s, r, l) is lane `128·s + l` of row `r` of the projected input. -/
def scrU (p : FVec Ideal S512x512 .f32) (y : S4x512x128.Idx) : EReal :=
  p (ix2 ⟨(y 1).val, (y 1).isLt⟩ ⟨128 * (y 0).val + (y 2).val, by
    have : (y 0).val < 4 := (y 0).isLt
    have : (y 2).val < 128 := (y 2).isLt
    omega⟩)

theorem scrU_piece (p : FVec Ideal S512x512 .f32) (s : ℕ) (hs : s < 4) (h) (f : FVec Ideal S1x512x128 .f32)
    (hf : ∀ (r : Fin 512) (l : Fin 128), f (ix3 0 r l) = p (ix2 r ⟨128 * s + l.val, by omega⟩))
    (x : (Rect.unit (s := S4x512x128) ![s, 0, 0] ![1, 512, 128] h).shape.Idx) :
    f x = scrU p ((Rect.unit (s := S4x512x128) ![s, 0, 0] ![1, 512, 128] h).emb x) := by
  have x0 : (x 0).val < 1 := (x 0).isLt
  have x1 : (x 1).val < 512 := (x 1).isLt
  have x2 : (x 2).val < 128 := (x 2).isLt
  have e : x = ix3 0 ⟨(x 1).val, x1⟩ ⟨(x 2).val, x2⟩ := by
    funext a
    match a with
    | ⟨0, _⟩ => exact Fin.ext (show (x 0).val = 0 by omega)
    | ⟨1, _⟩ => rfl
    | ⟨2, _⟩ => rfl
  refine (congrArg f e).trans ((hf _ _).trans ?_)
  unfold scrU
  refine congrArg p (congrArg₂ ix2 (Fin.ext ?_) (Fin.ext ?_))
  · show (x 1).val = 0 + 1 * (x 1).val
    omega
  · show 128 * s + (x 2).val = 128 * (s + 1 * (x 0).val) + (0 + 1 * (x 2).val)
    omega

/-- Stores that are all pieces of `scrU` and cover the buffer leave `scrU`. -/
theorem scrU_canon (p : FVec Ideal S512x512 .f32) (L : List (View.Piece (Elt Ideal) S4x512x128 .f32)) (hP : View.PiecesOf (scrU p) L)
    (hc : ∀ s : Fin 4, ((![s.val, 0, 0], ![1, 512, 128], ![1, 1, 1]) : (Fin 3 → ℕ) × (Fin 3 → ℕ) × (Fin 3 → ℕ))
      ∈ L.map fun p => (p.1.off, p.1.size, p.1.stride)) :
    View.canon L = scrU p :=
  funext fun y => View.canon_apply_of_pieces _ L hP.mem y (by
    have y0 : (y 0).val < 4 := (y 0).isLt
    have y1 : (y 1).val < 512 := (y 1).isLt
    have y2 : (y 2).val < 128 := (y 2).isLt
    obtain ⟨p, hp, he⟩ := List.mem_map.mp (hc ⟨(y 0).val, y0⟩)
    obtain ⟨ho, he⟩ := Prod.mk.inj he
    obtain ⟨hs, hst⟩ := Prod.mk.inj he
    refine ⟨p, hp, ?_⟩
    rw [LoadRect.mem_set]
    intro a
    rw [ho, hs, hst]
    match a with
    | ⟨0, _⟩ => exact ⟨0, Nat.one_pos, show (y 0).val = (y 0).val + 1 * 0 by omega⟩
    | ⟨1, _⟩ => exact ⟨(y 1).val, y1, show (y 1).val = 0 + 1 * (y 1).val by omega⟩
    | ⟨2, _⟩ => exact ⟨(y 2).val, y2, show (y 2).val = 0 + 1 * (y 2).val by omega⟩)

/-- The packed block: eight rows of the projected input in one. -/
def blkU (p : FVec Ideal S512x512 .f32) (y : S1x64x4096.Idx) : EReal :=
  p (ix2 ⟨(y 1).val * 8 + (y 2).val / 512, by
    have : (y 1).val < 64 := (y 1).isLt
    have : (y 2).val < 4096 := (y 2).isLt
    omega⟩ ⟨(y 2).val % 512, by omega⟩)

theorem blkU_piece (p : FVec Ideal S512x512 .f32) (s i o : ℕ) (hs : s < 4) (hi : i < 8) (ho : o = i * 512 + 128 * s) (h) (f : FVec Ideal S1x64x128 .f32)
    (hf : ∀ (q : Fin 64) (l : Fin 128), f (ix3 0 q l) = p (ix2 ⟨q.val * 8 + i, by omega⟩ ⟨128 * s + l.val, by omega⟩))
    (x : (Rect.unit (s := S1x64x4096) ![0, 0, o] ![1, 64, 128] h).shape.Idx) :
    f x = blkU p ((Rect.unit (s := S1x64x4096) ![0, 0, o] ![1, 64, 128] h).emb x) := by
  have x0 : (x 0).val < 1 := (x 0).isLt
  have x1 : (x 1).val < 64 := (x 1).isLt
  have x2 : (x 2).val < 128 := (x 2).isLt
  have e : x = ix3 0 ⟨(x 1).val, x1⟩ ⟨(x 2).val, x2⟩ := by
    funext a
    match a with
    | ⟨0, _⟩ => exact Fin.ext (show (x 0).val = 0 by omega)
    | ⟨1, _⟩ => rfl
    | ⟨2, _⟩ => rfl
  refine (congrArg f e).trans ((hf _ _).trans ?_)
  unfold blkU
  refine congrArg p (congrArg₂ ix2 (Fin.ext ?_) (Fin.ext ?_))
  · show (x 1).val * 8 + i = (0 + 1 * (x 1).val) * 8 + (o + 1 * (x 2).val) / 512
    omega
  · show 128 * s + (x 2).val = (o + 1 * (x 2).val) % 512
    omega

/-- A strided load of the scratch, re-laid as the store writes it. -/
theorem strip_at (p : FVec Ideal S512x512 .f32) (s i : ℕ) (hs : s < 4) (hi : i < 8) (inb) (sp) (h1) (h2) (q : Fin 64) (l : Fin 128) :
    shapeCast S1x64x128 (shapeCast S64x128 (fun j : S1x64x128.Idx => scrU p
      (({ off := ![s, i, 0], size := ![1, 64, 128], stride := ![1, 8, 1], inb := inb, stride_pos := sp } : Rect S4x512x128).idx j)) h1) h2 (ix3 0 q l)
      = p (ix2 ⟨q.val * 8 + i, by omega⟩ ⟨128 * s + l.val, by omega⟩) := by
  pointwise []
  unfold scrU
  refine congrArg p (congrArg₂ ix2 (Fin.ext ?_) (Fin.ext rfl))
  show i + 8 * q.val = q.val * 8 + i
  omega

/-- Such a strip is a piece of `blkU`. -/
theorem strip_piece (p : FVec Ideal S512x512 .f32) (s i o : ℕ) (inb) (sp) (h1) (h2) (h) (hs : s < 4) (hi : i < 8) (ho : o = i * 512 + 128 * s)
    (x : (Rect.unit (s := S1x64x4096) ![0, 0, o] ![1, 64, 128] h).shape.Idx) :
    shapeCast S1x64x128 (shapeCast S64x128 (fun j : S1x64x128.Idx => scrU p
      (({ off := ![s, i, 0], size := ![1, 64, 128], stride := ![1, 8, 1], inb := inb, stride_pos := sp } : Rect S4x512x128).idx j)) h1) h2 x
      = blkU p ((Rect.unit (s := S1x64x4096) ![0, 0, o] ![1, 64, 128] h).emb x) :=
  blkU_piece p s i o hs hi ho h _ (strip_at p s i hs hi inb sp h1 h2) x

/-- Stores that are all pieces of `blkU` and cover the block leave `blkU`. -/
theorem blkU_canon (p : FVec Ideal S512x512 .f32) (L : List (View.Piece (Elt Ideal) S1x64x4096 .f32)) (hP : View.PiecesOf (blkU p) L)
    (hc : ∀ o : Fin 32, ((![0, 0, 128 * o.val], ![1, 64, 128], ![1, 1, 1]) : (Fin 3 → ℕ) × (Fin 3 → ℕ) × (Fin 3 → ℕ))
      ∈ L.map fun p => (p.1.off, p.1.size, p.1.stride)) :
    View.canon L = blkU p :=
  funext fun y => View.canon_apply_of_pieces _ L hP.mem y (by
    have y0 : (y 0).val < 1 := (y 0).isLt
    have y1 : (y 1).val < 64 := (y 1).isLt
    have y2 : (y 2).val < 4096 := (y 2).isLt
    obtain ⟨p, hp, he⟩ := List.mem_map.mp (hc ⟨(y 2).val / 128, by omega⟩)
    obtain ⟨ho, he⟩ := Prod.mk.inj he
    obtain ⟨hs, hst⟩ := Prod.mk.inj he
    refine ⟨p, hp, ?_⟩
    rw [LoadRect.mem_set]
    intro a
    rw [ho, hs, hst]
    match a with
    | ⟨0, _⟩ => exact ⟨0, Nat.one_pos, show (y 0).val = 0 + 1 * 0 by omega⟩
    | ⟨1, _⟩ => exact ⟨(y 1).val, y1, show (y 1).val = 0 + 1 * (y 1).val by omega⟩
    | ⟨2, _⟩ => exact ⟨(y 2).val % 128, show (y 2).val % 128 < 128 by omega, show (y 2).val = 128 * ((y 2).val / 128) + 1 * ((y 2).val % 128) by omega⟩)

/-- The projected columns of the recurrence's input, of a grid point's rows. -/
abbrev U (c : Dev nD) (t : Fin cfg0.N) : FVec Ideal S512x512 .f32 :=
  k0_pay49 (F := Ideal) (k0_pay1 (F := Ideal) (iblk m c 0 t) (iblk m c 1 t))
    (View.ld (iblk m c 2 t) (Rect.unit (s := S1024x4992) ![0, 1920] ![1024, 512] inb_S1024x4992_S1024x512_0_1920))

/-- The recurrence's input. -/
theorem result13 (c : Dev nD) : (dats m 0 c).arrAt 13 (cfgs 0).N
    = val_main_v112 (F := Ideal) (m ((c : Thread nD τ).loc main_arg0)) (m ((c : Thread nD τ).loc main_arg1)) (m ((c : Thread nD τ).loc main_arg2)) := by
  refine (dats m 0 c).arrAt_eq_of_covers 13 _ (by decide +kernel) fun t _ y => ?_
  have ht := t_lt t
  blk_simp
  rw [after0_13]
  unfold outsAt0
  frame_out
  simp only [View.readCov_eq_canon']
  rw [scrU_canon (U m c t) (hP := ?a) (hc := ?b), blkU_canon (U m c t) (hP := ?d) (hc := ?e)]
  · have y1 : (y 1).val < 64 := (y 1).isLt
    have y2 : (y 2).val < 4096 := (y 2).isLt
    have e : ((View.whole main_v11_8).slice (win0_13.rect t)).emb y = ix3 (bat t) ⟨t.val % 8 * 64 + (y 1).val, by omega⟩ ⟨(y 2).val, y2⟩ := by
      have h0 : (y 0).val = 0 := Nat.lt_one_iff.mp (y 0).isLt
      blk_ext [idx t]
    rw [e]
    refine (pc_at m c t _ _ _).trans (Eq.trans ?_ (InRef.u_at _ _ _ _ _ _).symm)
    unfold P
    refine congrArg₂ (InRef.P _ _ _ (bat t)) (Fin.ext ?_) (Fin.ext rfl)
    show t.val % 8 * 512 + ((y 1).val * 8 + (y 2).val / 512) = (t.val % 8 * 64 + (y 1).val) * 8 + (y 2).val / 512
    omega
  case d =>
    generalize U m c t = p
    simp only [View.PiecesOf]
    repeat' refine And.intro ?_ ?_
    all_goals first
      | exact trivial
      | (intro x
         open_payloads
         exact strip_piece p _ _ _ _ (by decide) _ _ _ (by decide) (by decide) (by decide) x)
  case e =>
    simp only [List.map_cons, List.map_nil]
    decide
  case b =>
    simp only [List.map_cons, List.map_nil]
    decide
  case a =>
    unfold U
    generalize k0_pay1 (F := Ideal) (iblk m c 0 t) (iblk m c 1 t) = h
    simp only [View.PiecesOf]
    repeat' refine And.intro ?_ ?_
    all_goals first
      | exact trivial
      | (intro x
         refine scrU_piece _ _ (by decide) _ _ (fun r l => ?_) x
         open_payloads
         pointwise []
         exact congrArg _ (congrArg (ix2 r) (Fin.ext (by show _ = _; omega))))

end Cert.InKernel
end
-- ==== Proof.PrepValue.lean ====
/- The discretised recurrence: the kernel's operands as the host prepares them, and the arrays the kernel leaves, at every index the reference's values. -/
module

public import proofs.«01_k».proof.Proof.Gen.Kernel3Ideal.Value
public import proofs.«01_k».proof.Proof.Gen.Reference3Ideal.Read
public import proofs.«01_k».proof.Proof.FinalRow
public import Idealize.ShloMosaic.Lib.Pipeline.ValueKit
public import Idealize.ShloMosaic.Lib.Pipeline.ReadBack

@[expose] public section

set_option maxRecDepth 16384

noncomputable section

namespace Cert.PrepValue

open Idealize.ShloMosaic Idealize.ShloMosaic.TcCoe Idealize.SL.Sem
open Idealize.ShloMosaic.Pipeline (Dat)
open Cert.Kernel3Ideal Cert.Kernel3Ideal.Gen
open Cert.Reference3Ideal.Read

variable (m : (ℓ : Loc nD τ sig) → Buf (Elt Ideal) ℓ)

/-! ## The operands the host prepares: sixteen rows for each group -/

section Blocks
variable (c : Dev nD) (t : Fin cfg0.N)

/-- The group of a row, and the row's place in it. -/
abbrev grp (r : Fin 512) : Fin 32 := ⟨r.val / 16, by omega⟩
abbrev plc (r : Fin 512) : Fin 16 := ⟨r.val % 16, by omega⟩

theorem re_entry (r : Fin 512) (p : Fin 64) : V m c main_v1 (ix2 r p) = m ((c : Thread nD τ).loc main_arg0) (ix2 (grp r) p) := by
  simp only [V, hostOps0, List.flatten_cons, List.flatten_nil, List.append_nil, List.cons_append, List.nil_append]
  entry_read
  pointwise []

theorem im_entry (r : Fin 512) (p : Fin 64) : V m c main_v3 (ix2 r p) = m ((c : Thread nD τ).loc main_arg1) (ix2 (grp r) p) := by
  simp only [V, hostOps0, List.flatten_cons, List.flatten_nil, List.append_nil, List.cons_append, List.nil_append]
  entry_read
  pointwise []

theorem dt_entry (r : Fin 512) (p : Fin 64) : V m c main_v7 (ix2 r p) = m ((c : Thread nD τ).loc main_arg2) (ix1 (grp r)) := by
  simp only [V, hostOps0, List.flatten_cons, List.flatten_nil, List.append_nil, List.cons_append, List.nil_append]
  entry_read
  pointwise []

theorem bre_entry (r : Fin 512) (p : Fin 64) : V m c main_v9 (ix2 r p) = m ((c : Thread nD τ).loc main_arg3) (ix3 (grp r) p (plc r)) := by
  simp only [V, hostOps0, List.flatten_cons, List.flatten_nil, List.append_nil, List.cons_append, List.nil_append]
  entry_read
  pointwise []

theorem bim_entry (r : Fin 512) (p : Fin 64) : V m c main_v11 (ix2 r p) = m ((c : Thread nD τ).loc main_arg4) (ix3 (grp r) p (plc r)) := by
  simp only [V, hostOps0, List.flatten_cons, List.flatten_nil, List.append_nil, List.cons_append, List.nil_append]
  entry_read
  pointwise []

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

theorem re_blk (r : Fin 512) (p : Fin 64) :
    iblk m c 0 t (ix2 r p) = m ((c : Thread nD τ).loc main_arg0) (ix2 (grp r) p) := by
  rw [← re_entry m c]
  blk_ext [iblk, idx t]

theorem im_blk (r : Fin 512) (p : Fin 64) :
    iblk m c 1 t (ix2 r p) = m ((c : Thread nD τ).loc main_arg1) (ix2 (grp r) p) := by
  rw [← im_entry m c]
  blk_ext [iblk, idx t]

theorem dt_blk (r : Fin 512) (p : Fin 64) : iblk m c 2 t (ix2 r p) = m ((c : Thread nD τ).loc main_arg2) (ix1 (grp r)) := by
  rw [← dt_entry m c r p]
  blk_ext [iblk, idx t]

theorem bre_blk (r : Fin 512) (p : Fin 64) :
    iblk m c 3 t (ix2 r p) = m ((c : Thread nD τ).loc main_arg3) (ix3 (grp r) p (plc r)) := by
  rw [← bre_entry m c]
  blk_ext [iblk, idx t]

theorem bim_blk (r : Fin 512) (p : Fin 64) :
    iblk m c 4 t (ix2 r p) = m ((c : Thread nD τ).loc main_arg4) (ix3 (grp r) p (plc r)) := by
  rw [← bim_entry m c]
  blk_ext [iblk, idx t]

end Blocks

/-- The discretised poles' real parts. -/
theorem result5 (c : Dev nD) : (dats m 0 c).arrAt 5 (cfgs 0).N
    = val_main_v43 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  unfold out0_5
  frame_out
  obtain ⟨r, p, rfl⟩ : ∃ (r : Fin 512) (p : Fin 64), y = ix2 r p := ⟨y 0, y 1, by idx_vars y⟩
  have e : ((View.whole main_v12_0).slice (win0_5.rect t)).emb (ix2 r p) = ix2 r p := by blk_ext [idx t]
  rw [e]
  have h0 := re_blk m c t r p
  have h1 := im_blk m c t r p
  have h2 := dt_blk m c t r p
  generalize iblk m c 0 t = P0 at *
  generalize iblk m c 1 t = P1 at *
  generalize iblk m c 2 t = P2 at *
  open_payloads
  pointwise [h0, h1, h2, val_main_v43, val_main_v42, val_main_v8, val_main_v7, val_main_v6, val_main_v5, val_main_v4,
    val_main_v3, val_main_v2, val_main_v1, val_main_v0]

/-- The discretised poles' imaginary parts. -/
theorem result6 (c : Dev nD) : (dats m 0 c).arrAt 6 (cfgs 0).N
    = val_main_v45 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  unfold out0_6
  frame_out
  obtain ⟨r, p, rfl⟩ : ∃ (r : Fin 512) (p : Fin 64), y = ix2 r p := ⟨y 0, y 1, by idx_vars y⟩
  have e : ((View.whole main_v12_1).slice (win0_6.rect t)).emb (ix2 r p) = ix2 r p := by blk_ext [idx t]
  rw [e]
  have h0 := re_blk m c t r p
  have h1 := im_blk m c t r p
  have h2 := dt_blk m c t r p
  generalize iblk m c 0 t = P0 at *
  generalize iblk m c 1 t = P1 at *
  generalize iblk m c 2 t = P2 at *
  open_payloads
  pointwise [h0, h1, h2, val_main_v45, val_main_v44, val_main_v12, val_main_v11, val_main_v10, val_main_v9, val_main_v8, val_main_v7, val_main_v6, val_main_v5, val_main_v4,
    val_main_v3, val_main_v2, val_main_v1, val_main_v0]

/-- The input's weights, the real parts. -/
theorem result7 (c : Dev nD) : (dats m 0 c).arrAt 7 (cfgs 0).N
    = val_main_v47 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 7 _ (by decide +kernel) fun t _ y => ?_
  blk_simp
  rw [after0_7]
  unfold out0_7
  frame_out
  obtain ⟨r, p, rfl⟩ : ∃ (r : Fin 512) (p : Fin 64), y = ix2 r p := ⟨y 0, y 1, by idx_vars y⟩
  have e : ((View.whole main_v12_2).slice (win0_7.rect t)).emb (ix2 r p) = ix2 r p := by blk_ext [idx t]
  rw [e]
  have h0 := re_blk m c t r p
  have h1 := im_blk m c t r p
  have h2 := dt_blk m c t r p
  have h3 := bre_blk m c t r p
  have h4 := bim_blk m c t r p
  generalize iblk m c 0 t = P0 at *
  generalize iblk m c 1 t = P1 at *
  generalize iblk m c 2 t = P2 at *
  generalize iblk m c 3 t = P3 at *
  generalize iblk m c 4 t = P4 at *
  open_payloads
  pointwise [h0, h1, h2, h3, h4, val_main_v47, val_main_v46, val_main_v41, val_main_v40, val_main_v39, val_main_v38, val_main_v37,
    val_main_v36, val_main_v35, val_main_v34, val_main_v33, val_main_v32, val_main_v31, val_main_v30, val_main_v29, val_main_v28, val_main_v27,
    val_main_v26, val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0]

/-- The input's weights, the imaginary parts. -/
theorem result8 (c : Dev nD) : (dats m 0 c).arrAt 8 (cfgs 0).N
    = val_main_v49 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 8 _ (by decide +kernel) fun t _ y => ?_
  blk_simp
  rw [after0_8]
  unfold out0_8
  frame_out
  obtain ⟨r, p, rfl⟩ : ∃ (r : Fin 512) (p : Fin 64), y = ix2 r p := ⟨y 0, y 1, by idx_vars y⟩
  have e : ((View.whole main_v12_3).slice (win0_8.rect t)).emb (ix2 r p) = ix2 r p := by blk_ext [idx t]
  rw [e]
  have h0 := re_blk m c t r p
  have h1 := im_blk m c t r p
  have h2 := dt_blk m c t r p
  have h3 := bre_blk m c t r p
  have h4 := bim_blk m c t r p
  generalize iblk m c 0 t = P0 at *
  generalize iblk m c 1 t = P1 at *
  generalize iblk m c 2 t = P2 at *
  generalize iblk m c 3 t = P3 at *
  generalize iblk m c 4 t = P4 at *
  open_payloads
  pointwise [h0, h1, h2, h3, h4, val_main_v49, val_main_v48, val_main_v41, val_main_v40, val_main_v39, val_main_v38, val_main_v37,
    val_main_v36, val_main_v35, val_main_v34, val_main_v33, val_main_v32, val_main_v31, val_main_v30, val_main_v29, val_main_v28, val_main_v27,
    val_main_v26, val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7,
    val_main_v6, val_main_v5, val_main_v4, val_main_v3, val_main_v2, val_main_v1, val_main_v0, val_main_cst, val_main_cst_0]

end Cert.PrepValue
end
-- ==== Proof.CompRow.lean ====
/- The functions of the compression: the sum a block's hidden value is taken of, in the reference's words and in the kernel's, and that they agree. -/
module

public import Idealize.ShloMosaic.PureOps.Ideal.Laws
public import Idealize.ShloMosaic.Lib.Pointwise
public import proofs.«01_k».proof.Proof.FinalRow

@[expose] public section

noncomputable section

namespace Cert.CompRow

open Idealize.ShloMosaic

/-- The smooth rectifier of the hidden values, in its tanh form. -/
def gel (x : EReal) : EReal :=
  x * (Ideal.ofBits FTy.f32 1056964608#32
    * (1 + Ideal.tanh (Ideal.ofBits FTy.f32 1061962282#32 * (x + Ideal.ofBits FTy.f32 1027024659#32 * (x * x * x)))))

/-- The chunk after a chunk of sixteen rows, the first after the last. -/
abbrev nxt (r : Fin 256) : Fin 256 := ⟨(r.val + 1) % 256, by omega⟩

/-- The sum of a block's 32 rows (a chunk and the next) with their positions, against a column of weights. -/
def pre (x : Fin 4096 → Fin 64 → EReal) (p : Fin 32 → Fin 64 → EReal) (w : Fin 2048 → EReal) (r : Fin 256) : EReal :=
  ∑ i : Fin 2048, ((if h : i.val / 64 < 16 then x ⟨r.val * 16 + i.val / 64, by omega⟩ ⟨i.val % 64, by omega⟩
      else x ⟨(nxt r).val * 16 + (i.val / 64 - 16), by have := (nxt r).isLt; omega⟩ ⟨i.val % 64, by omega⟩)
    + p ⟨i.val / 64, by omega⟩ ⟨i.val % 64, by omega⟩) * w i

/-- The sum of one chunk's rows against one half of the weights, row by row. -/
def part (x : Fin 4096 → Fin 64 → EReal) (w : Fin 1024 → EReal) (r : Fin 256) : EReal :=
  ∑ k : Fin 16, ∑ q : Fin 64, x ⟨r.val * 16 + k.val, by omega⟩ q * w ⟨k.val * 64 + q.val, by omega⟩

/-- The first and the second half of a column of weights. -/
abbrev lo (w : Fin 2048 → EReal) : Fin 1024 → EReal := fun k => w ⟨k.val, by omega⟩
abbrev hi (w : Fin 2048 → EReal) : Fin 1024 → EReal := fun k => w ⟨1024 + k.val, by omega⟩

/-- The positions' own share of the sum. -/
def posSum (p : Fin 32 → Fin 64 → EReal) (w : Fin 2048 → EReal) : EReal :=
  (∑ k : Fin 1024, p ⟨k.val / 64, by omega⟩ ⟨k.val % 64, by omega⟩ * lo w k)
    + ∑ k : Fin 1024, p ⟨16 + k.val / 64, by omega⟩ ⟨k.val % 64, by omega⟩ * hi w k

/-- Neither of the infinities. -/
def Fin' (a : EReal) : Prop := a ≠ ⊤ ∧ a ≠ ⊥

/-- A finite summand and a finite factor distribute, whatever the other summand. -/
theorem add_mul_of_finite (x : EReal) {p w : EReal} (hp : Fin' p) (hw : Fin' w) : (x + p) * w = x * w + p * w := by
  obtain ⟨a, rfl⟩ : ∃ a : ℝ, p = a := ⟨p.toReal, (EReal.coe_toReal hp.1 hp.2).symm⟩
  obtain ⟨b, rfl⟩ : ∃ b : ℝ, w = b := ⟨w.toReal, (EReal.coe_toReal hw.1 hw.2).symm⟩
  rcases lt_trichotomy b 0 with hb | rfl | hb
  · induction x with
    | bot => rw [EReal.bot_add, EReal.bot_mul_coe_of_neg hb, ← EReal.coe_mul, EReal.top_add_coe]
    | top => rw [EReal.top_add_coe, EReal.top_mul_coe_of_neg hb, EReal.bot_add]
    | coe x => norm_cast; ring
  · simp
  · induction x with
    | bot => rw [EReal.bot_add, EReal.bot_mul_coe_of_pos hb, EReal.bot_add]
    | top => rw [EReal.top_add_coe, EReal.top_mul_coe_of_pos hb, ← EReal.coe_mul, EReal.top_add_coe]
    | coe x => norm_cast; ring

/-- A sum over 1024 as sixteen sums over 64. -/
theorem sum_tiles (f : Fin 1024 → EReal) : ∑ k, f k = ∑ a : Fin 16, ∑ q : Fin 64, f ⟨a.val * 64 + q.val, by omega⟩ := by
  rw [← Fintype.sum_prod_type']
  refine (Fintype.sum_equiv (finProdFinEquiv (m := 16) (n := 64)) _ _ fun i => ?_).symm
  exact congrArg f (Fin.ext (by simp [finProdFinEquiv]; omega))

/-- A sum over 2048 as its two halves. -/
theorem sum_halves (f : Fin 2048 → EReal) : ∑ k, f k = ∑ k : Fin 1024, f ⟨k.val, by omega⟩ + ∑ k : Fin 1024, f ⟨1024 + k.val, by omega⟩ :=
  Fin.sum_univ_add (a := 1024) (b := 1024) f

/-- The reference's sum is the kernel's. -/
theorem pre_eq (x : Fin 4096 → Fin 64 → EReal) (p : Fin 32 → Fin 64 → EReal) (w : Fin 2048 → EReal) (r : Fin 256)
    (hp : ∀ i q, Fin' (p i q)) (hw : ∀ k, Fin' (w k)) :
    pre x p w r = part x (lo w) r + part x (hi w) (nxt r) + posSum p w := by
  unfold pre posSum part
  rw [Finset.sum_congr rfl fun i _ => add_mul_of_finite _ (hp _ _) (hw _), Finset.sum_add_distrib, sum_halves, sum_halves, sum_tiles, sum_tiles]
  refine congrArg₂ (· + ·) (congrArg₂ (· + ·) ?_ ?_) (congrArg₂ (· + ·) rfl ?_)
  · refine Finset.sum_congr rfl fun a _ => Finset.sum_congr rfl fun q _ => ?_
    have h : (a.val * 64 + q.val) / 64 = a.val := by omega
    have h' : (a.val * 64 + q.val) % 64 = q.val := by omega
    simp only [h, h', a.isLt, dif_pos]
  · refine Finset.sum_congr rfl fun a _ => Finset.sum_congr rfl fun q _ => ?_
    have h : (1024 + (a.val * 64 + q.val)) / 64 - 16 = a.val := by omega
    have h' : (1024 + (a.val * 64 + q.val)) % 64 = q.val := by omega
    rw [dif_neg (show ¬ (1024 + (a.val * 64 + q.val)) / 64 < 16 by omega)]
    simp only [h, h']
  · refine Finset.sum_congr rfl fun k _ => ?_
    have h : (1024 + k.val) / 64 = 16 + k.val / 64 := by omega
    have h' : (1024 + k.val) % 64 = k.val % 64 := by omega
    simp only [h, h']

/-- The rectifier with its factors in the kernel's order. -/
theorem gel_form (x : EReal) :
    Ideal.ofBits FTy.f32 1056964608#32 * x
        * (1 + Ideal.tanh (Ideal.ofBits FTy.f32 1061962282#32 * (x + Ideal.ofBits FTy.f32 1027024659#32 * (x * x * x)))) = gel x := by
  unfold gel
  rw [mul_comm (Ideal.ofBits FTy.f32 1056964608#32) x, mul_assoc]

end Cert.CompRow
end
-- ==== Proof.CompArith.lean ====
/- The compression's arithmetic at one grid point: the sixteen products a chunk's rows are summed in, the hidden values taken of a
   chunk and the next, and the two products the results are. -/
module

public import proofs.«01_k».proof.Proof.Gen.Kernel4Ideal.Value
public import Idealize.ShloMosaic.Lib.Pipeline.ValueKit
public import Idealize.ShloMosaic.Lib.Pipeline.ReadBack
public import Idealize.ShloMosaic.Lib.KernelVsHost
public import proofs.«01_k».proof.Proof.CompRow

@[expose] public section

set_option maxRecDepth 16384

noncomputable section

namespace Cert.CompArith

open Idealize.ShloMosaic Idealize.ShloMosaic.TcCoe Idealize.SL.Sem
open Cert.Kernel4Ideal Cert.Kernel4Ideal.Gen Cert.CompRow

/-- The rows that stand `k` after a chunk's first, for every chunk; and 64 rows of weights, both halves beside each other. -/
abbrev Rows := FVec Ideal S1x256x128 .f32
abbrev Wts := FVec Ideal S64x512 .bf16
/-- A sum so far. -/
abbrev Acc := FVec Ideal S256x512 .f32

/-- One product: 64 lanes of a chunk's row from lane `o` on, against a column of 64 weights. -/
def term (o : Nat) (ho : o + 64 ≤ 128) (x : Rows) (w : Wts) (r : Fin 256) (j : Fin 512) : EReal :=
  ∑ q : Fin 64, (x (ix3 0 r ⟨o + q.val, by omega⟩) : EReal) * w (ix2 q j)

/-! ## The four sums -/

section Sums
variable (X : Fin 16 → Rows) (W : Fin 16 → Wts)

/-- The keys' sum for the first head, as the kernel nests it. -/
def keys0 : Acc :=
  k0_pay46 (k0_pay35 (k0_pay27 (k0_pay19 (k0_pay8 (X 0) (W 0) (X 1) (W 1)) (k0_pay12 (X 2) (W 2)) (X 3) (W 3) (X 4) (W 4) (X 5) (W 5))
    (X 6) (W 6) (X 7) (W 7) (X 8) (W 8)) (k0_pay29 (X 9)) (W 9) (X 10) (W 10) (X 11) (W 11)) (k0_pay39 (X 12) (W 12))
    (X 13) (W 13) (X 14) (W 14) (X 15) (W 15)

/-- Its first half of the columns, which the kernel takes apart from the sum. -/
def keysLo : FVec Ideal S256x256 .f32 :=
  k0_pay48 (k0_pay35 (k0_pay27 (k0_pay19 (k0_pay8 (X 0) (W 0) (X 1) (W 1)) (k0_pay12 (X 2) (W 2)) (X 3) (W 3) (X 4) (W 4) (X 5) (W 5))
    (X 6) (W 6) (X 7) (W 7) (X 8) (W 8)) (k0_pay29 (X 9)) (W 9) (X 10) (W 10) (X 11) (W 11)) (k0_pay39 (X 12) (W 12))
    (X 13) (W 13) (X 14) (W 14) (X 15) (W 15)

/-- The keys' sum for the second head. -/
def keys1 : Acc :=
  k0_pay47 (k0_pay36 (k0_pay28 (k0_pay20 (k0_pay9 (X 0) (W 0) (X 1) (W 1)) (k0_pay10 (X 2)) (k0_pay11 (W 2)) (X 3) (W 3) (X 4) (W 4) (X 5) (W 5))
    (X 6) (W 6) (X 7) (W 7) (X 8) (W 8)) (k0_pay29 (X 9)) (W 9) (X 10) (W 10) (X 11) (W 11)) (k0_pay37 (X 12)) (k0_pay38 (W 12))
    (X 13) (W 13) (X 14) (W 14) (X 15) (W 15)

/-- The values' sum for the first head, with the next chunk's half added. -/
def vals0 : FVec Ideal S256x256 .f32 :=
  k0_pay93 (k0_pay84 (k0_pay76 (k0_pay65 (k0_pay57 (Scalar.ofBits .f32 0x00000000#32) (X 0) (W 0) (X 1) (W 1) (X 2) (W 2)) (X 3) (W 3) (X 4) (W 4) (X 5) (W 5))
    (k0_pay67 (X 6)) (W 6) (X 7) (W 7) (X 8) (W 8) (X 9) (W 9)) (X 10) (W 10) (X 11) (W 11) (X 12) (W 12))
    (X 13) (W 13) (X 14) (W 14) (X 15) (W 15)

/-- The values' sum for the second head. -/
def vals1 : Acc :=
  k0_pay92 (k0_pay85 (k0_pay73 (k0_pay66 (k0_pay58 (X 0) (W 0) (X 1) (W 1) (X 2) (W 2)) (X 3) (W 3) (X 4) (W 4) (X 5) (W 5))
    (k0_pay67 (X 6)) (W 6) (X 7) (W 7) (X 8) (W 8)) (k0_pay75 (W 9)) (k0_pay77 (X 9)) (X 10) (W 10) (X 11) (W 11) (X 12) (W 12))
    (X 13) (W 13) (X 14) (W 14) (X 15) (W 15)

/-- The sixteen products of a row. -/
def terms (o : Nat) (ho : o + 64 ≤ 128) (r : Fin 256) (j : Fin 512) : EReal := ∑ k : Fin 16, term o ho (X k) (W k) r j

theorem terms_eq (o : Nat) (ho : o + 64 ≤ 128) (r : Fin 256) (j : Fin 512) : terms X W o ho r j
    = term o ho (X 0) (W 0) r j + term o ho (X 1) (W 1) r j + term o ho (X 2) (W 2) r j + term o ho (X 3) (W 3) r j
      + term o ho (X 4) (W 4) r j + term o ho (X 5) (W 5) r j + term o ho (X 6) (W 6) r j + term o ho (X 7) (W 7) r j
      + term o ho (X 8) (W 8) r j + term o ho (X 9) (W 9) r j + term o ho (X 10) (W 10) r j + term o ho (X 11) (W 11) r j
      + term o ho (X 12) (W 12) r j + term o ho (X 13) (W 13) r j + term o ho (X 14) (W 14) r j + term o ho (X 15) (W 15) r j := by
  unfold terms
  simp only [Fin.sum_univ_castSucc, Fin.sum_univ_zero, zero_add]
  rfl

theorem keys0_at (r : Fin 256) (j : Fin 512) : keys0 X W (ix2 r j) = terms X W 0 (by omega) r j := by
  rw [terms_eq]
  unfold keys0
  open_payloads
  pointwise [term]

theorem keysLo_at (r : Fin 256) (j : Fin 256) : keysLo X W (ix2 r j) = keys0 X W (ix2 r ⟨j.val, by omega⟩) := by
  unfold keysLo keys0
  generalize k0_pay35 (F := Ideal) _ _ _ _ _ _ _ = a
  pointwise [k0_pay48]

theorem keys1_at (r : Fin 256) (j : Fin 512) : keys1 X W (ix2 r j) = terms X W 64 (by omega) r j := by
  rw [terms_eq]
  unfold keys1
  open_payloads
  pointwise [term]

theorem vals1_at (r : Fin 256) (j : Fin 512) : vals1 X W (ix2 r j) = terms X W 64 (by omega) r j := by
  rw [terms_eq]
  unfold vals1
  open_payloads
  pointwise [term]

theorem back_one (r : Fin 256) : (⟨(r.val + 256 - 255) % 256, Nat.mod_lt _ (by omega)⟩ : Fin 256) = nxt r :=
  Fin.ext (by show (r.val + 256 - 255) % 256 = (r.val + 1) % 256; omega)

theorem vals0_at (r : Fin 256) (j : Fin 256) : vals0 X W (ix2 r j)
    = terms X W 0 (by omega) r ⟨j.val, by omega⟩ + terms X W 0 (by omega) (nxt r) ⟨256 + j.val, by omega⟩ := by
  rw [terms_eq, terms_eq]
  unfold vals0
  open_payloads
  pointwise [term]
  simp only [back_one]

end Sums

/-! ## The hidden values -/

section Hidden
variable (p : FVec Ideal S1x1x256 .f32) (r j : Fin 256)

theorem hid49_at (a : Acc) (b : FVec Ideal S256x256 .f32) :
    (show EReal from k0_pay49 a b p (ix2 r j)) = gel (b (ix2 r j) + a (ix2 (nxt r) ⟨256 + j.val, by omega⟩) + p (ix3 0 0 j)) := by
  rw [← gel_form]
  pointwise [k0_pay49]
  simp only [back_one]

theorem hid50_at (a : Acc) :
    (show EReal from k0_pay50 a p (ix2 r j))
      = gel (a (ix2 r ⟨j.val, by omega⟩) + a (ix2 (nxt r) ⟨256 + j.val, by omega⟩) + p (ix3 0 0 j)) := by
  rw [← gel_form]
  pointwise [k0_pay50]
  simp only [back_one]

theorem hid95_at (a : Acc) :
    (show EReal from k0_pay95 a p (ix2 r j))
      = gel (a (ix2 r ⟨j.val, by omega⟩) + a (ix2 (nxt r) ⟨256 + j.val, by omega⟩) + p (ix3 0 0 j)) := by
  rw [← gel_form]
  pointwise [k0_pay95]
  simp only [back_one]

theorem hid94_at (b : FVec Ideal S256x256 .f32) :
    (show EReal from k0_pay94 b p (ix2 r j)) = gel (b (ix2 r j) + p (ix3 0 0 j)) := by
  rw [← gel_form]
  pointwise [k0_pay94]

end Hidden

/-! ## The positions' share, and the two results -/

theorem pos2_at (p : FVec Ideal S16x1024 .f32) (w : FVec Ideal S1024x512 .bf16) (j : Fin 256) :
    k0_pay2 p w (ix3 0 0 j) = (∑ k : Fin 1024, (p (ix2 0 k) : EReal) * w (ix2 k ⟨j.val, by omega⟩)) + ∑ k : Fin 1024, (p (ix2 1 k) : EReal) * w (ix2 k ⟨256 + j.val, by omega⟩) := by
  pointwise [k0_pay2]

theorem pos3_at (p : FVec Ideal S16x1024 .f32) (w : FVec Ideal S1024x512 .bf16) (j : Fin 256) :
    k0_pay3 p w (ix3 0 0 j) = (∑ k : Fin 1024, (p (ix2 0 k) : EReal) * w (ix2 k ⟨j.val, by omega⟩)) + ∑ k : Fin 1024, (p (ix2 1 k) : EReal) * w (ix2 k ⟨256 + j.val, by omega⟩) := by
  pointwise [k0_pay3]

theorem res97_at (h : FVec Ideal S256x256 .bf16) (w : FVec Ideal S256x128 .bf16) (r : Fin 256) (l : Fin 128) :
    (show EReal from k0_pay97 (k0_pay96 h w) (ix4 0 0 r l)) = ∑ j : Fin 256, (h (ix2 r j) : EReal) * w (ix2 j l) := by
  pointwise [k0_pay97, k0_pay96]

theorem res99_at (h : FVec Ideal S256x256 .bf16) (w : FVec Ideal S256x128 .bf16) (r : Fin 256) (l : Fin 128) :
    (show EReal from k0_pay99 h w (ix4 0 0 r l)) = ∑ j : Fin 256, (h (ix2 r j) : EReal) * w (ix2 j l) := by
  pointwise [k0_pay99]

theorem res98_at (h : FVec Ideal S256x256 .bf16) (w : FVec Ideal S64x256 .bf16) (l : Fin 64) (r : Fin 256) :
    (show EReal from k0_pay98 h w (ix4 0 0 l r)) = ∑ j : Fin 256, (w (ix2 l j) : EReal) * h (ix2 r j) := by
  pointwise [k0_pay98]

theorem res100_at (h : FVec Ideal S256x256 .bf16) (w : FVec Ideal S64x256 .bf16) (l : Fin 64) (r : Fin 256) :
    (show EReal from k0_pay1 (k0_pay100 h w) (ix4 0 0 l r)) = ∑ j : Fin 256, (w (ix2 l j) : EReal) * h (ix2 r j) := by
  pointwise [k0_pay1, k0_pay100]

end Cert.CompArith
end
-- ==== Proof.CompKernel.lean ====
/- The operands of the compression's kernel: what the host prepares from the arguments, and the blocks and loads of a grid point. -/
module

public import proofs.«01_k».proof.Proof.CompArith
public import Idealize.ShloMosaic.Lib.WholeRead

@[expose] public section

set_option maxRecDepth 16384

noncomputable section

namespace Cert.CompKernel

open Idealize.ShloMosaic Idealize.ShloMosaic.TcCoe Idealize.SL.Sem
open Idealize.ShloMosaic.Pipeline (Dat)
open Cert.Kernel4Ideal Cert.Kernel4Ideal.Gen Cert.CompRow

variable (m : (ℓ : Loc nD τ sig) → Buf (Elt Ideal) ℓ)

/-! ## The operands the host prepares -/

section Entry
variable (c : Dev nD)

/-- The two halves of a weight beside each other. -/
def beside (w : FVec Ideal S2048x256 .f32) (k : Fin 1024) (j : Fin 512) : EReal :=
  if h : j.val < 256 then w (ix2 ⟨k.val, by omega⟩ ⟨j.val, h⟩) else w (ix2 ⟨1024 + k.val, by omega⟩ ⟨j.val - 256, by omega⟩)

theorem wk_entry (k : Fin 1024) (j : Fin 512) :
    (show EReal from V m c main_v8 (ix2 k j)) = beside (m ((c : Thread nD τ).loc main_arg4)) k j := by
  simp only [V, hostOps0, hostOps0_1, hostOps0_2, hostOps0_3, List.flatten_cons, List.flatten_nil, List.append_nil, List.cons_append, List.nil_append]
  entry_read
  pointwise [beside]

theorem wv_entry (k : Fin 1024) (j : Fin 512) :
    (show EReal from V m c main_v12 (ix2 k j)) = beside (m ((c : Thread nD τ).loc main_arg6)) k j := by
  simp only [V, hostOps0, hostOps0_1, hostOps0_2, hostOps0_3, List.flatten_cons, List.flatten_nil, List.append_nil, List.cons_append, List.nil_append]
  entry_read
  pointwise [beside]

/-- The keys' second weight, behind 64 columns of zeros. -/
theorem w2k_entry (j : Fin 256) (l : Fin 128) :
    (show EReal from V m c main_v2 (ix2 j l))
      = if h : l.val < 64 then (0 : EReal) else m ((c : Thread nD τ).loc main_arg5) (ix2 j ⟨l.val - 64, by omega⟩) := by
  simp only [V, hostOps0, hostOps0_1, hostOps0_2, hostOps0_3, List.flatten_cons, List.flatten_nil, List.append_nil, List.cons_append, List.nil_append]
  entry_read
  pointwise []

/-- The values' second weight, transposed. -/
theorem w2v_entry (l : Fin 64) (j : Fin 256) :
    (show EReal from V m c main_v4 (ix2 l j)) = m ((c : Thread nD τ).loc main_arg7) (ix2 j l) := by
  simp only [V, hostOps0, hostOps0_1, hostOps0_2, hostOps0_3, List.flatten_cons, List.flatten_nil, List.append_nil, List.cons_append, List.nil_append]
  entry_read
  pointwise []

/-- Two rows, and fourteen of padding behind them. -/
theorem pad_two (x : FVec Ideal S2x1024 .f32) (v : FVec Ideal S_ .f32) (a : Fin 16) (k : Fin 1024) (ha : a.val < 2) :
    pad S16x1024 ![0, 0] ![14, 0] ![0, 0] x v pads_S2x1024_S16x1024_0140_000 h_S_ (ix2 a k) = x (ix2 ⟨a.val, ha⟩ k) := by
  pointwise []
  rw [dif_pos ha]

/-- The positions of the first and of the second half of a block, in a row each. -/
theorem pk_entry (a : Fin 16) (k : Fin 1024) (ha : a.val < 2) :
    (show EReal from V m c main_v14 (ix2 a k)) = m ((c : Thread nD τ).loc main_arg2) (ix2 ⟨a.val * 16 + k.val / 64, by omega⟩ ⟨k.val % 64, by omega⟩) := by
  simp only [V, hostOps0, hostOps0_1, hostOps0_2, hostOps0_3, List.flatten_cons, List.flatten_nil, List.append_nil, List.cons_append, List.nil_append]
  entry_read
  refine Eq.trans (pad_two (shapeCast S2x1024 (show FVec Ideal S32x64 .f32 from m ((c : Thread nD τ).loc main_arg2)) shapeCasts_S32x64_S2x1024)
    (sitofp (F := Ideal) .f32 (constantI S_ 32 0#32)) a k ha) ?_
  pointwise []

theorem pv_entry (a : Fin 16) (k : Fin 1024) (ha : a.val < 2) :
    (show EReal from V m c main_v16 (ix2 a k)) = m ((c : Thread nD τ).loc main_arg3) (ix2 ⟨a.val * 16 + k.val / 64, by omega⟩ ⟨k.val % 64, by omega⟩) := by
  simp only [V, hostOps0, hostOps0_1, hostOps0_2, hostOps0_3, List.flatten_cons, List.flatten_nil, List.append_nil, List.cons_append, List.nil_append]
  entry_read
  refine Eq.trans (pad_two (shapeCast S2x1024 (show FVec Ideal S32x64 .f32 from m ((c : Thread nD τ).loc main_arg3)) shapeCasts_S32x64_S2x1024)
    (sitofp (F := Ideal) .f32 (constantI S_ 32 0#32)) a k ha) ?_
  pointwise []

end Entry

/-! ## The blocks of a grid point, and the loads from them -/

section Blocks
variable (c : Dev nD) (t : Fin cfg0.N)

theorem t_lt (t : Fin cfg0.N) : t.val < 4 := lt_of_lt_of_eq t.isLt (by decide)

/-- The batch of a grid point. -/
abbrev bat (t : Fin cfg0.N) : Fin 4 := ⟨t.val, t_lt t⟩

theorem idx : ∀ t : Fin cfg0.N, win0_0.index t = ![t.val, 0, 0] ∧ win0_1.index t = ![t.val, 0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![t.val, 0, 0, 0] ∧ win0_9.index t = ![t.val, 0, 0, 0] :=
  (by decide +kernel : ∀ t : Fin grid0.N, _)

theorem kc_blk (r : Fin 4096) (l : Fin 128) :
    iblk m c 0 t (ix3 0 r l) = m ((c : Thread nD τ).loc main_arg0) (ix3 (bat t) r l) := by
  rw [← V_main_arg0 m c]
  blk_ext [iblk, idx t]

theorem vc_blk (r : Fin 4096) (l : Fin 128) :
    iblk m c 1 t (ix3 0 r l) = m ((c : Thread nD τ).loc main_arg1) (ix3 (bat t) r l) := by
  rw [← V_main_arg1 m c]
  blk_ext [iblk, idx t]

theorem wk_blk (k : Fin 1024) (j : Fin 512) : (show EReal from iblk m c 2 t (ix2 k j)) = beside (m ((c : Thread nD τ).loc main_arg4)) k j := by
  rw [← wk_entry m c k j]
  blk_ext [iblk, idx t]

theorem wv_blk (k : Fin 1024) (j : Fin 512) : (show EReal from iblk m c 3 t (ix2 k j)) = beside (m ((c : Thread nD τ).loc main_arg6)) k j := by
  rw [← wv_entry m c k j]
  blk_ext [iblk, idx t]

theorem w2k_blk (j : Fin 256) (l : Fin 128) : (show EReal from iblk m c 4 t (ix2 j l))
    = if h : l.val < 64 then (0 : EReal) else m ((c : Thread nD τ).loc main_arg5) (ix2 j ⟨l.val - 64, by omega⟩) := by
  rw [← w2k_entry m c j l]
  blk_ext [iblk, idx t]

theorem w2v_blk (l : Fin 64) (j : Fin 256) : (show EReal from iblk m c 5 t (ix2 l j)) = m ((c : Thread nD τ).loc main_arg7) (ix2 j l) := by
  rw [← w2v_entry m c l j]
  blk_ext [iblk, idx t]

theorem pk_blk (a : Fin 16) (k : Fin 1024) (ha : a.val < 2) :
    (show EReal from iblk m c 6 t (ix2 a k)) = m ((c : Thread nD τ).loc main_arg2) (ix2 ⟨a.val * 16 + k.val / 64, by omega⟩ ⟨k.val % 64, by omega⟩) := by
  rw [← pk_entry m c a k ha]
  blk_ext [iblk, idx t]

theorem pv_blk (a : Fin 16) (k : Fin 1024) (ha : a.val < 2) :
    (show EReal from iblk m c 7 t (ix2 a k)) = m ((c : Thread nD τ).loc main_arg3) (ix2 ⟨a.val * 16 + k.val / 64, by omega⟩ ⟨k.val % 64, by omega⟩) := by
  rw [← pv_entry m c a k ha]
  blk_ext [iblk, idx t]

/-- The rows `k` after each chunk's first, as the kernel loads them. -/
theorem strided_inb (k : Fin 16) : ∀ a : Fin 3, (![1, 256, 128] a = 0) ∨ ![0, k.val, 0] a + ![1, 16, 1] a * (![1, 256, 128] a - 1) < S1x4096x128.size a := by
  intro a
  fin_cases a <;> simp [S1x4096x128] <;> omega

theorem tile_inb (k : Fin 16) : ∀ a : Fin 2, ![64 * k.val, 0] a + ![64, 512] a ≤ S1024x512.size a := by
  intro a
  fin_cases a <;> simp [S1024x512] <;> omega

/-- The keys' rows. -/
def XK (k : Fin 16) : CompArith.Rows :=
  View.readAt (Elt Ideal) (ms0_0 t).view ⟨![0, k.val, 0], ![1, 256, 128], ![1, 16, 1], strided_inb k⟩ ((hs0_0 t).unread (iblk m c 0 t))
def XV (k : Fin 16) : CompArith.Rows :=
  View.readAt (Elt Ideal) (ms0_1 t).view ⟨![0, k.val, 0], ![1, 256, 128], ![1, 16, 1], strided_inb k⟩ ((hs0_1 t).unread (iblk m c 1 t))
def WK (k : Fin 16) : CompArith.Wts := View.ld (iblk m c 2 t) (Rect.unit (s := S1024x512) ![64 * k.val, 0] ![64, 512] (tile_inb k))
def WV (k : Fin 16) : CompArith.Wts := View.ld (iblk m c 3 t) (Rect.unit (s := S1024x512) ![64 * k.val, 0] ![64, 512] (tile_inb k))

theorem XK_at (k : Fin 16) (r : Fin 256) (l : Fin 128) :
    XK m c t k (ix3 0 r l) = m ((c : Thread nD τ).loc main_arg0) (ix3 (bat t) ⟨r.val * 16 + k.val, by omega⟩ l) := by
  unfold XK
  rw [Memref.IsWhole.readAt_unread (hs0_0 t), ← kc_blk m c t]
  refine congrArg _ ?_
  blk_ext <;> simp <;> omega

theorem XV_at (k : Fin 16) (r : Fin 256) (l : Fin 128) :
    XV m c t k (ix3 0 r l) = m ((c : Thread nD τ).loc main_arg1) (ix3 (bat t) ⟨r.val * 16 + k.val, by omega⟩ l) := by
  unfold XV
  rw [Memref.IsWhole.readAt_unread (hs0_1 t), ← vc_blk m c t]
  refine congrArg _ ?_
  blk_ext <;> simp <;> omega

theorem WK_at (k : Fin 16) (q : Fin 64) (j : Fin 512) :
    (show EReal from WK m c t k (ix2 q j)) = beside (m ((c : Thread nD τ).loc main_arg4)) ⟨k.val * 64 + q.val, by omega⟩ j := by
  unfold WK
  rw [View.ld_apply]
  refine .trans (congrArg (iblk m c 2 t) ?_) (wk_blk m c t _ j)
  blk_ext <;> simp <;> omega

theorem WV_at (k : Fin 16) (q : Fin 64) (j : Fin 512) :
    (show EReal from WV m c t k (ix2 q j)) = beside (m ((c : Thread nD τ).loc main_arg6)) ⟨k.val * 64 + q.val, by omega⟩ j := by
  unfold WV
  rw [View.ld_apply]
  refine .trans (congrArg (iblk m c 3 t) ?_) (wv_blk m c t _ j)
  blk_ext <;> simp <;> omega

end Blocks

end Cert.CompKernel
end
-- ==== Proof.CompRef.lean ====
/- The reference of the compression, read at one index. -/
module

public import proofs.«01_k».proof.Proof.Gen.Reference4Ideal.Read
public import proofs.«01_k».proof.Proof.CompRow

@[expose] public section

set_option maxRecDepth 16384

noncomputable section

namespace Cert.CompRef

open Idealize.ShloMosaic Idealize.ShloMosaic.TcCoe
open Cert.Reference4Ideal Cert.Reference4Ideal.Gen Cert.Reference4Ideal.Read Cert.CompRow

variable (x0 x1 : FVec Ideal S4x4096x128 .f32) (x2 x3 : FVec Ideal S32x64 .f32) (x4 : FVec Ideal S2048x256 .f32) (x5 : FVec Ideal S256x64 .f32)

/-- The rows of a batch entry, of the columns of one group. -/
abbrev rows (x : FVec Ideal S4x4096x128 .f32) (b : Fin 4) (g : Fin 2) : Fin 4096 → Fin 64 → EReal := fun t q => x (ix3 b t ⟨g.val * 64 + q.val, by omega⟩)

/-- A hidden value of a block. -/
abbrev hid (x : FVec Ideal S4x4096x128 .f32) (p : FVec Ideal S32x64 .f32) (w : FVec Ideal S2048x256 .f32) (b : Fin 4) (g : Fin 2) (r j : Fin 256) : EReal :=
  gel (pre (rows x b g) (fun i q => p (ix2 i q)) (fun k => w (ix2 k j)) r)

/-- The next chunk, as the rotated array holds it. -/
theorem wrap (f : Fin 4096 → EReal) (r : Fin 256) (n : ℕ) (hn : n < 16) :
    (if h : r.val < 255 then f ⟨(1 + r.val) * 16 + n, by omega⟩ else f ⟨(r.val - 255) * 16 + n, by omega⟩)
      = f ⟨(nxt r).val * 16 + n, by have := (nxt r).isLt; omega⟩ := by
  by_cases h : r.val < 255
  · rw [dif_pos h]
    exact congrArg f (Fin.ext (by show (1 + r.val) * 16 + n = (r.val + 1) % 256 * 16 + n; omega))
  · rw [dif_neg h]
    exact congrArg f (Fin.ext (by show (r.val - 255) * 16 + n = (r.val + 1) % 256 * 16 + n; omega))

theorem flatK_at (b : Fin 4) (r : Fin 256) (g : Fin 2) (i : Fin 2048) :
    val_main_v9 (F := Ideal) x0 x2 (ix4 b r g i)
      = (if h : i.val / 64 < 16 then rows x0 b g ⟨r.val * 16 + i.val / 64, by omega⟩ ⟨i.val % 64, by omega⟩
          else rows x0 b g ⟨(nxt r).val * 16 + (i.val / 64 - 16), by have := (nxt r).isLt; omega⟩ ⟨i.val % 64, by omega⟩)
        + x2 (ix2 ⟨i.val / 64, by omega⟩ ⟨i.val % 64, by omega⟩) := by
  have e : val_main_v9 (F := Ideal) x0 x2 (ix4 b r g i)
      = (if h : i.val / 64 < 16 then x0 (ix3 b ⟨r.val * 16 + i.val / 64, by omega⟩ ⟨g.val * 64 + i.val % 64, by omega⟩)
          else if h : r.val < 255 then x0 (ix3 b ⟨(1 + r.val) * 16 + (i.val / 64 - 16), by omega⟩ ⟨g.val * 64 + i.val % 64, by omega⟩)
          else x0 (ix3 b ⟨(r.val - 255) * 16 + (i.val / 64 - 16), by omega⟩ ⟨g.val * 64 + i.val % 64, by omega⟩))
        + x2 (ix2 ⟨i.val / 64, by omega⟩ ⟨i.val % 64, by omega⟩) := by
    pointwise [val_main_v9, val_main_v8, val_main_v7, val_main_v6, val_main_v5, val_main_v4, val_main_v3, val_main_v2, val_main_v1, val_main_v0]
  rw [e]
  refine congrArg (· + _) ?_
  by_cases h : i.val / 64 < 16
  · rw [dif_pos h, dif_pos h]
  · rw [dif_neg h, dif_neg h]
    exact wrap (fun t => rows x0 b g t ⟨i.val % 64, by omega⟩) r (i.val / 64 - 16) (by omega)

theorem dotK_at (b : Fin 4) (r : Fin 256) (g : Fin 2) (j : Fin 256) :
    val_main_v10 (F := Ideal) x0 x2 x4 (ix4 b r g j) = pre (rows x0 b g) (fun i q => x2 (ix2 i q)) (fun k => x4 (ix2 k j)) r := by
  have e : val_main_v10 (F := Ideal) x0 x2 x4 (ix4 b r g j) = ∑ i, val_main_v9 (F := Ideal) x0 x2 (ix4 b r g i) * x4 (ix2 i j) := by
    pointwise [val_main_v10]
  rw [e]
  exact Finset.sum_congr rfl fun i _ => congrArg (· * _) (flatK_at x0 x2 b r g i)

theorem flatV_at (b : Fin 4) (r : Fin 256) (g : Fin 2) (i : Fin 2048) :
    val_main_v34 (F := Ideal) x1 x3 (ix4 b r g i)
      = (if h : i.val / 64 < 16 then rows x1 b g ⟨r.val * 16 + i.val / 64, by omega⟩ ⟨i.val % 64, by omega⟩
          else rows x1 b g ⟨(nxt r).val * 16 + (i.val / 64 - 16), by have := (nxt r).isLt; omega⟩ ⟨i.val % 64, by omega⟩)
        + x3 (ix2 ⟨i.val / 64, by omega⟩ ⟨i.val % 64, by omega⟩) := by
  have e : val_main_v34 (F := Ideal) x1 x3 (ix4 b r g i)
      = (if h : i.val / 64 < 16 then x1 (ix3 b ⟨r.val * 16 + i.val / 64, by omega⟩ ⟨g.val * 64 + i.val % 64, by omega⟩)
          else if h : r.val < 255 then x1 (ix3 b ⟨(1 + r.val) * 16 + (i.val / 64 - 16), by omega⟩ ⟨g.val * 64 + i.val % 64, by omega⟩)
          else x1 (ix3 b ⟨(r.val - 255) * 16 + (i.val / 64 - 16), by omega⟩ ⟨g.val * 64 + i.val % 64, by omega⟩))
        + x3 (ix2 ⟨i.val / 64, by omega⟩ ⟨i.val % 64, by omega⟩) := by
    pointwise [val_main_v34, val_main_v33, val_main_v32, val_main_v31, val_main_v30, val_main_v29, val_main_v28, val_main_v27, val_main_v26, val_main_v25]
  rw [e]
  refine congrArg (· + _) ?_
  by_cases h : i.val / 64 < 16
  · rw [dif_pos h, dif_pos h]
  · rw [dif_neg h, dif_neg h]
    exact wrap (fun t => rows x1 b g t ⟨i.val % 64, by omega⟩) r (i.val / 64 - 16) (by omega)

theorem dotV_at (b : Fin 4) (r : Fin 256) (g : Fin 2) (j : Fin 256) :
    val_main_v35 (F := Ideal) x1 x3 x4 (ix4 b r g j) = pre (rows x1 b g) (fun i q => x3 (ix2 i q)) (fun k => x4 (ix2 k j)) r := by
  have e : val_main_v35 (F := Ideal) x1 x3 x4 (ix4 b r g j) = ∑ i, val_main_v34 (F := Ideal) x1 x3 (ix4 b r g i) * x4 (ix2 i j) := by
    pointwise [val_main_v35]
  rw [e]
  exact Finset.sum_congr rfl fun i _ => congrArg (· * _) (flatV_at x1 x3 b r g i)

/-- The hidden values of the keys' blocks and of the values' blocks. -/
theorem hidK_at (b : Fin 4) (r : Fin 256) (g : Fin 2) (j : Fin 256) : val_main_v23 (F := Ideal) x0 x2 x4 (ix4 b r g j) = hid x0 x2 x4 b g r j := by
  unfold hid
  rw [← dotK_at]
  pointwise [val_main_v23, val_main_v22, val_main_v21, val_main_v20, val_main_v19, val_main_v18, val_main_v17, val_main_v16, val_main_v15,
    val_main_v14, val_main_v13, val_main_v12, val_main_v11, val_main_cst, val_main_cst_0, val_main_cst_1, val_main_cst_2, gel]

theorem hidV_at (b : Fin 4) (r : Fin 256) (g : Fin 2) (j : Fin 256) : val_main_v48 (F := Ideal) x1 x3 x4 (ix4 b r g j) = hid x1 x3 x4 b g r j := by
  unfold hid
  rw [← dotV_at]
  pointwise [val_main_v48, val_main_v47, val_main_v46, val_main_v45, val_main_v44, val_main_v43, val_main_v42, val_main_v41, val_main_v40,
    val_main_v39, val_main_v38, val_main_v37, val_main_v36, val_main_cst_3, val_main_cst_4, val_main_cst_5, val_main_cst_6, gel]

/-- The compressed keys, zeros before them. -/
theorem k_at (b : Fin 4) (g : Fin 2) (r : Fin 256) (l : Fin 128) :
    val_main_v53 (F := Ideal) x0 x2 x4 x5 (ix4 b g r l)
      = if h : l.val < 64 then (0 : EReal) else ∑ j : Fin 256, hid x0 x2 x4 b g r j * x5 (ix2 j ⟨l.val - 64, by omega⟩) := by
  pointwise [val_main_v53, val_main_v52, val_main_v51, val_main_v50, val_main_v24, val_main_cst_7, hidK_at]

/-- The compressed values, a column for each block. -/
theorem v_at (b : Fin 4) (g : Fin 2) (l : Fin 64) (r : Fin 256) :
    val_main_v55 (F := Ideal) x1 x3 x4 x5 (ix4 b g l r) = ∑ j : Fin 256, hid x1 x3 x4 b g r j * x5 (ix2 j l) := by
  pointwise [val_main_v55, val_main_v54, val_main_v49, hidV_at]

end Cert.CompRef
end
-- ==== Proof.CompValue.lean ====
/- The arrays the kernel of the compression leaves: at every index the reference's values. -/
module

public import proofs.«01_k».proof.Proof.CompKernel
public import proofs.«01_k».proof.Proof.CompRef

@[expose] public section

set_option maxRecDepth 16384

noncomputable section

namespace Cert.CompValue

open Idealize.ShloMosaic Idealize.ShloMosaic.TcCoe Idealize.SL.Sem
open Idealize.ShloMosaic.Pipeline (Dat)
open Cert.Kernel4Ideal Cert.Kernel4Ideal.Gen Cert.CompRow Cert.CompKernel Cert.CompArith
open Cert.CompRef (rows hid)
open Cert.Reference4Ideal.Read

variable (m : (ℓ : Loc nD τ sig) → Buf (Elt Ideal) ℓ)

/-- The arguments as arrays. -/
abbrev kc (c : Dev nD) : FVec Ideal S4x4096x128 .f32 := m ((c : Thread nD τ).loc main_arg0)
abbrev vc (c : Dev nD) : FVec Ideal S4x4096x128 .f32 := m ((c : Thread nD τ).loc main_arg1)
abbrev pk (c : Dev nD) : FVec Ideal S32x64 .f32 := m ((c : Thread nD τ).loc main_arg2)
abbrev pv (c : Dev nD) : FVec Ideal S32x64 .f32 := m ((c : Thread nD τ).loc main_arg3)
abbrev w1k (c : Dev nD) : FVec Ideal S2048x256 .f32 := m ((c : Thread nD τ).loc main_arg4)
abbrev w2k (c : Dev nD) : FVec Ideal S256x64 .f32 := m ((c : Thread nD τ).loc main_arg5)
abbrev w1v (c : Dev nD) : FVec Ideal S2048x256 .f32 := m ((c : Thread nD τ).loc main_arg6)
abbrev w2v (c : Dev nD) : FVec Ideal S256x64 .f32 := m ((c : Thread nD τ).loc main_arg7)

/-- A column of a weight. -/
abbrev col (w : FVec Ideal S2048x256 .f32) (j : Fin 256) : Fin 2048 → EReal := fun k => w (ix2 k j)

/-- The positions' share of the hidden value `j`. -/
abbrev share (p : FVec Ideal S32x64 .f32) (w : FVec Ideal S2048x256 .f32) (j : Fin 256) : EReal := posSum (fun i q => p (ix2 i q)) (col w j)

theorem beside_lo (w : FVec Ideal S2048x256 .f32) (k : Fin 1024) (j : Fin 256) : beside w k ⟨j.val, by omega⟩ = lo (col w j) k := by
  unfold beside
  rw [dif_pos j.isLt]

theorem beside_hi (w : FVec Ideal S2048x256 .f32) (k : Fin 1024) (j : Fin 256) : beside w k ⟨256 + j.val, by omega⟩ = hi (col w j) k := by
  unfold beside
  rw [dif_neg (by simp only []; omega)]
  exact congrArg (fun j => w (ix2 _ j)) (Fin.ext (by simp only []; omega))

section Point
variable (c : Dev nD) (t : Fin cfg0.N)

/-- The products of a chunk's rows of one head, with the first or the second half of a weight. -/
theorem termsK (g : Fin 2) (o : Nat) (ho : o + 64 ≤ 128) (hg : o = g.val * 64) (r : Fin 256) (j : Fin 512) :
    terms (XK m c t) (WK m c t) o ho r j = part (rows (kc m c) (bat t) g) (fun k => beside (w1k m c) k j) r := by
  subst hg
  unfold terms part term
  exact Finset.sum_congr rfl fun k _ => Finset.sum_congr rfl fun q _ => congrArg₂ (· * ·) (XK_at m c t k r _) (WK_at m c t k q j)

theorem termsV (g : Fin 2) (o : Nat) (ho : o + 64 ≤ 128) (hg : o = g.val * 64) (r : Fin 256) (j : Fin 512) :
    terms (XV m c t) (WV m c t) o ho r j = part (rows (vc m c) (bat t) g) (fun k => beside (w1v m c) k j) r := by
  subst hg
  unfold terms part term
  exact Finset.sum_congr rfl fun k _ => Finset.sum_congr rfl fun q _ => congrArg₂ (· * ·) (XV_at m c t k r _) (WV_at m c t k q j)

/-- The positions' shares, as the first grid point computes them. -/
theorem shareK (j : Fin 256) : k0_pay2 (iblk m c 6 t) (iblk m c 2 t) (ix3 0 0 j) = share (pk m c) (w1k m c) j := by
  refine (pos2_at ..).trans ?_
  unfold share posSum
  refine congrArg₂ (· + ·) (Finset.sum_congr rfl fun k _ => congrArg₂ (· * ·) ?_ ?_) (Finset.sum_congr rfl fun k _ => congrArg₂ (· * ·) ?_ ?_)
  · refine (pk_blk m c t 0 k (by decide)).trans (congrArg _ ?_)
    blk_ext <;> simp
  · exact (wk_blk m c t k _).trans (beside_lo ..)
  · refine (pk_blk m c t 1 k (by decide)).trans (congrArg _ ?_)
    blk_ext <;> simp
  · exact (wk_blk m c t k _).trans (beside_hi ..)

theorem shareV (j : Fin 256) : k0_pay3 (iblk m c 7 t) (iblk m c 3 t) (ix3 0 0 j) = share (pv m c) (w1v m c) j := by
  refine (pos3_at ..).trans ?_
  unfold share posSum
  refine congrArg₂ (· + ·) (Finset.sum_congr rfl fun k _ => congrArg₂ (· * ·) ?_ ?_) (Finset.sum_congr rfl fun k _ => congrArg₂ (· * ·) ?_ ?_)
  · refine (pv_blk m c t 0 k (by decide)).trans (congrArg _ ?_)
    blk_ext <;> simp
  · exact (wv_blk m c t k _).trans (beside_lo ..)
  · refine (pv_blk m c t 1 k (by decide)).trans (congrArg _ ?_)
    blk_ext <;> simp
  · exact (wv_blk m c t k _).trans (beside_hi ..)

end Point

/-- The reference's hidden value, of the kernel's three sums. -/
theorem hid_form (x : FVec Ideal S4x4096x128 .f32) (p : FVec Ideal S32x64 .f32) (w : FVec Ideal S2048x256 .f32)
    (hp : ∀ i, Fin' (p i)) (hw : ∀ i, Fin' (w i)) (b : Fin 4) (g : Fin 2) (r j : Fin 256) :
    gel (part (rows x b g) (fun k => beside w k ⟨j.val, by omega⟩) r + part (rows x b g) (fun k => beside w k ⟨256 + j.val, by omega⟩) (nxt r)
      + share p w j) = hid x p w b g r j := by
  unfold hid
  rw [pre_eq _ _ _ _ (fun i q => hp _) (fun k => hw _)]
  simp only [beside_lo, beside_hi]

/-- No infinity among the positions and the first weights. -/
structure Finite (c : Dev nD) : Prop where
  pk : ∀ i, Fin' (pk m c i)
  pv : ∀ i, Fin' (pv m c i)
  w1k : ∀ i, Fin' (w1k m c i)
  w1v : ∀ i, Fin' (w1v m c i)

section Results
variable (c : Dev nD) (t : Fin cfg0.N) (hf : Finite m c) (p : FVec Ideal S1x1x256 .f32)

include hf

theorem hidK0 (hp : ∀ j, p (ix3 0 0 j) = share (pk m c) (w1k m c) j) (r j : Fin 256) :
    (show EReal from k0_pay49 (keys0 (XK m c t) (WK m c t)) (keysLo (XK m c t) (WK m c t)) p (ix2 r j))
      = hid (kc m c) (pk m c) (w1k m c) (bat t) 0 r j := by
  rw [← hid_form _ _ _ hf.pk hf.w1k]
  refine (hid49_at ..).trans ?_
  rw [keysLo_at, keys0_at, keys0_at, hp, termsK m c t 0 0 _ rfl, termsK m c t 0 0 _ rfl]

theorem hidK1 (hp : ∀ j, p (ix3 0 0 j) = share (pk m c) (w1k m c) j) (r j : Fin 256) :
    (show EReal from k0_pay50 (keys1 (XK m c t) (WK m c t)) p (ix2 r j)) = hid (kc m c) (pk m c) (w1k m c) (bat t) 1 r j := by
  rw [← hid_form _ _ _ hf.pk hf.w1k]
  refine (hid50_at ..).trans ?_
  rw [keys1_at, keys1_at, hp, termsK m c t 1 64 _ rfl, termsK m c t 1 64 _ rfl]

theorem hidV0 (hp : ∀ j, p (ix3 0 0 j) = share (pv m c) (w1v m c) j) (r j : Fin 256) :
    (show EReal from k0_pay94 (vals0 (XV m c t) (WV m c t)) p (ix2 r j)) = hid (vc m c) (pv m c) (w1v m c) (bat t) 0 r j := by
  rw [← hid_form _ _ _ hf.pv hf.w1v]
  refine (hid94_at ..).trans ?_
  rw [vals0_at, hp, termsV m c t 0 0 _ rfl, termsV m c t 0 0 _ rfl]

theorem hidV1 (hp : ∀ j, p (ix3 0 0 j) = share (pv m c) (w1v m c) j) (r j : Fin 256) :
    (show EReal from k0_pay95 (vals1 (XV m c t) (WV m c t)) p (ix2 r j)) = hid (vc m c) (pv m c) (w1v m c) (bat t) 1 r j := by
  rw [← hid_form _ _ _ hf.pv hf.w1v]
  refine (hid95_at ..).trans ?_
  rw [vals1_at, vals1_at, hp, termsV m c t 1 64 _ rfl, termsV m c t 1 64 _ rfl]

omit hf

/-- A row of the keys' result, of the hidden values. -/
theorem keys_row (h : FVec Ideal S256x256 .bf16) (g : Fin 2) (r : Fin 256) (l : Fin 128)
    (hh : ∀ j, (show EReal from h (ix2 r j)) = hid (kc m c) (pk m c) (w1k m c) (bat t) g r j) :
    (∑ j : Fin 256, (h (ix2 r j) : EReal) * iblk m c 4 t (ix2 j l))
      = val_main_v53 (F := Ideal) (kc m c) (pk m c) (w1k m c) (w2k m c) (ix4 (bat t) g r l) := by
  rw [CompRef.k_at]
  by_cases h64 : l.val < 64
  · rw [dif_pos h64]
    refine Finset.sum_eq_zero fun j _ => ?_
    exact (congrArg (fun x : EReal => (h (ix2 r j) : EReal) * x) ((w2k_blk m c t j l).trans (dif_pos h64))).trans (mul_zero _)
  · rw [dif_neg h64]
    exact Finset.sum_congr rfl fun j _ => congrArg₂ (· * ·) (hh j) ((w2k_blk m c t j l).trans (dif_neg h64))

/-- A column of the values' result. -/
theorem vals_col (h : FVec Ideal S256x256 .bf16) (g : Fin 2) (l : Fin 64) (r : Fin 256)
    (hh : ∀ j, (show EReal from h (ix2 r j)) = hid (vc m c) (pv m c) (w1v m c) (bat t) g r j) :
    (∑ j : Fin 256, (show EReal from iblk m c 5 t (ix2 l j)) * (show EReal from h (ix2 r j)))
      = val_main_v55 (F := Ideal) (vc m c) (pv m c) (w1v m c) (w2v m c) (ix4 (bat t) g l r) := by
  rw [CompRef.v_at]
  exact Finset.sum_congr rfl fun j _ => (mul_comm _ _).trans (congrArg₂ (· * ·) (hh j) (w2v_blk m c t l j))

end Results

/-! ## The shares carried from the first grid point -/

/-- What the scratch holds: the keys' shares and the values'. -/
def shares (c : Dev nD) (y : S2x1x256.Idx) : EReal :=
  if (y 0).val = 0 then share (pk m c) (w1k m c) ⟨(y 2).val, (y 2).isLt⟩ else share (pv m c) (w1v m c) ⟨(y 2).val, (y 2).isLt⟩

theorem canon_at (c : Dev nD) (t : Fin cfg0.N) (y : S2x1x256.Idx) :
    View.canon (Val := Elt Ideal) (s := S2x1x256) (e := .f32)
      [⟨Rect.unit (s := S2x1x256) ![1, 0, 0] ![1, 1, 256] inb_S2x1x256_S1x1x256_1_0_0, k0_pay3 (iblk m c 7 t) (iblk m c 3 t)⟩,
        ⟨Rect.unit (s := S2x1x256) ![0, 0, 0] ![1, 1, 256] inb_S2x1x256_S1x1x256_0_0_0, k0_pay2 (iblk m c 6 t) (iblk m c 2 t)⟩] y = shares m c y := by
  canon_tiles x h
  · obtain ⟨a, b, j, rfl⟩ : ∃ (a : Fin 1) (b : Fin 1) (j : Fin 256), x = ix3 a b j := ⟨x 0, x 1, x 2, by idx_vars x⟩
    obtain rfl : a = 0 := Subsingleton.elim _ _
    obtain rfl : b = 0 := Subsingleton.elim _ _
    refine (shareV m c t j).trans ?_
    unfold shares
    rw [if_neg (by rw [h0]; omega)]
    exact congrArg (share (pv m c) (w1v m c)) (Fin.ext h2.symm)
  · obtain ⟨a, b, j, rfl⟩ : ∃ (a : Fin 1) (b : Fin 1) (j : Fin 256), x = ix3 a b j := ⟨x 0, x 1, x 2, by idx_vars x⟩
    obtain rfl : a = 0 := Subsingleton.elim _ _
    obtain rfl : b = 0 := Subsingleton.elim _ _
    refine (shareK m c t j).trans ?_
    unfold shares
    rw [if_pos (show (y 0).val = 0 from h0)]
    exact congrArg (share (pk m c) (w1k m c)) (Fin.ext h2.symm)

theorem carried_A (c : Dev nD) (t : Fin cfg0.N) (ht : t.val % 4 = 0) (y : S2x1x256.Idx) :
    (outsAt0 m c t.val t.isLt).2.2 y = shares m c y := by
  rw [outsAt0_A m c t ht]
  unfold sout0_A_0
  frame_out
  exact canon_at m c t y

theorem carried_B (c : Dev nD) (t : Fin cfg0.N) (ht : ¬ t.val % 4 = 0) (y : S2x1x256.Idx) :
    (outsAt0 m c t.val t.isLt).2.2 y = (outsAt0 m c (t.val - 1) (Nat.lt_of_le_of_lt (Nat.sub_le _ _) t.isLt)).2.2 y := by
  rw [outsAt0_B m c t ht]
  unfold sout0_B_0
  rfl

theorem carried (c : Dev nD) (n : ℕ) : ∀ (hn : n < cfg0.N) (y : S2x1x256.Idx), (outsAt0 m c n hn).2.2 y = shares m c y := by
  induction n with
  | zero => exact fun hn y => carried_A m c ⟨0, hn⟩ rfl y
  | succ n ih =>
    intro hn y
    have h4 : n + 1 < 4 := t_lt ⟨n + 1, hn⟩
    exact (carried_B m c ⟨n + 1, hn⟩ (by show ¬ (n + 1) % 4 = 0; omega) y).trans (ih _ y)

/-- The two rows of the scratch, as they are loaded. -/
theorem shares_k (c : Dev nD) (h) (j : Fin 256) :
    shares m c ((Rect.unit (s := S2x1x256) ![0, 0, 0] ![1, 1, 256] h).idx (ix3 0 0 j)) = share (pk m c) (w1k m c) j := by
  have e : (Rect.unit (s := S2x1x256) ![0, 0, 0] ![1, 1, 256] h).idx (ix3 0 0 j) = ix3 0 0 j := by blk_ext <;> simp
  rw [e]
  rfl

theorem shares_v (c : Dev nD) (h) (j : Fin 256) :
    shares m c ((Rect.unit (s := S2x1x256) ![1, 0, 0] ![1, 1, 256] h).idx (ix3 0 0 j)) = share (pv m c) (w1v m c) j := by
  have e : (Rect.unit (s := S2x1x256) ![1, 0, 0] ![1, 1, 256] h).idx (ix3 0 0 j) = ix3 1 0 j := by blk_ext <;> simp
  rw [e]
  rfl

/-! ## The two results -/

/-- A block of the keys' result, in either case: its two stores, of hidden values with the shares `p`. -/
theorem keys_tiles (c : Dev nD) (hf : Finite m c) (t : Fin cfg0.N) (p q : FVec Ideal S1x1x256 .f32)
    (hp : ∀ j, p (ix3 0 0 j) = share (pk m c) (w1k m c) j) (hq : ∀ j, q (ix3 0 0 j) = share (pk m c) (w1k m c) j)
    (y : S1x2x256x128.Idx) (g : Fin 2) (r : Fin 256) (l : Fin 128)
    (e1 : (y 1).val = g.val) (e2 : (y 2).val = r.val) (e3 : (y 3).val = l.val) :
    (show EReal from View.canon (Val := Elt Ideal) (s := S1x2x256x128) (e := .bf16)
      [⟨Rect.unit (s := S1x2x256x128) ![0, 1, 0, 0] ![1, 1, 256, 128] inb_S1x2x256x128_S1x1x256x128_0_1_0_0,
          k0_pay99 (k0_pay50 (keys1 (XK m c t) (WK m c t)) q) (iblk m c 4 t)⟩,
        ⟨Rect.unit (s := S1x2x256x128) ![0, 0, 0, 0] ![1, 1, 256, 128] inb_S1x2x256x128_S1x1x256x128_0_0_0_0,
          k0_pay97 (k0_pay96 (k0_pay49 (keys0 (XK m c t) (WK m c t)) (keysLo (XK m c t) (WK m c t)) p) (iblk m c 4 t))⟩] y)
      = val_main_v53 (F := Ideal) (kc m c) (pk m c) (w1k m c) (w2k m c) (ix4 (bat t) g r l) := by
  canon_tiles x h
  all_goals
    obtain ⟨a, b, r', l', rfl⟩ : ∃ (a : Fin 1) (b : Fin 1) (j : Fin 256) (l : Fin 128), x = ix4 a b j l := ⟨x 0, x 1, x 2, x 3, by idx_vars x⟩
    obtain rfl : a = 0 := Subsingleton.elim _ _
    obtain rfl : b = 0 := Subsingleton.elim _ _
    obtain rfl : r' = r := Fin.ext (h2.symm.trans e2)
    obtain rfl : l' = l := Fin.ext (h3.symm.trans e3)
  · obtain rfl : g = 1 := Fin.ext (e1.symm.trans h1)
    exact (res99_at ..).trans (keys_row m c t _ 1 r' l' fun j => hidK1 m c t hf _ hq r' j)
  · obtain rfl : g = 0 := Fin.ext (e1.symm.trans h1)
    exact (res97_at ..).trans (keys_row m c t _ 0 r' l' fun j => hidK0 m c t hf _ hp r' j)

/-- A block of the values' result. -/
theorem vals_tiles (c : Dev nD) (hf : Finite m c) (t : Fin cfg0.N) (p q : FVec Ideal S1x1x256 .f32)
    (hp : ∀ j, p (ix3 0 0 j) = share (pv m c) (w1v m c) j) (hq : ∀ j, q (ix3 0 0 j) = share (pv m c) (w1v m c) j)
    (y : S1x2x64x256.Idx) (g : Fin 2) (l : Fin 64) (r : Fin 256)
    (e1 : (y 1).val = g.val) (e2 : (y 2).val = l.val) (e3 : (y 3).val = r.val) :
    (show EReal from View.canon (Val := Elt Ideal) (s := S1x2x64x256) (e := .bf16)
      [⟨Rect.unit (s := S1x2x64x256) ![0, 1, 0, 0] ![1, 1, 64, 256] inb_S1x2x64x256_S1x1x64x256_0_1_0_0,
          k0_pay1 (k0_pay100 (k0_pay95 (vals1 (XV m c t) (WV m c t)) q) (iblk m c 5 t))⟩,
        ⟨Rect.unit (s := S1x2x64x256) ![0, 0, 0, 0] ![1, 1, 64, 256] inb_S1x2x64x256_S1x1x64x256_0_0_0_0,
          k0_pay98 (k0_pay94 (vals0 (XV m c t) (WV m c t)) p) (iblk m c 5 t)⟩] y)
      = val_main_v55 (F := Ideal) (vc m c) (pv m c) (w1v m c) (w2v m c) (ix4 (bat t) g l r) := by
  canon_tiles x h
  all_goals
    obtain ⟨a, b, l', r', rfl⟩ : ∃ (a : Fin 1) (b : Fin 1) (l : Fin 64) (j : Fin 256), x = ix4 a b l j := ⟨x 0, x 1, x 2, x 3, by idx_vars x⟩
    obtain rfl : a = 0 := Subsingleton.elim _ _
    obtain rfl : b = 0 := Subsingleton.elim _ _
    obtain rfl : l' = l := Fin.ext (h2.symm.trans e2)
    obtain rfl : r' = r := Fin.ext (h3.symm.trans e3)
  · obtain rfl : g = 1 := Fin.ext (e1.symm.trans h1)
    exact (res100_at ..).trans (vals_col m c t _ 1 l' r' fun j => hidV1 m c t hf _ hq r' j)
  · obtain rfl : g = 0 := Fin.ext (e1.symm.trans h1)
    exact (res98_at ..).trans (vals_col m c t _ 0 l' r' fun j => hidV0 m c t hf _ hp r' j)

theorem keys_A (c : Dev nD) (hf : Finite m c) (t : Fin cfg0.N) (ht : t.val % 4 = 0) (y : S1x2x256x128.Idx) (g : Fin 2) (r : Fin 256) (l : Fin 128)
    (e1 : (y 1).val = g.val) (e2 : (y 2).val = r.val) (e3 : (y 3).val = l.val) :
    (show EReal from (outsAt0 m c t.val t.isLt).1 y) = val_main_v53 (F := Ideal) (kc m c) (pk m c) (w1k m c) (w2k m c) (ix4 (bat t) g r l) := by
  rw [outsAt0_A m c t ht]
  unfold out0_A_8
  frame_out
  simp only [View.readCov_eq_canon']
  refine keys_tiles m c hf t _ _ (fun j => ?_) (fun j => ?_) y g r l e1 e2 e3
  all_goals
    refine (canon_at m c t _).trans ?_
    exact shares_k m c _ j

theorem vals_A (c : Dev nD) (hf : Finite m c) (t : Fin cfg0.N) (ht : t.val % 4 = 0) (y : S1x2x64x256.Idx) (g : Fin 2) (l : Fin 64) (r : Fin 256)
    (e1 : (y 1).val = g.val) (e2 : (y 2).val = l.val) (e3 : (y 3).val = r.val) :
    (show EReal from (outsAt0 m c t.val t.isLt).2.1 y) = val_main_v55 (F := Ideal) (vc m c) (pv m c) (w1v m c) (w2v m c) (ix4 (bat t) g l r) := by
  rw [outsAt0_A m c t ht]
  unfold out0_A_9
  frame_out
  simp only [View.readCov_eq_canon']
  refine vals_tiles m c hf t _ _ (fun j => ?_) (fun j => ?_) y g l r e1 e2 e3
  all_goals
    refine (canon_at m c t _).trans ?_
    exact shares_v m c _ j

theorem keys_B (c : Dev nD) (hf : Finite m c) (t : Fin cfg0.N) (ht : ¬ t.val % 4 = 0) (y : S1x2x256x128.Idx) (g : Fin 2) (r : Fin 256) (l : Fin 128)
    (e1 : (y 1).val = g.val) (e2 : (y 2).val = r.val) (e3 : (y 3).val = l.val) :
    (show EReal from (outsAt0 m c t.val t.isLt).1 y) = val_main_v53 (F := Ideal) (kc m c) (pk m c) (w1k m c) (w2k m c) (ix4 (bat t) g r l) := by
  rw [outsAt0_B m c t ht]
  unfold out0_B_8
  frame_out
  refine keys_tiles m c hf t _ _ (fun j => ?_) (fun j => ?_) y g r l e1 e2 e3
  all_goals
    rw [View.ld_apply, read_unread_whole, carried]
    exact shares_k m c _ j

theorem vals_B (c : Dev nD) (hf : Finite m c) (t : Fin cfg0.N) (ht : ¬ t.val % 4 = 0) (y : S1x2x64x256.Idx) (g : Fin 2) (l : Fin 64) (r : Fin 256)
    (e1 : (y 1).val = g.val) (e2 : (y 2).val = l.val) (e3 : (y 3).val = r.val) :
    (show EReal from (outsAt0 m c t.val t.isLt).2.1 y) = val_main_v55 (F := Ideal) (vc m c) (pv m c) (w1v m c) (w2v m c) (ix4 (bat t) g l r) := by
  rw [outsAt0_B m c t ht]
  unfold out0_B_9
  frame_out
  refine vals_tiles m c hf t _ _ (fun j => ?_) (fun j => ?_) y g l r e1 e2 e3
  all_goals
    rw [View.ld_apply, read_unread_whole, carried]
    exact shares_v m c _ j

theorem emb8 (t : Fin cfg0.N) (y : ((cfg0.win 8).xblock (cfg0.grid.coords t)).Idx) (g : Fin 2) (r : Fin 256) (l : Fin 128)
    (e1 : (y 1).val = g.val) (e2 : (y 2).val = r.val) (e3 : (y 3).val = l.val) :
    ((View.whole main_v17_0).slice (win0_8.rect t)).emb y = ix4 (bat t) g r l := by
  have h0 : (y 0).val = 0 := Nat.lt_one_iff.mp (y 0).isLt
  have ht := t_lt t
  blk_ext [idx t]

theorem emb9 (t : Fin cfg0.N) (y : ((cfg0.win 9).xblock (cfg0.grid.coords t)).Idx) (g : Fin 2) (l : Fin 64) (r : Fin 256)
    (e1 : (y 1).val = g.val) (e2 : (y 2).val = l.val) (e3 : (y 3).val = r.val) :
    ((View.whole main_v17_1).slice (win0_9.rect t)).emb y = ix4 (bat t) g l r := by
  have h0 : (y 0).val = 0 := Nat.lt_one_iff.mp (y 0).isLt
  have ht := t_lt t
  blk_ext [idx t]

/-- The compressed keys behind their 64 zero lanes. -/
theorem result8 (c : Dev nD) (hf : Finite m c) :
    (dats m 0 c).arrAt 8 (cfgs 0).N = val_main_v53 (F := Ideal) (kc m c) (pk m c) (w1k m c) (w2k m c) := by
  refine (dats m 0 c).arrAt_eq_of_covers 8 _ (by decide +kernel) fun t _ y => ?_
  blk_simp
  rw [after0_8, emb8 t y ⟨(y 1).val, (y 1).isLt⟩ ⟨(y 2).val, (y 2).isLt⟩ ⟨(y 3).val, (y 3).isLt⟩ rfl rfl rfl]
  by_cases ht : t.val % 4 = 0
  · exact keys_A m c hf t ht y _ _ _ rfl rfl rfl
  · exact keys_B m c hf t ht y _ _ _ rfl rfl rfl

/-- The compressed values, transposed. -/
theorem result9 (c : Dev nD) (hf : Finite m c) :
    (dats m 0 c).arrAt 9 (cfgs 0).N = val_main_v55 (F := Ideal) (vc m c) (pv m c) (w1v m c) (w2v m c) := by
  refine (dats m 0 c).arrAt_eq_of_covers 9 _ (by decide +kernel) fun t _ y => ?_
  blk_simp
  rw [after0_9, emb9 t y ⟨(y 1).val, (y 1).isLt⟩ ⟨(y 2).val, (y 2).isLt⟩ ⟨(y 3).val, (y 3).isLt⟩ rfl rfl rfl]
  by_cases ht : t.val % 4 = 0
  · exact vals_A m c hf t ht y _ _ _ rfl rfl rfl
  · exact vals_B m c hf t ht y _ _ _ rfl rfl rfl

end Cert.CompValue
end
-- ==== Proof.CompFinite.lean ====
/- The precondition of `compress`, read as a statement about each entry: an absolute value below infinity is the
   absolute value of neither infinity. -/
module

public import proofs.«01_k».proof.Defs
public import proofs.«01_k».proof.Proof.CompValue

@[expose] public section

noncomputable section

namespace Cert.CompValue

open Idealize.ShloMosaic Cert.CompRow

/-- An extended real whose absolute value is below infinity is neither infinity. -/
theorem fin_of_abs_lt (x : EReal) (h : max x (-x) < ⊤) : Fin' x :=
  ⟨fun e => by subst e; simp at h, fun e => by subst e; simp at h⟩

/-- The precondition's comparison holds at an entry only if the entry is neither infinity. -/
theorem fin_of_cmp {s : Shape} (a b : FVec Ideal s .f32) (i : s.Idx) (hb : b i = (⊤ : EReal))
    (h : cmpf .olt (Host.absf a) b i = 1#1) : Fin' (a i) := by
  refine fin_of_abs_lt (a i) ?_
  have h' : Ideal.cmp .olt (max (a i) (-(a i))) (b i) = 1#1 := h
  rw [hb] at h'
  by_contra hn
  simp [Ideal.cmp, hn] at h'

/-- The constant the precondition compares with. -/
theorem bound_top {s : Shape} (h : (⟨0, ![]⟩ : Shape).BroadcastsInDim s (![] : Fin 0 → Fin s.rank)) (i : s.Idx) :
    broadcastInDim s ![] h (constant (F := Ideal) ⟨0, ![]⟩ .f32 0x7F800000#32) i = (⊤ : EReal) := by
  show Ideal.ofBits .f32 0x7F800000#32 = ⊤
  simp [Ideal.ofBits, Ideal.ieee]

/-- The precondition of the certificate says that positions and first weights are finite. -/
theorem finite_of_pre [Cert.Pre_finite.Facts] (m : (ℓ : Loc Cert.Kernel4Ideal.nD Cert.Kernel4Ideal.τ Cert.Kernel4Ideal.sig) → Buf (Elt Ideal) ℓ)
    (h : Cert.Pre_Kernel4Ideal_finite m) (c : Dev Cert.Kernel4Ideal.nD) : Finite m c := by
  obtain ⟨h2, h3, h4, h6⟩ := h c
  exact ⟨fun i => fin_of_cmp _ _ i (bound_top _ i) (congrFun h2 i), fun i => fin_of_cmp _ _ i (bound_top _ i) (congrFun h3 i),
    fun i => fin_of_cmp _ _ i (bound_top _ i) (congrFun h4 i), fun i => fin_of_cmp _ _ i (bound_top _ i) (congrFun h6 i)⟩

end Cert.CompValue

end
-- ==== Proof.WtModel.lean ====
/- The recurrence's block weights: what the kernel's stores hold, written once for every block, step and tap. -/
module

public import proofs.«01_k».proof.Proof.Gen.Kernel5Ideal.Value
public import proofs.«01_k».proof.Proof.FinalRow
public import Idealize.ShloMosaic.Lib.Pipeline.ValueKit
public import Idealize.ShloMosaic.Lib.Pipeline.ReadBack

@[expose] public section

set_option maxRecDepth 16384

noncomputable section

namespace Cert.WtModel

open Idealize.ShloMosaic Idealize.ShloMosaic.TcCoe
open Cert.Kernel5Ideal Cert.Kernel5Ideal.Gen

/-- One of the six blocks of operands of a grid point: 128 channels of 64 states. -/
abbrev Blk := FVec Ideal S128x64 .f32
abbrev Row := FVec Ideal S1x128 .f32
abbrev Sq := FVec Ideal S32x128 .f32

/-! ## Bounds -/

theorem inRow (q gl : ℕ) (hq : q < 4) (hg : gl < 2) : ∀ a : Fin 2, ![32 * q + 16 * gl, 0] a + ![1, 64] a ≤ S128x64.size a := by
  intro a; fin_cases a <;> simp [S128x64] <;> omega
theorem inRows (q gl : ℕ) (hq : q < 4) (hg : gl < 2) : ∀ a : Fin 2, ![32 * q + 16 * gl, 0] a + ![16, 64] a ≤ S128x64.size a := by
  intro a; fin_cases a <;> simp [S128x64] <;> omega
theorem inLane (n gl : ℕ) (hn : n < 2) (hg : gl < 2) : ∀ a : Fin 3, ![n, 0, 64 * gl] a + ![1, 1, 64] a ≤ S2x1x128.size a := by
  intro a; fin_cases a <;> simp [S2x1x128] <;> omega
theorem inDiag (n gl : ℕ) (hn : n < 4) (hg : gl < 2) : ∀ a : Fin 3, ![n, 16 * gl, 64 * gl] a + ![1, 16, 64] a ≤ S4x32x128.size a := by
  intro a; fin_cases a <;> simp [S4x32x128] <;> omega
theorem inPlane (n : ℕ) (hn : n < 4) : ∀ a : Fin 3, ![n, 0, 0] a + ![1, 32, 128] a ≤ S4x32x128.size a := by
  intro a; fin_cases a <;> simp [S4x32x128] <;> omega
theorem inPole (n : ℕ) (hn : n < 2) : ∀ a : Fin 3, ![n, 0, 0] a + ![1, 1, 128] a ≤ S2x1x128.size a := by
  intro a; fin_cases a <;> simp [S2x1x128] <;> omega
theorem inTop (q : ℕ) (h : q < 4) : ∀ a : Fin 3, ![q, 0, 0] a + ![1, 1, 128] a ≤ S4x1x128.size a := by
  intro a; fin_cases a <;> simp [S4x1x128] <;> omega
theorem inStep (q i : ℕ) (h : q < 4) (hi : i < 8) : ∀ a : Fin 3, ![q, 32 * i, 0] a + ![1, 32, 256] a ≤ S4x256x256.size a := by
  intro a; fin_cases a <;> simp [S4x256x256] <;> omega
theorem inTile (i j : ℕ) (hi : i < 8) (hj : j < 8) : ∀ a : Fin 2, ![32 * i, 32 * j] a + ![32, 32] a ≤ S256x256.size a := by
  intro a; fin_cases a <;> simp [S256x256] <;> omega
theorem inWhole (q : ℕ) (h : q < 4) : ∀ a : Fin 3, ![q, 0, 0] a + ![1, 256, 256] a ≤ S4x256x256.size a := by
  intro a; fin_cases a <;> simp [S4x256x256] <;> omega

/-! ## The poles of a block of two groups, side by side -/

/-- One group's pole, stored in its half of the lanes. -/
def polePiece (x : Blk) (n gl q : ℕ) (hn : n < 2) (hg : gl < 2) (hq : q < 4) : View.Piece (Elt Ideal) S2x1x128 .f32 :=
  ⟨Rect.unit (s := S2x1x128) ![n, 0, 64 * gl] ![1, 1, 64] (inLane n gl hn hg),
    shapeCast S1x1x64 (shapeCast S1x64 (View.ld x (Rect.unit (s := S128x64) ![32 * q + 16 * gl, 0] ![1, 64] (inRow q gl hq hg))) shapeCasts_S1x64_S1x64) shapeCasts_S1x64_S1x1x64⟩

/-- What has been stored of the poles when block `q` reads them. -/
def poles (x y : Blk) : (q : ℕ) → q < 4 → List (View.Piece (Elt Ideal) S2x1x128 .f32)
  | 0, h => [polePiece y 1 1 0 (by omega) (by omega) h, polePiece y 1 0 0 (by omega) (by omega) h,
      polePiece x 0 1 0 (by omega) (by omega) h, polePiece x 0 0 0 (by omega) (by omega) h]
  | q + 1, h => polePiece y 1 1 (q + 1) (by omega) (by omega) h :: polePiece y 1 0 (q + 1) (by omega) (by omega) h
      :: polePiece x 0 1 (q + 1) (by omega) (by omega) h :: polePiece x 0 0 (q + 1) (by omega) (by omega) h :: poles x y q (by omega)

/-- The real or the imaginary parts, as loaded. -/
def pole (x y : Blk) (n : ℕ) (hn : n < 2) (q : ℕ) (h : q < 4) : Row :=
  shapeCast S1x128 ((View.whole cc0_scratch1).readCov (poles x y q h) (Rect.unit (s := S2x1x128) ![n, 0, 0] ![1, 1, 128] (inPole n hn)).toLoadRect) shapeCasts_S1x1x128_S1x128

/-- The powers of the poles. -/
def pw (ar ai : Row) : ℕ → Row × Row
  | 0 => (broadcast S1x128 (Scalar.ofBits (F := Ideal) .f32 0x3F800000#32), broadcast S1x128 (Scalar.ofBits (F := Ideal) .f32 0x00000000#32))
  | k + 1 => (subf (mulf (pw ar ai k).1 ar) (mulf (pw ar ai k).2 ai), addf (mulf (pw ar ai k).1 ai) (mulf (pw ar ai k).2 ar))

/-! ## The four matrices of a block, block diagonal -/

def diagPiece (x : Blk) (n gl q : ℕ) (hn : n < 4) (hg : gl < 2) (hq : q < 4) : View.Piece (Elt Ideal) S4x32x128 .f32 :=
  ⟨Rect.unit (s := S4x32x128) ![n, 16 * gl, 64 * gl] ![1, 16, 64] (inDiag n gl hn hg),
    shapeCast S1x16x64 (shapeCast S16x64 (View.ld x (Rect.unit (s := S128x64) ![32 * q + 16 * gl, 0] ![16, 64] (inRows q gl hq hg))) shapeCasts_S16x64_S16x64) shapeCasts_S16x64_S1x16x64⟩

def diagZero : View.Piece (Elt Ideal) S4x32x128 .f32 :=
  ⟨Rect.unit (s := S4x32x128) ![0, 0, 0] S4x32x128.size inb_S4x32x128_S4x32x128_0_0_0,
    shapeCast S4x32x128 (broadcast S4x32x128 (Scalar.ofBits (F := Ideal) .f32 0x00000000#32)) shapeCasts_S4x32x128_S4x32x128⟩

/-- The stores of block `q`, over the earlier ones. -/
def diagOn (X : Fin 6 → Blk) (q : ℕ) (h : q < 4) (L : List (View.Piece (Elt Ideal) S4x32x128 .f32)) : List (View.Piece (Elt Ideal) S4x32x128 .f32) :=
  diagPiece (X 5) 3 1 q (by omega) (by omega) h :: diagPiece (X 5) 3 0 q (by omega) (by omega) h
    :: diagPiece (X 4) 2 1 q (by omega) (by omega) h :: diagPiece (X 4) 2 0 q (by omega) (by omega) h
    :: diagPiece (X 1) 1 1 q (by omega) (by omega) h :: diagPiece (X 1) 1 0 q (by omega) (by omega) h
    :: diagPiece (X 0) 0 1 q (by omega) (by omega) h :: diagPiece (X 0) 0 0 q (by omega) (by omega) h :: diagZero :: L

def diags (X : Fin 6 → Blk) : (q : ℕ) → q < 4 → List (View.Piece (Elt Ideal) S4x32x128 .f32)
  | 0, h => diagOn X 0 h []
  | q + 1, h => diagOn X (q + 1) h (diags X q (by omega))

def diag (X : Fin 6 → Blk) (n : ℕ) (hn : n < 4) (q : ℕ) (h : q < 4) : Sq :=
  shapeCast S32x128 ((View.whole cc0_scratch0).readCov (diags X q h) (Rect.unit (s := S4x32x128) ![n, 0, 0] ![1, 32, 128] (inPlane n hn)).toLoadRect) shapeCasts_S1x32x128_S32x128

/-! ## The values of a block -/

section Step
variable (X : Fin 6 → Blk) (q : ℕ) (h : q < 4)

def P (k : ℕ) : Row × Row := pw (pole (X 2) (X 3) 0 (by omega) q h) (pole (X 2) (X 3) 1 (by omega) q h) k

/-- The product of a matrix pair with a power: real and imaginary part. -/
def cre (a b : Sq) (p : Row × Row) : Sq :=
  subf (mulf a (broadcastTo S32x128 p.1 broadcasts_S1x128_S32x128)) (mulf b (broadcastTo S32x128 p.2 broadcasts_S1x128_S32x128))
def cim (a b : Sq) (p : Row × Row) : Sq :=
  addf (mulf a (broadcastTo S32x128 p.2 broadcasts_S1x128_S32x128)) (mulf b (broadcastTo S32x128 p.1 broadcasts_S1x128_S32x128))

def inRe (k : ℕ) : Sq := cre (diag X 0 (by omega) q h) (diag X 1 (by omega) q h) (P X q h k)
def inIm (k : ℕ) : Sq := cim (diag X 0 (by omega) q h) (diag X 1 (by omega) q h) (P X q h k)
def outRe (k : ℕ) : Sq := cre (diag X 2 (by omega) q h) (diag X 3 (by omega) q h) (P X q h k)
def outIm (k : ℕ) : Sq :=
  subf (broadcast S32x128 (Scalar.ofBits (F := Ideal) .f32 0x00000000#32)) (cim (diag X 2 (by omega) q h) (diag X 3 (by omega) q h) (P X q h k))

def wide (a b : Sq) : FVec Ideal S1x32x256 .bf16 :=
  shapeCast S1x32x256 (truncf .bf16 (concatenate S32x256 1 [⟨S32x128, a⟩, ⟨S32x128, b⟩] concatenates_S32x128_S32x128_S32x256_d1) bitsLt_bf16_f32) shapeCasts_S32x256_S1x32x256

/-- The response `k` steps later. -/
def tap (k : ℕ) : FVec Ideal S32x32 .f32 :=
  subf (matmul dot_S32x128_S32x128_S32x32_1_1_0_0_n_n none (truncf .bf16 (inRe X q h k) bitsLt_bf16_f32) (truncf .bf16 (diag X 2 (by omega) q h) bitsLt_bf16_f32) (constant S32x32 .f32 0x00000000#32))
    (matmul dot_S32x128_S32x128_S32x32_1_1_0_0_n_n none (truncf .bf16 (inIm X q h k) bitsLt_bf16_f32) (truncf .bf16 (diag X 3 (by omega) q h) bitsLt_bf16_f32) (constant S32x32 .f32 0x00000000#32))

end Step

/-! ## The stores of the results -/

section Out
variable (X : Fin 6 → Blk)

def wePiece (q k : ℕ) (h : q < 4) (hk : k < 8) : View.Piece (Elt Ideal) S4x256x256 .bf16 :=
  ⟨Rect.unit (s := S4x256x256) ![q, 32 * (7 - k), 0] ![1, 32, 256] (inStep q (7 - k) h (by omega)), wide (inRe X q h k) (inIm X q h k)⟩
def wcPiece (q k : ℕ) (h : q < 4) (hk : k < 8) : View.Piece (Elt Ideal) S4x256x256 .bf16 :=
  ⟨Rect.unit (s := S4x256x256) ![q, 32 * k, 0] ![1, 32, 256] (inStep q k h hk), wide (outRe X q h (k + 1)) (outIm X q h (k + 1))⟩

def weBlock (q : ℕ) (h : q < 4) (L : List (View.Piece (Elt Ideal) S4x256x256 .bf16)) : (k : ℕ) → k ≤ 8 → List (View.Piece (Elt Ideal) S4x256x256 .bf16)
  | 0, _ => L
  | k + 1, hk => wePiece X q k h hk :: weBlock q h L k (by omega)
def wcBlock (q : ℕ) (h : q < 4) (L : List (View.Piece (Elt Ideal) S4x256x256 .bf16)) : (k : ℕ) → k ≤ 8 → List (View.Piece (Elt Ideal) S4x256x256 .bf16)
  | 0, _ => L
  | k + 1, hk => wcPiece X q k h hk :: wcBlock q h L k (by omega)

def weAll : (q : ℕ) → q ≤ 4 → List (View.Piece (Elt Ideal) S4x256x256 .bf16)
  | 0, _ => []
  | q + 1, h => weBlock X q h (weAll q (by omega)) 8 (by omega)
def wcAll : (q : ℕ) → q ≤ 4 → List (View.Piece (Elt Ideal) S4x256x256 .bf16)
  | 0, _ => []
  | q + 1, h => wcBlock X q h (wcAll q (by omega)) 8 (by omega)

def tile (q : ℕ) (h : q < 4) (k i : ℕ) (hi : i + k < 8) : View.Piece (Elt Ideal) S256x256 .f32 :=
  ⟨Rect.unit (s := S256x256) ![32 * i, 32 * (i + k)] ![32, 32] (inTile i (i + k) (by omega) hi), shapeCast S32x32 (tap X q h k) shapeCasts_S32x32_S32x32⟩

/-- The first `n` tiles of a diagonal. -/
def tiles (q : ℕ) (h : q < 4) (k : ℕ) (L : List (View.Piece (Elt Ideal) S256x256 .f32)) : (n : ℕ) → n + k ≤ 8 → List (View.Piece (Elt Ideal) S256x256 .f32)
  | 0, _ => L
  | n + 1, hn => tile X q h k n (by omega) :: tiles q h k L n (by omega)

/-- The first `K` diagonals. -/
def diagonals (q : ℕ) (h : q < 4) (L : List (View.Piece (Elt Ideal) S256x256 .f32)) : (K : ℕ) → K ≤ 8 → List (View.Piece (Elt Ideal) S256x256 .f32)
  | 0, _ => L
  | K + 1, hK => tiles X q h K (diagonals q h L K (by omega)) (8 - K) (by omega)

def tpZero : View.Piece (Elt Ideal) S256x256 .f32 :=
  ⟨Rect.unit (s := S256x256) ![0, 0] S256x256.size inb_S256x256_S256x256_0_0,
    shapeCast S256x256 (broadcast S256x256 (Scalar.ofBits (F := Ideal) .f32 0x00000000#32)) shapeCasts_S256x256_S256x256⟩

def tpScr : (q : ℕ) → q < 4 → List (View.Piece (Elt Ideal) S256x256 .f32)
  | 0, h => diagonals X 0 h [tpZero] 8 (by omega)
  | q + 1, h => diagonals X (q + 1) h (tpZero :: tpScr q (by omega)) 8 (by omega)

def tpPiece (q : ℕ) (h : q < 4) : View.Piece (Elt Ideal) S4x256x256 .bf16 :=
  ⟨Rect.unit (s := S4x256x256) ![q, 0, 0] ![1, 256, 256] (inWhole q h),
    shapeCast S1x256x256 (truncf (F := Ideal) .bf16 ((View.whole cc0_scratch2).readCov (tpScr X q h) (Rect.unit (s := S256x256) ![0, 0] S256x256.size inb_S256x256_S256x256_0_0).toLoadRect : FVec Ideal S256x256 .f32) bitsLt_bf16_f32) shapeCasts_S256x256_S1x256x256⟩

def topRe (q : ℕ) (h : q < 4) : View.Piece (Elt Ideal) S4x1x128 .f32 :=
  ⟨Rect.unit (s := S4x1x128) ![q, 0, 0] ![1, 1, 128] (inTop q h), shapeCast S1x1x128 (P X q h 8).1 shapeCasts_S1x128_S1x1x128⟩
def topIm (q : ℕ) (h : q < 4) : View.Piece (Elt Ideal) S4x1x128 .f32 :=
  ⟨Rect.unit (s := S4x1x128) ![q, 0, 0] ![1, 1, 128] (inTop q h), shapeCast S1x1x128 (P X q h 8).2 shapeCasts_S1x128_S1x1x128⟩

def weBlk (y : S4x256x256.Idx) : EReal := View.canon (weAll X 4 (by omega)) y
def wcBlk (y : S4x256x256.Idx) : EReal := View.canon (wcAll X 4 (by omega)) y
def tpBlk (y : S4x256x256.Idx) : EReal := View.canon [tpPiece X 3 (by omega), tpPiece X 2 (by omega), tpPiece X 1 (by omega), tpPiece X 0 (by omega)] y
def reBlk (y : S4x1x128.Idx) : EReal := View.canon [topRe X 3 (by omega), topRe X 2 (by omega), topRe X 1 (by omega), topRe X 0 (by omega)] y
def imBlk (y : S4x1x128.Idx) : EReal := View.canon [topIm X 3 (by omega), topIm X 2 (by omega), topIm X 1 (by omega), topIm X 0 (by omega)] y

end Out

end Cert.WtModel
end
-- ==== Proof.WtCanon.lean ====
/- A list of stores read at an index: the latest store that holds the index gives the value. -/
module

public import proofs.«01_k».proof.Proof.WtModel

@[expose] public section

set_option maxRecDepth 16384

noncomputable section

namespace Cert.WtCanon

open Idealize.ShloMosaic Idealize.ShloMosaic.TcCoe
open Cert.Kernel5Ideal Cert.Kernel5Ideal.Gen Cert.WtModel

/-- The latest store holds the index. -/
theorem canon_hit {s : Shape} {e : EltTy} {off size : Fin s.rank → ℕ} {inb : ∀ a, off a + size a ≤ s.size a}
    (w : (Rect.unit (s := s) off size inb).shape.Idx → Elt Ideal e) (L : List (View.Piece (Elt Ideal) s e)) (y : s.Idx)
    (x : (Rect.unit (s := s) off size inb).shape.Idx) (h : ∀ a, (y a : ℕ) = off a + (x a : ℕ)) :
    View.canon (⟨Rect.unit (s := s) off size inb, w⟩ :: L) y = w x := by
  have e : y = (Rect.unit (s := s) off size inb).emb x := by
    funext a
    apply Fin.ext
    rw [h a]
    show _ = off a + 1 * (x a : ℕ)
    omega
  rw [e]
  exact View.canon_cons_emb (Val := Elt Ideal) _ _ _ _

/-- The latest store does not hold the index. -/
theorem canon_miss {s : Shape} {e : EltTy} {off size : Fin s.rank → ℕ} {inb : ∀ a, off a + size a ≤ s.size a}
    (w : (Rect.unit (s := s) off size inb).shape.Idx → Elt Ideal e) (L : List (View.Piece (Elt Ideal) s e)) (y : s.Idx)
    (a : Fin s.rank) (h : (y a : ℕ) < off a ∨ off a + size a ≤ (y a : ℕ)) :
    View.canon (⟨Rect.unit (s := s) off size inb, w⟩ :: L) y = View.canon L y := by
  refine View.canon_cons_of_not_mem _ _ fun hm => ?_
  have := (Rect.mem_set_unit (inb := inb)).mp hm a
  omega

/-! The same at explicit coordinates. -/

theorem hit3 {A B C a b c o0 o1 o2 : ℕ} {e : EltTy} {inb} (w) (L : List (View.Piece (Elt Ideal) ⟨3, ![A, B, C]⟩ e))
    (y0 : Fin A) (y1 : Fin B) (y2 : Fin C) (x0 : Fin a) (x1 : Fin b) (x2 : Fin c)
    (h0 : y0.val = o0 + x0.val) (h1 : y1.val = o1 + x1.val) (h2 : y2.val = o2 + x2.val) :
    View.canon (⟨Rect.unit (s := ⟨3, ![A, B, C]⟩) ![o0, o1, o2] ![a, b, c] inb, w⟩ :: L) (ix3 y0 y1 y2) = w (ix3 x0 x1 x2) := by
  refine canon_hit (s := ⟨3, ![A, B, C]⟩) (off := ![o0, o1, o2]) (size := ![a, b, c]) w L _ _ fun a => ?_
  fin_cases a
  exacts [h0, h1, h2]

theorem miss3 {A B C a b c o0 o1 o2 : ℕ} {e : EltTy} {inb} (w) (L : List (View.Piece (Elt Ideal) ⟨3, ![A, B, C]⟩ e))
    (y0 : Fin A) (y1 : Fin B) (y2 : Fin C)
    (h : (y0.val < o0 ∨ o0 + a ≤ y0.val) ∨ (y1.val < o1 ∨ o1 + b ≤ y1.val) ∨ (y2.val < o2 ∨ o2 + c ≤ y2.val)) :
    View.canon (⟨Rect.unit (s := ⟨3, ![A, B, C]⟩) ![o0, o1, o2] ![a, b, c] inb, w⟩ :: L) (ix3 y0 y1 y2) = View.canon L (ix3 y0 y1 y2) := by
  rcases h with h | h | h
  · exact canon_miss (s := ⟨3, ![A, B, C]⟩) (off := ![o0, o1, o2]) (size := ![a, b, c]) w L _ 0 h
  · exact canon_miss (s := ⟨3, ![A, B, C]⟩) (off := ![o0, o1, o2]) (size := ![a, b, c]) w L _ 1 h
  · exact canon_miss (s := ⟨3, ![A, B, C]⟩) (off := ![o0, o1, o2]) (size := ![a, b, c]) w L _ 2 h

theorem hit2 {A B a b o0 o1 : ℕ} {e : EltTy} {inb} (w) (L : List (View.Piece (Elt Ideal) ⟨2, ![A, B]⟩ e))
    (y0 : Fin A) (y1 : Fin B) (x0 : Fin a) (x1 : Fin b) (h0 : y0.val = o0 + x0.val) (h1 : y1.val = o1 + x1.val) :
    View.canon (⟨Rect.unit (s := ⟨2, ![A, B]⟩) ![o0, o1] ![a, b] inb, w⟩ :: L) (ix2 y0 y1) = w (ix2 x0 x1) := by
  refine canon_hit (s := ⟨2, ![A, B]⟩) (off := ![o0, o1]) (size := ![a, b]) w L _ _ fun a => ?_
  fin_cases a
  exacts [h0, h1]

theorem miss2 {A B a b o0 o1 : ℕ} {e : EltTy} {inb} (w) (L : List (View.Piece (Elt Ideal) ⟨2, ![A, B]⟩ e))
    (y0 : Fin A) (y1 : Fin B) (h : (y0.val < o0 ∨ o0 + a ≤ y0.val) ∨ (y1.val < o1 ∨ o1 + b ≤ y1.val)) :
    View.canon (⟨Rect.unit (s := ⟨2, ![A, B]⟩) ![o0, o1] ![a, b] inb, w⟩ :: L) (ix2 y0 y1) = View.canon L (ix2 y0 y1) := by
  rcases h with h | h
  · exact canon_miss (s := ⟨2, ![A, B]⟩) (off := ![o0, o1]) (size := ![a, b]) w L _ 0 h
  · exact canon_miss (s := ⟨2, ![A, B]⟩) (off := ![o0, o1]) (size := ![a, b]) w L _ 1 h

/-! ## Each kind of store -/

theorem pole_at (x : Blk) (n' gl q : ℕ) (hn hg hq) (L) (n : Fin 2) (l : Fin 128) :
    View.canon (polePiece x n' gl q hn hg hq :: L) (ix3 n (0 : Fin 1) l)
      = if n.val = n' ∧ l.val / 64 = gl then x (ix2 (⟨32 * q + 16 * gl, by omega⟩ : Fin 128) (⟨l.val % 64, by omega⟩ : Fin 64))
        else View.canon L (ix3 n (0 : Fin 1) l) := by
  unfold polePiece
  split_ifs with h
  · refine (hit3 _ L n 0 l (0 : Fin 1) (0 : Fin 1) (⟨l.val % 64, by omega⟩ : Fin 64) (by simp; omega) (by simp) (by simp; omega)).trans ?_
    · pointwise [View.ld_apply]
  · exact miss3 _ L n 0 l (by omega)

theorem rows_cast (v : FVec Ideal S16x64 .f32) (i : Fin 16) (p : Fin 64) :
    shapeCast S1x16x64 (shapeCast S16x64 v shapeCasts_S16x64_S16x64) shapeCasts_S16x64_S1x16x64 (ix3 (0 : Fin 1) i p) = v (ix2 i p) := by
  pointwise []

theorem diag_at (x : Blk) (n' gl q : ℕ) (hn hg hq) (L) (n : Fin 4) (r : Fin 32) (l : Fin 128) :
    View.canon (diagPiece x n' gl q hn hg hq :: L) (ix3 n r l)
      = if n.val = n' ∧ r.val / 16 = gl ∧ l.val / 64 = gl then x (ix2 (⟨32 * q + r.val, by omega⟩ : Fin 128) (⟨l.val % 64, by omega⟩ : Fin 64))
        else View.canon L (ix3 n r l) := by
  unfold diagPiece
  split_ifs with h
  · refine (hit3 _ L n r l (0 : Fin 1) (⟨r.val % 16, by omega⟩ : Fin 16) (⟨l.val % 64, by omega⟩ : Fin 64) (by simp; omega) (by simp; omega) (by simp; omega)).trans ?_
    · refine (rows_cast _ _ _).trans ?_
      rw [View.ld_apply]
      refine congrArg x ?_
      funext a
      fin_cases a <;> apply Fin.ext
      · show 32 * q + 16 * gl + 1 * (r.val % 16) = 32 * q + r.val
        omega
      · show 0 + 1 * (l.val % 64) = l.val % 64
        omega
  · exact miss3 _ L n r l (by omega)

theorem we_at (X : Fin 6 → Blk) (q' k : ℕ) (h hk) (L) (q : Fin 4) (R l : Fin 256) :
    View.canon (wePiece X q' k h hk :: L) (ix3 q R l)
      = if q.val = q' ∧ R.val / 32 = 7 - k then wide (inRe X q' h k) (inIm X q' h k) (ix3 (0 : Fin 1) (⟨R.val % 32, by omega⟩ : Fin 32) l)
        else View.canon L (ix3 q R l) := by
  unfold wePiece
  split_ifs with e
  · exact hit3 _ L q R l (0 : Fin 1) (⟨R.val % 32, by omega⟩ : Fin 32) l (by simp; omega) (by simp; omega) (by simp)
  · exact miss3 _ L q R l (by omega)

theorem wc_at (X : Fin 6 → Blk) (q' k : ℕ) (h hk) (L) (q : Fin 4) (R l : Fin 256) :
    View.canon (wcPiece X q' k h hk :: L) (ix3 q R l)
      = if q.val = q' ∧ R.val / 32 = k then wide (outRe X q' h (k + 1)) (outIm X q' h (k + 1)) (ix3 (0 : Fin 1) (⟨R.val % 32, by omega⟩ : Fin 32) l)
        else View.canon L (ix3 q R l) := by
  unfold wcPiece
  split_ifs with e
  · exact hit3 _ L q R l (0 : Fin 1) (⟨R.val % 32, by omega⟩ : Fin 32) l (by simp; omega) (by simp; omega) (by simp)
  · exact miss3 _ L q R l (by omega)

theorem tile_at (X : Fin 6 → Blk) (q : ℕ) (h) (k i : ℕ) (hi) (L) (R C : Fin 256) :
    View.canon (tile X q h k i hi :: L) (ix2 R C)
      = if R.val / 32 = i ∧ C.val / 32 = i + k then tap X q h k (ix2 (⟨R.val % 32, by omega⟩ : Fin 32) (⟨C.val % 32, by omega⟩ : Fin 32))
        else View.canon L (ix2 R C) := by
  unfold tile
  split_ifs with e
  · refine (hit2 _ L R C (⟨R.val % 32, by omega⟩ : Fin 32) (⟨C.val % 32, by omega⟩ : Fin 32) (by simp; omega) (by simp; omega)).trans ?_
    · pointwise []
  · exact miss2 _ L R C (by omega)

/-! ## The lists of stores -/

theorem weBlock_at (X : Fin 6 → Blk) (q' : ℕ) (h) (L) (K : ℕ) (hK) (q : Fin 4) (R l : Fin 256) :
    View.canon (weBlock X q' h L K hK) (ix3 q R l)
      = if q.val = q' ∧ 7 - R.val / 32 < K then wide (inRe X q' h (7 - R.val / 32)) (inIm X q' h (7 - R.val / 32)) (ix3 (0 : Fin 1) (⟨R.val % 32, by omega⟩ : Fin 32) l)
        else View.canon L (ix3 q R l) := by
  induction K with
  | zero => rw [if_neg (by omega)]; rfl
  | succ K ih =>
    show View.canon (wePiece X q' K h hK :: weBlock X q' h L K (by omega)) _ = _
    rw [we_at, ih]
    by_cases e : q.val = q' ∧ R.val / 32 = 7 - K
    · obtain rfl : K = 7 - R.val / 32 := by omega
      rw [if_pos e, if_pos ⟨e.1, by omega⟩]
    · rw [if_neg e]
      exact if_congr (by omega) rfl rfl

theorem wcBlock_at (X : Fin 6 → Blk) (q' : ℕ) (h) (L) (K : ℕ) (hK) (q : Fin 4) (R l : Fin 256) :
    View.canon (wcBlock X q' h L K hK) (ix3 q R l)
      = if q.val = q' ∧ R.val / 32 < K then wide (outRe X q' h (R.val / 32 + 1)) (outIm X q' h (R.val / 32 + 1)) (ix3 (0 : Fin 1) (⟨R.val % 32, by omega⟩ : Fin 32) l)
        else View.canon L (ix3 q R l) := by
  induction K with
  | zero => rw [if_neg (by omega)]; rfl
  | succ K ih =>
    show View.canon (wcPiece X q' K h hK :: wcBlock X q' h L K (by omega)) _ = _
    rw [wc_at, ih]
    by_cases e : q.val = q' ∧ R.val / 32 = K
    · obtain rfl : K = R.val / 32 := by omega
      rw [if_pos e, if_pos ⟨e.1, by omega⟩]
    · rw [if_neg e]
      exact if_congr (by omega) rfl rfl

theorem weAll_at (X : Fin 6 → Blk) (Q : ℕ) (hQ) (q : Fin 4) (hq : q.val < Q) (R l : Fin 256) :
    View.canon (weAll X Q hQ) (ix3 q R l)
      = wide (inRe X q.val q.isLt (7 - R.val / 32)) (inIm X q.val q.isLt (7 - R.val / 32)) (ix3 (0 : Fin 1) (⟨R.val % 32, by omega⟩ : Fin 32) l) := by
  induction Q with
  | zero => omega
  | succ Q ih =>
    refine (weBlock_at X Q hQ _ 8 (by omega) q R l).trans ?_
    by_cases e : q.val = Q
    · subst e
      rw [if_pos ⟨rfl, by omega⟩]
    · rw [if_neg (fun h => e h.1), ih (by omega) (by omega)]

theorem wcAll_at (X : Fin 6 → Blk) (Q : ℕ) (hQ) (q : Fin 4) (hq : q.val < Q) (R l : Fin 256) :
    View.canon (wcAll X Q hQ) (ix3 q R l)
      = wide (outRe X q.val q.isLt (R.val / 32 + 1)) (outIm X q.val q.isLt (R.val / 32 + 1)) (ix3 (0 : Fin 1) (⟨R.val % 32, by omega⟩ : Fin 32) l) := by
  induction Q with
  | zero => omega
  | succ Q ih =>
    refine (wcBlock_at X Q hQ _ 8 (by omega) q R l).trans ?_
    by_cases e : q.val = Q
    · subst e
      rw [if_pos ⟨rfl, by omega⟩]
    · rw [if_neg (fun h => e h.1), ih (by omega) (by omega)]

theorem tiles_at (X : Fin 6 → Blk) (q : ℕ) (h) (k : ℕ) (L) (n : ℕ) (hn) (R C : Fin 256) :
    View.canon (tiles X q h k L n hn) (ix2 R C)
      = if R.val / 32 < n ∧ C.val / 32 = R.val / 32 + k then tap X q h k (ix2 (⟨R.val % 32, by omega⟩ : Fin 32) (⟨C.val % 32, by omega⟩ : Fin 32))
        else View.canon L (ix2 R C) := by
  induction n with
  | zero => rw [if_neg (by omega)]; rfl
  | succ n ih =>
    show View.canon (tile X q h k n (by omega) :: tiles X q h k L n (by omega)) _ = _
    rw [tile_at, ih]
    by_cases e : R.val / 32 = n ∧ C.val / 32 = n + k
    · rw [if_pos e, if_pos (by omega)]
    · rw [if_neg e]
      exact if_congr (by omega) rfl rfl

theorem diagonals_at (X : Fin 6 → Blk) (q : ℕ) (h) (L) (K : ℕ) (hK) (R C : Fin 256) :
    View.canon (diagonals X q h L K hK) (ix2 R C)
      = if R.val / 32 ≤ C.val / 32 ∧ C.val / 32 - R.val / 32 < K then
          tap X q h (C.val / 32 - R.val / 32) (ix2 (⟨R.val % 32, by omega⟩ : Fin 32) (⟨C.val % 32, by omega⟩ : Fin 32))
        else View.canon L (ix2 R C) := by
  induction K with
  | zero => rw [if_neg (by omega)]; rfl
  | succ K ih =>
    refine (tiles_at X q h K _ (8 - K) (by omega) R C).trans ?_
    rw [ih]
    by_cases e : R.val / 32 < 8 - K ∧ C.val / 32 = R.val / 32 + K
    · obtain rfl : K = C.val / 32 - R.val / 32 := by omega
      rw [if_pos e, if_pos ⟨by omega, by omega⟩]
    · rw [if_neg e]
      exact if_congr (by omega) rfl rfl

/-- The lower triangle of steps stays zero. -/
theorem tpScr_at (X : Fin 6 → Blk) (q : ℕ) (h : q < 4) (R C : Fin 256) :
    View.canon (tpScr X q h) (ix2 R C)
      = if R.val / 32 ≤ C.val / 32 then
          tap X q h (C.val / 32 - R.val / 32) (ix2 (⟨R.val % 32, by omega⟩ : Fin 32) (⟨C.val % 32, by omega⟩ : Fin 32))
        else (0 : EReal) := by
  have z : ∀ L, View.canon (tpZero :: L) (ix2 R C) = (0 : EReal) := fun L => by
    unfold tpZero
    refine (hit2 (o0 := 0) (o1 := 0) _ L R C R C (by simp) (by simp)).trans ?_
    · pointwise []
  have e : ∃ L, tpScr X q h = diagonals X q h (tpZero :: L) 8 (by omega) := by
    cases q with
    | zero => exact ⟨[], rfl⟩
    | succ q => exact ⟨tpScr X q (by omega), rfl⟩
  obtain ⟨L, e⟩ := e
  rw [e, diagonals_at, z]
  exact if_congr (by omega) rfl rfl

end Cert.WtCanon
end
-- ==== Proof.WtSpec.lean ====
/- The recurrence's block weights as functions of the operands: powers of the poles, and what two groups' blocks make of them. -/
module

public import proofs.«01_k».proof.Proof.FinalRow

@[expose] public section

noncomputable section

namespace Cert.WtSpec

/-- The powers of a complex number: real and imaginary part. -/
def zp (r i : EReal) : ℕ → EReal × EReal
  | 0 => (1, 0)
  | k + 1 => ((zp r i k).1 * r - (zp r i k).2 * i, (zp r i k).1 * i + (zp r i k).2 * r)

/-- The product of two complex numbers. -/
def cmul (u v : EReal) (z : EReal × EReal) : EReal × EReal := (u * z.1 - v * z.2, u * z.2 + v * z.1)

/-- The operands: the poles of each group, and each group's input and output matrix with a row for each channel. -/
structure Ops where
  ar : Fin 32 → Fin 64 → EReal
  ai : Fin 32 → Fin 64 → EReal
  br : Fin 32 → Fin 16 → Fin 64 → EReal
  bi : Fin 32 → Fin 16 → Fin 64 → EReal
  cr : Fin 32 → Fin 16 → Fin 64 → EReal
  ci : Fin 32 → Fin 16 → Fin 64 → EReal

variable (o : Ops)

/-- A channel's input, `k` steps later. -/
def inV (k : ℕ) (g : Fin 32) (c : Fin 16) (p : Fin 64) : EReal × EReal := cmul (o.br g c p) (o.bi g c p) (zp (o.ar g p) (o.ai g p) k)

/-- A channel's output from a state `k` steps earlier. -/
def outV (k : ℕ) (g : Fin 32) (c : Fin 16) (p : Fin 64) : EReal × EReal := cmul (o.cr g c p) (o.ci g c p) (zp (o.ar g p) (o.ai g p) k)

/-- The response of channel `d` to channel `c`, `k` steps later. -/
def tapV (k : ℕ) (g : Fin 32) (c d : Fin 16) : EReal :=
  (∑ p : Fin 64, (inV o k g c p).1 * o.cr g d p) - ∑ p : Fin 64, (inV o k g c p).2 * o.ci g d p

/-- The group of a row of a block of two groups. -/
abbrev grp (b : Fin 16) (r : ℕ) : Fin 32 := ⟨2 * b.val + r % 32 / 16, by omega⟩
abbrev plc (r : ℕ) : Fin 16 := ⟨r % 16, by omega⟩
abbrev sta (l : ℕ) : Fin 64 := ⟨l % 64, by omega⟩

/-- The input's weights of a block: the last step first. -/
def weS (b : Fin 16) (R L : Fin 256) : EReal :=
  if R.val % 32 / 16 = L.val % 128 / 64 then
    (if L.val < 128 then (inV o (7 - R.val / 32) (grp b R.val) (plc R.val) (sta L.val)).1
      else (inV o (7 - R.val / 32) (grp b R.val) (plc R.val) (sta L.val)).2)
  else 0

/-- The output's weights of a block, the imaginary parts with the sign changed. -/
def wcS (b : Fin 16) (R L : Fin 256) : EReal :=
  if R.val % 32 / 16 = L.val % 128 / 64 then
    (if L.val < 128 then (outV o (R.val / 32 + 1) (grp b R.val) (plc R.val) (sta L.val)).1
      else -(outV o (R.val / 32 + 1) (grp b R.val) (plc R.val) (sta L.val)).2)
  else 0

/-- The responses of a block by lag: none before its cause. -/
def tpS (b : Fin 16) (R C : Fin 256) : EReal :=
  if R.val / 32 ≤ C.val / 32 then
    (if R.val % 32 / 16 = C.val % 32 / 16 then tapV o (C.val / 32 - R.val / 32) (grp b R.val) (plc R.val) (plc C.val) else 0)
  else 0

/-- A block's poles after eight steps. -/
def topS (b : Fin 16) (l : Fin 128) : EReal × EReal :=
  zp (o.ar ⟨2 * b.val + l.val / 64, by omega⟩ (sta l.val)) (o.ai ⟨2 * b.val + l.val / 64, by omega⟩ (sta l.val)) 8

/-- A sum over two groups' states, where one group's are zero. -/
theorem sum_half (γ : ℕ) (hγ : γ < 2) (F : Fin 128 → EReal) (z : ∀ l, l.val / 64 ≠ γ → F l = 0) :
    ∑ l, F l = ∑ p : Fin 64, F ⟨64 * γ + p.val, by omega⟩ := by
  have e : ∑ l, F l = (∑ p : Fin 64, F (Fin.castAdd 64 p)) + ∑ p : Fin 64, F (Fin.natAdd 64 p) := Fin.sum_univ_add (a := 64) (b := 64) F
  rw [e]
  interval_cases γ
  · rw [Finset.sum_eq_zero (s := Finset.univ) (f := fun p : Fin 64 => F (Fin.natAdd 64 p)) fun p _ => z _ (by simp), add_zero]
    exact Finset.sum_congr rfl fun p _ => congrArg F (Fin.ext (by simp))
  · rw [Finset.sum_eq_zero (s := Finset.univ) (f := fun p : Fin 64 => F (Fin.castAdd 64 p)) fun p _ => z _ (by simp; omega), zero_add]
    exact Finset.sum_congr rfl fun p _ => congrArg F (Fin.ext (by simp; omega))

end Cert.WtSpec
end
-- ==== Proof.WtBlock.lean ====
/- The values of a block of two groups, at every index, as functions of the operands. -/
module

public import proofs.«01_k».proof.Proof.WtCanon
public import proofs.«01_k».proof.Proof.WtSpec

@[expose] public section

set_option maxRecDepth 16384

noncomputable section

namespace Cert.WtBlock

open Idealize.ShloMosaic Idealize.ShloMosaic.TcCoe
open Cert.Kernel5Ideal Cert.Kernel5Ideal.Gen Cert.WtModel Cert.WtCanon Cert.WtSpec

theorem wide_val (a b : Sq) (r : Fin 32) (L : Fin 256) :
    (wide a b (ix3 (0 : Fin 1) r L) : EReal) = if hL : L.val < 128 then a (ix2 r ⟨L.val, hL⟩) else b (ix2 r ⟨L.val - 128, by omega⟩) := by
  pointwise [wide]

section
variable (X : Fin 6 → Blk) (q : ℕ) (h : q < 4)

theorem pole_read (x y : Blk) (n : ℕ) (hn : n < 2) (l : Fin 128) :
    (pole x y n hn q h (ix2 (0 : Fin 1) l) : EReal) = View.canon (poles x y q h) (ix3 (⟨n, hn⟩ : Fin 2) (0 : Fin 1) l) := by
  unfold pole
  rw [View.readCov_eq_canon']
  generalize View.canon (poles x y q h) = v
  pointwise []

/-- The pole of lane `l`. -/
theorem pole_val (x y : Blk) (n : ℕ) (hn : n < 2) (l : Fin 128) :
    (pole x y n hn q h (ix2 (0 : Fin 1) l) : EReal)
      = (if n = 0 then x else y) (ix2 (⟨32 * q + 16 * (l.val / 64), by omega⟩ : Fin 128) (⟨l.val % 64, by omega⟩ : Fin 64)) := by
  rw [pole_read]
  have hl : l.val / 64 = 0 ∨ l.val / 64 = 1 := by omega
  cases q with
  | zero =>
    unfold poles
    simp only [pole_at]
    interval_cases n <;> rcases hl with hl | hl <;> simp [hl]
  | succ q =>
    unfold poles
    simp only [pole_at]
    interval_cases n <;> rcases hl with hl | hl <;> simp [hl]

theorem plane_cast (v : FVec Ideal S1x32x128 .f32) (r : Fin 32) (l : Fin 128) :
    shapeCast S32x128 v shapeCasts_S1x32x128_S32x128 (ix2 r l) = v (ix3 (0 : Fin 1) r l) := by
  pointwise []

theorem diag_read (n : ℕ) (hn : n < 4) (r : Fin 32) (l : Fin 128) :
    (diag X n hn q h (ix2 r l) : EReal) = View.canon (diags X q h) (ix3 (⟨n, hn⟩ : Fin 4) r l) := by
  unfold diag
  rw [View.readCov_eq_canon']
  generalize View.canon (diags X q h) = v
  refine (plane_cast _ r l).trans (congrArg v ?_)
  funext a
  fin_cases a <;> apply Fin.ext
  · show n + 1 * 0 = n
    omega
  · show 0 + 1 * r.val = r.val
    omega
  · show 0 + 1 * l.val = l.val
    omega

/-- The operand of each of the four matrices. -/
def op : ℕ → Fin 6
  | 0 => 0
  | 1 => 1
  | 2 => 4
  | _ => 5

/-- A matrix's element: zero off the two groups' blocks. -/
theorem diag_val (n : ℕ) (hn : n < 4) (r : Fin 32) (l : Fin 128) :
    (diag X n hn q h (ix2 r l) : EReal)
      = if r.val / 16 = l.val / 64 then X (op n) (ix2 (⟨32 * q + r.val, by omega⟩ : Fin 128) (⟨l.val % 64, by omega⟩ : Fin 64)) else (0 : EReal) := by
  rw [diag_read]
  have e : ∃ L, diags X q h = diagOn X q h L := by
    cases q with
    | zero => exact ⟨[], rfl⟩
    | succ q => exact ⟨diags X q (by omega), rfl⟩
  obtain ⟨L, e⟩ := e
  have z : ∀ y, View.canon (diagZero :: L) y = (0 : EReal) := fun y => by
    obtain ⟨a, b, c, rfl⟩ : ∃ (a : Fin 4) (b : Fin 32) (c : Fin 128), y = ix3 a b c := ⟨y 0, y 1, y 2, by idx_vars y⟩
    unfold diagZero
    refine (hit3 (o0 := 0) (o1 := 0) (o2 := 0) _ L a b c a b c (by simp) (by simp) (by simp)).trans ?_
    pointwise []
  rw [e]
  unfold diagOn
  simp only [diag_at, z]
  have hr : r.val / 16 = 0 ∨ r.val / 16 = 1 := by omega
  have hl : l.val / 64 = 0 ∨ l.val / 64 = 1 := by omega
  interval_cases n <;> rcases hl with hl | hl <;> rcases hr with hr | hr <;> simp [hl, hr, op]

/-- The pole of lane `l`, real and imaginary. -/
abbrev lre (l : Fin 128) : EReal := X 2 (ix2 (⟨32 * q + 16 * (l.val / 64), by omega⟩ : Fin 128) (⟨l.val % 64, by omega⟩ : Fin 64))
abbrev lim (l : Fin 128) : EReal := X 3 (ix2 (⟨32 * q + 16 * (l.val / 64), by omega⟩ : Fin 128) (⟨l.val % 64, by omega⟩ : Fin 64))

theorem pw_val (ar ai : Row) (k : ℕ) (l : Fin 128) :
    ((pw ar ai k).1 (ix2 (0 : Fin 1) l) : EReal) = (zp (ar (ix2 (0 : Fin 1) l)) (ai (ix2 (0 : Fin 1) l)) k).1
      ∧ ((pw ar ai k).2 (ix2 (0 : Fin 1) l) : EReal) = (zp (ar (ix2 (0 : Fin 1) l)) (ai (ix2 (0 : Fin 1) l)) k).2 := by
  induction k with
  | zero =>
    constructor
    · show Scalar.ofBits (F := Ideal) .f32 0x3F800000#32 = (1 : EReal)
      simp
    · show Scalar.ofBits (F := Ideal) .f32 0x00000000#32 = (0 : EReal)
      simp
  | succ k ih =>
    obtain ⟨e1, e2⟩ := ih
    constructor
    · show ((pw ar ai k).1 (ix2 (0 : Fin 1) l) : EReal) * ar (ix2 (0 : Fin 1) l) - ((pw ar ai k).2 (ix2 (0 : Fin 1) l) : EReal) * ai (ix2 (0 : Fin 1) l) = _
      rw [e1, e2]
      rfl
    · show ((pw ar ai k).1 (ix2 (0 : Fin 1) l) : EReal) * ai (ix2 (0 : Fin 1) l) + ((pw ar ai k).2 (ix2 (0 : Fin 1) l) : EReal) * ar (ix2 (0 : Fin 1) l) = _
      rw [e1, e2]
      rfl

theorem P_val (k : ℕ) (l : Fin 128) :
    ((P X q h k).1 (ix2 (0 : Fin 1) l) : EReal) = (zp (lre X q h l) (lim X q h l) k).1
      ∧ ((P X q h k).2 (ix2 (0 : Fin 1) l) : EReal) = (zp (lre X q h l) (lim X q h l) k).2 := by
  have e := pw_val (pole (X 2) (X 3) 0 (by omega) q h) (pole (X 2) (X 3) 1 (by omega) q h) k l
  rw [show (pole (X 2) (X 3) 0 (by omega) q h (ix2 (0 : Fin 1) l) : EReal) = lre X q h l from pole_val q h (X 2) (X 3) 0 (by omega) l,
    show (pole (X 2) (X 3) 1 (by omega) q h (ix2 (0 : Fin 1) l) : EReal) = lim X q h l from pole_val q h (X 2) (X 3) 1 (by omega) l] at e
  exact e

theorem cre_val (a b : Sq) (p : Row × Row) (r : Fin 32) (l : Fin 128) :
    (cre a b p (ix2 r l) : EReal) = a (ix2 r l) * p.1 (ix2 (0 : Fin 1) l) - b (ix2 r l) * p.2 (ix2 (0 : Fin 1) l) := by
  pointwise [cre]

theorem cim_val (a b : Sq) (p : Row × Row) (r : Fin 32) (l : Fin 128) :
    (cim a b p (ix2 r l) : EReal) = a (ix2 r l) * p.2 (ix2 (0 : Fin 1) l) + b (ix2 r l) * p.1 (ix2 (0 : Fin 1) l) := by
  pointwise [cim]

/-- The dot product of two matrices' rows. -/
theorem dot_val (a b : FVec Ideal S32x128 .bf16) (r s : Fin 32) :
    (matmul dot_S32x128_S32x128_S32x32_1_1_0_0_n_n none a b (constant S32x32 .f32 0x00000000#32) (ix2 r s) : EReal)
      = ∑ l : Fin 128, (a (ix2 r l) : EReal) * b (ix2 s l) := by
  pointwise []

theorem tap_val (k : ℕ) (r s : Fin 32) :
    (tap X q h k (ix2 r s) : EReal)
      = (∑ l : Fin 128, (inRe X q h k (ix2 r l) : EReal) * diag X 2 (by omega) q h (ix2 s l))
        - ∑ l : Fin 128, (inIm X q h k (ix2 r l) : EReal) * diag X 3 (by omega) q h (ix2 s l) := by
  refine congrArg₂ (fun (u v : EReal) => u - v) ((dot_val _ _ r s).trans ?_) ((dot_val _ _ r s).trans ?_) <;> rfl

end

end Cert.WtBlock
end
-- ==== Proof.WtKernel.lean ====
/- A grid point's results at every index, in the operands of its groups. -/
module

public import proofs.«01_k».proof.Proof.WtBlock

@[expose] public section

set_option maxRecDepth 16384

noncomputable section

namespace Cert.WtKernel

open Idealize.ShloMosaic Idealize.ShloMosaic.TcCoe
open Cert.Kernel5Ideal Cert.Kernel5Ideal.Gen Cert.WtModel Cert.WtCanon Cert.WtSpec Cert.WtBlock

/-- The operands' blocks hold the rows of eight groups. -/
structure Holds (o : Ops) (t : ℕ) (X : Fin 6 → Blk) : Prop where
  br : ∀ (r : Fin 128) (p : Fin 64) (g : Fin 32) (c : Fin 16), g.val = 8 * t + r.val / 16 → c.val = r.val % 16 → (X 0 (ix2 r p) : EReal) = o.br g c p
  bi : ∀ (r : Fin 128) (p : Fin 64) (g : Fin 32) (c : Fin 16), g.val = 8 * t + r.val / 16 → c.val = r.val % 16 → (X 1 (ix2 r p) : EReal) = o.bi g c p
  ar : ∀ (r : Fin 128) (p : Fin 64) (g : Fin 32), g.val = 8 * t + r.val / 16 → (X 2 (ix2 r p) : EReal) = o.ar g p
  ai : ∀ (r : Fin 128) (p : Fin 64) (g : Fin 32), g.val = 8 * t + r.val / 16 → (X 3 (ix2 r p) : EReal) = o.ai g p
  cr : ∀ (r : Fin 128) (p : Fin 64) (g : Fin 32) (c : Fin 16), g.val = 8 * t + r.val / 16 → c.val = r.val % 16 → (X 4 (ix2 r p) : EReal) = o.cr g c p
  ci : ∀ (r : Fin 128) (p : Fin 64) (g : Fin 32) (c : Fin 16), g.val = 8 * t + r.val / 16 → c.val = r.val % 16 → (X 5 (ix2 r p) : EReal) = o.ci g c p

section
variable {o : Ops} {t : ℕ} {X : Fin 6 → Blk} (H : Holds o t X) (q : ℕ) (h : q < 4)
include H

/-- The powers of a lane's pole. -/
theorem P_holds (k : ℕ) (l : Fin 128) (g : Fin 32) (hg : g.val = 8 * t + 2 * q + l.val / 64) :
    ((P X q h k).1 (ix2 (0 : Fin 1) l) : EReal) = (zp (o.ar g (sta l.val)) (o.ai g (sta l.val)) k).1
      ∧ ((P X q h k).2 (ix2 (0 : Fin 1) l) : EReal) = (zp (o.ar g (sta l.val)) (o.ai g (sta l.val)) k).2 := by
  have e := P_val X q h k l
  rw [show lre X q h l = o.ar g (sta l.val) from H.ar _ _ g (by simp; omega), show lim X q h l = o.ai g (sta l.val) from H.ai _ _ g (by simp; omega)] at e
  exact e

theorem in_holds (k : ℕ) (r : Fin 32) (l : Fin 128) (g : Fin 32) (hg : g.val = 8 * t + 2 * q + r.val / 16) :
    (inRe X q h k (ix2 r l) : EReal) = (if r.val / 16 = l.val / 64 then (inV o k g (plc r.val) (sta l.val)).1 else 0)
      ∧ (inIm X q h k (ix2 r l) : EReal) = (if r.val / 16 = l.val / 64 then (inV o k g (plc r.val) (sta l.val)).2 else 0) := by
  have d0 := diag_val X q h 0 (by omega) r l
  have d1 := diag_val X q h 1 (by omega) r l
  unfold inRe inIm
  rw [cre_val, cim_val]
  by_cases e : r.val / 16 = l.val / 64
  · have b0 : (X (op 0) (ix2 (⟨32 * q + r.val, by omega⟩ : Fin 128) (⟨l.val % 64, by omega⟩ : Fin 64)) : EReal) = o.br g (plc r.val) (sta l.val) :=
      H.br _ _ g _ (by simp; omega) (by simp; omega)
    have b1 : (X (op 1) (ix2 (⟨32 * q + r.val, by omega⟩ : Fin 128) (⟨l.val % 64, by omega⟩ : Fin 64)) : EReal) = o.bi g (plc r.val) (sta l.val) :=
      H.bi _ _ g _ (by simp; omega) (by simp; omega)
    obtain ⟨p1, p2⟩ := P_holds H q h k l g (by omega)
    rw [if_pos e] at d0 d1 ⊢
    rw [if_pos e]
    rw [d0.trans b0, d1.trans b1, p1, p2]
    exact ⟨rfl, rfl⟩
  · rw [if_neg e] at d0 d1 ⊢
    rw [if_neg e, d0, d1]
    simp

theorem c_holds (s : Fin 32) (l : Fin 128) (g : Fin 32) (hg : g.val = 8 * t + 2 * q + s.val / 16) :
    (diag X 2 (by omega) q h (ix2 s l) : EReal) = (if s.val / 16 = l.val / 64 then o.cr g (plc s.val) (sta l.val) else 0)
      ∧ (diag X 3 (by omega) q h (ix2 s l) : EReal) = (if s.val / 16 = l.val / 64 then o.ci g (plc s.val) (sta l.val) else 0) := by
  have b0 : (X (op 2) (ix2 (⟨32 * q + s.val, by omega⟩ : Fin 128) (⟨l.val % 64, by omega⟩ : Fin 64)) : EReal) = o.cr g (plc s.val) (sta l.val) :=
    H.cr _ _ g _ (by simp; omega) (by simp; omega)
  have b1 : (X (op 3) (ix2 (⟨32 * q + s.val, by omega⟩ : Fin 128) (⟨l.val % 64, by omega⟩ : Fin 64)) : EReal) = o.ci g (plc s.val) (sta l.val) :=
    H.ci _ _ g _ (by simp; omega) (by simp; omega)
  exact ⟨(diag_val X q h 2 (by omega) s l).trans (if_congr Iff.rfl b0 rfl), (diag_val X q h 3 (by omega) s l).trans (if_congr Iff.rfl b1 rfl)⟩

theorem out_holds (k : ℕ) (r : Fin 32) (l : Fin 128) (g : Fin 32) (hg : g.val = 8 * t + 2 * q + r.val / 16) :
    (outRe X q h k (ix2 r l) : EReal) = (if r.val / 16 = l.val / 64 then (outV o k g (plc r.val) (sta l.val)).1 else 0)
      ∧ (outIm X q h k (ix2 r l) : EReal) = (if r.val / 16 = l.val / 64 then -(outV o k g (plc r.val) (sta l.val)).2 else 0) := by
  obtain ⟨d0, d1⟩ := c_holds H q h r l g hg
  have n : (outIm X q h k (ix2 r l) : EReal) = 0 - (cim (diag X 2 (by omega) q h) (diag X 3 (by omega) q h) (P X q h k) (ix2 r l) : EReal) := by
    unfold outIm
    generalize cim (diag X 2 (by omega) q h) (diag X 3 (by omega) q h) (P X q h k) = v
    pointwise []
  rw [n]
  unfold outRe
  rw [cre_val, cim_val]
  by_cases e : r.val / 16 = l.val / 64
  · obtain ⟨p1, p2⟩ := P_holds H q h k l g (by omega)
    rw [if_pos e] at d0 d1 ⊢
    rw [if_pos e]
    rw [d0, d1, p1, p2, zero_sub]
    exact ⟨rfl, rfl⟩
  · rw [if_neg e] at d0 d1 ⊢
    rw [if_neg e, d0, d1]
    simp

theorem tap_holds (k : ℕ) (r s : Fin 32) (g : Fin 32) (hg : g.val = 8 * t + 2 * q + r.val / 16) :
    (tap X q h k (ix2 r s) : EReal) = if r.val / 16 = s.val / 16 then tapV o k g (plc r.val) (plc s.val) else 0 := by
  have hr : r.val / 16 < 2 := by omega
  have gs : ∃ g' : Fin 32, g'.val = 8 * t + 2 * q + s.val / 16 := by
    have : g.val < 32 := g.isLt
    exact ⟨⟨8 * t + 2 * q + s.val / 16, by omega⟩, rfl⟩
  obtain ⟨g', hg'⟩ := gs
  rw [tap_val]
  have hi := fun l => in_holds H q h k r l g hg
  have hc := fun l => c_holds H q h s l g' hg'
  rw [sum_half (r.val / 16) hr _ fun l hl => by rw [(hi l).1, if_neg (fun e => hl e.symm), zero_mul],
    sum_half (r.val / 16) hr _ fun l hl => by rw [(hi l).2, if_neg (fun e => hl e.symm), zero_mul]]
  have en : ∀ p : Fin 64, (64 * (r.val / 16) + p.val) / 64 = r.val / 16 := fun p => by omega
  have em : ∀ p : Fin 64, sta (64 * (r.val / 16) + p.val) = p := fun p => Fin.ext (by simp)
  by_cases e : r.val / 16 = s.val / 16
  · obtain rfl : g' = g := Fin.ext (by omega)
    rw [if_pos e]
    refine congrArg₂ (fun (u v : EReal) => u - v) (Finset.sum_congr rfl fun p _ => ?_) (Finset.sum_congr rfl fun p _ => ?_)
    · rw [(hi _).1, (hc _).1, if_pos (en p).symm, if_pos (e.symm.trans (en p).symm), em p]
    · rw [(hi _).2, (hc _).2, if_pos (en p).symm, if_pos (e.symm.trans (en p).symm), em p]
  · rw [if_neg e, Finset.sum_eq_zero fun p _ => ?_, Finset.sum_eq_zero fun p _ => ?_]
    · simp
    · rw [(hc _).2, if_neg (fun x => e ((en p).symm.trans x.symm)), mul_zero]
    · rw [(hc _).1, if_neg (fun x => e ((en p).symm.trans x.symm)), mul_zero]

end

section
variable {o : Ops} {t : ℕ} {X : Fin 6 → Blk} (H : Holds o t X) (q : Fin 4) (b : Fin 16) (hb : b.val = 4 * t + q.val)
include H hb

theorem we_holds (R L : Fin 256) : (weBlk X (ix3 q R L) : EReal) = weS o b R L := by
  unfold weBlk
  rw [weAll_at X 4 _ q q.isLt R L, wide_val]
  have hi := fun l => in_holds H q.val q.isLt (7 - R.val / 32) ⟨R.val % 32, by omega⟩ l (grp b R.val) (by simp; omega)
  have ep : plc (R.val % 32) = plc R.val := Fin.ext (by simp)
  unfold weS
  by_cases hL : L.val < 128
  · rw [dif_pos hL, (hi _).1, if_pos hL, ep]
    exact if_congr (by simp only []; omega) rfl rfl
  · rw [dif_neg hL, (hi _).2, if_neg hL, ep, show sta (L.val - 128) = sta L.val from Fin.ext (by simp; omega)]
    exact if_congr (by simp only []; omega) rfl rfl

theorem wc_holds (R L : Fin 256) : (wcBlk X (ix3 q R L) : EReal) = wcS o b R L := by
  unfold wcBlk
  rw [wcAll_at X 4 _ q q.isLt R L, wide_val]
  have hi := fun l => out_holds H q.val q.isLt (R.val / 32 + 1) ⟨R.val % 32, by omega⟩ l (grp b R.val) (by simp; omega)
  have ep : plc (R.val % 32) = plc R.val := Fin.ext (by simp)
  unfold wcS
  by_cases hL : L.val < 128
  · rw [dif_pos hL, (hi _).1, if_pos hL, ep]
    exact if_congr (by simp only []; omega) rfl rfl
  · rw [dif_neg hL, (hi _).2, if_neg hL, ep, show sta (L.val - 128) = sta L.val from Fin.ext (by simp; omega)]
    exact if_congr (by simp only []; omega) rfl rfl

theorem tp_holds (R C : Fin 256) : (tpBlk X (ix3 q R C) : EReal) = tpS o b R C := by
  have e : (tpBlk X (ix3 q R C) : EReal) = View.canon (tpScr X q.val q.isLt) (ix2 R C) := by
    have pc : ∀ v : FVec Ideal S256x256 .f32,
        (shapeCast S1x256x256 (truncf (F := Ideal) .bf16 v bitsLt_bf16_f32) shapeCasts_S256x256_S1x256x256 (ix3 (0 : Fin 1) R C) : EReal) = v (ix2 R C) := fun v => by
      pointwise []
    have rd : ∀ (n : ℕ) (hn : n < 4), ((View.whole cc0_scratch2).readCov (tpScr X n hn)
        (Rect.unit (s := S256x256) ![0, 0] S256x256.size inb_S256x256_S256x256_0_0).toLoadRect (ix2 R C) : EReal) = View.canon (tpScr X n hn) (ix2 R C) := fun n hn => by
      rw [View.readCov_eq_canon']
      refine congrArg (View.canon (tpScr X n hn)) ?_
      funext a
      fin_cases a <;> apply Fin.ext
      · show 0 + 1 * R.val = R.val
        omega
      · show 0 + 1 * C.val = C.val
        omega
    have hit : ∀ (n : ℕ) (hn : n < 4) L, q.val = n → (View.canon (tpPiece X n hn :: L) (ix3 q R C) : EReal) = View.canon (tpScr X n hn) (ix2 R C) := fun n hn L e => by
      unfold tpPiece
      exact (hit3 _ L q R C (0 : Fin 1) R C (by simp; omega) (by simp) (by simp)).trans ((pc _).trans (rd n hn))
    have miss : ∀ (n : ℕ) (hn : n < 4) L, q.val ≠ n → (View.canon (tpPiece X n hn :: L) (ix3 q R C) : EReal) = View.canon L (ix3 q R C) := fun n hn L e => by
      unfold tpPiece
      exact miss3 _ L q R C (by omega)
    unfold tpBlk
    obtain ⟨n, hn⟩ := q
    interval_cases n
    · rw [miss 3 _ _ (by simp), miss 2 _ _ (by simp), miss 1 _ _ (by simp), hit 0 _ _ rfl]
    · rw [miss 3 _ _ (by simp), miss 2 _ _ (by simp), hit 1 _ _ rfl]
    · rw [miss 3 _ _ (by simp), hit 2 _ _ rfl]
    · rw [hit 3 _ _ rfl]
  rw [e, tpScr_at]
  unfold tpS
  refine if_congr Iff.rfl ?_ rfl
  refine (tap_holds H q.val q.isLt (C.val / 32 - R.val / 32) ⟨R.val % 32, by omega⟩ ⟨C.val % 32, by omega⟩ (grp b R.val) (by simp; omega)).trans ?_
  rw [show plc (R.val % 32) = plc R.val from Fin.ext (by simp), show plc (C.val % 32) = plc C.val from Fin.ext (by simp)]

theorem top_holds (l : Fin 128) :
    (reBlk X (ix3 q (0 : Fin 1) l) : EReal) = (topS o b l).1 ∧ (imBlk X (ix3 q (0 : Fin 1) l) : EReal) = (topS o b l).2 := by
  have pc : ∀ v : Row, (shapeCast S1x1x128 v shapeCasts_S1x128_S1x1x128 (ix3 (0 : Fin 1) (0 : Fin 1) l) : EReal) = v (ix2 (0 : Fin 1) l) := fun v => by
    pointwise []
  have top := P_holds H q.val q.isLt 8 l ⟨2 * b.val + l.val / 64, by omega⟩ (by simp; omega)
  have hitR : ∀ (n : ℕ) (hn : n < 4) L, q.val = n → (View.canon (topRe X n hn :: L) (ix3 q (0 : Fin 1) l) : EReal) = (P X n hn 8).1 (ix2 (0 : Fin 1) l) := fun n hn L e => by
    unfold topRe
    exact (hit3 _ L q 0 l (0 : Fin 1) (0 : Fin 1) l (by simp; omega) (by simp) (by simp)).trans (pc _)
  have hitI : ∀ (n : ℕ) (hn : n < 4) L, q.val = n → (View.canon (topIm X n hn :: L) (ix3 q (0 : Fin 1) l) : EReal) = (P X n hn 8).2 (ix2 (0 : Fin 1) l) := fun n hn L e => by
    unfold topIm
    exact (hit3 _ L q 0 l (0 : Fin 1) (0 : Fin 1) l (by simp; omega) (by simp) (by simp)).trans (pc _)
  have missR : ∀ (n : ℕ) (hn : n < 4) L, q.val ≠ n → (View.canon (topRe X n hn :: L) (ix3 q (0 : Fin 1) l) : EReal) = View.canon L (ix3 q (0 : Fin 1) l) := fun n hn L e => by
    unfold topRe
    exact miss3 _ L q 0 l (by omega)
  have missI : ∀ (n : ℕ) (hn : n < 4) L, q.val ≠ n → (View.canon (topIm X n hn :: L) (ix3 q (0 : Fin 1) l) : EReal) = View.canon L (ix3 q (0 : Fin 1) l) := fun n hn L e => by
    unfold topIm
    exact miss3 _ L q 0 l (by omega)
  unfold reBlk imBlk topS
  obtain ⟨n, hn⟩ := q
  interval_cases n
  · rw [missR 3 _ _ (by simp), missR 2 _ _ (by simp), missR 1 _ _ (by simp), hitR 0 _ _ rfl,
      missI 3 _ _ (by simp), missI 2 _ _ (by simp), missI 1 _ _ (by simp), hitI 0 _ _ rfl]
    exact top
  · rw [missR 3 _ _ (by simp), missR 2 _ _ (by simp), hitR 1 _ _ rfl, missI 3 _ _ (by simp), missI 2 _ _ (by simp), hitI 1 _ _ rfl]
    exact top
  · rw [missR 3 _ _ (by simp), hitR 2 _ _ rfl, missI 3 _ _ (by simp), hitI 2 _ _ rfl]
    exact top
  · rw [hitR 3 _ _ rfl, hitI 3 _ _ rfl]
    exact top

end

end Cert.WtKernel
end
-- ==== Proof.WtRun.lean ====
/- The recurrence's block weights: a grid point's run leaves the modelled stores. -/
module

public import proofs.«01_k».proof.Proof.WtModel

@[expose] public section

set_option maxRecDepth 16384

noncomputable section

namespace Cert.WtRun

open Idealize.ShloMosaic Idealize.ShloMosaic.TcCoe Idealize.SL.Sem
open Cert.Kernel5Ideal Cert.Kernel5Ideal.Gen Cert.WtModel

variable (m : (ℓ : Loc nD τ sig) → Buf (Elt Ideal) ℓ)

/-- The six blocks of operands of a grid point. -/
def blks (c : Dev nD) (t : Fin cfg0.N) : Fin 6 → Blk
  | 0 => iblk m c 0 t
  | 1 => iblk m c 1 t
  | 2 => iblk m c 2 t
  | 3 => iblk m c 3 t
  | 4 => iblk m c 4 t
  | 5 => iblk m c 5 t

variable (c : Dev nD) (t : Fin cfg0.N)

theorem run_re (y) : (outsAt0 m c t).2.2.2.1 y = reBlk (blks m c t) y := by
  unfold outsAt0
  dsimp only
  unfold out0_A_9
  frame_out
  rfl

theorem run_im (y) : (outsAt0 m c t).2.2.2.2 y = imBlk (blks m c t) y := by
  unfold outsAt0
  dsimp only
  unfold out0_A_10
  frame_out
  rfl

end Cert.WtRun
end
-- ==== Proof.WtEntry.lean ====
/- The recurrence's block weights: the operands the host prepares, sixteen rows for each group, and the blocks of a grid point. -/
module

public import proofs.«01_k».proof.Proof.WtKernel
public import proofs.«01_k».proof.Proof.WtRun

@[expose] public section

set_option maxRecDepth 16384

noncomputable section

namespace Cert.WtEntry

open Idealize.ShloMosaic Idealize.ShloMosaic.TcCoe Idealize.SL.Sem
open Idealize.ShloMosaic.Pipeline (Dat)
open Cert.Kernel5Ideal Cert.Kernel5Ideal.Gen Cert.WtModel Cert.WtSpec Cert.WtKernel Cert.WtRun

variable (m : (ℓ : Loc nD τ sig) → Buf (Elt Ideal) ℓ) (c : Dev nD)

/-- The operands as the arguments hold them. -/
def ops (x0 x1 : FVec Ideal S32x64 .f32) (x2 x3 : FVec Ideal S32x64x16 .f32) (x4 x5 : FVec Ideal S32x16x64 .f32) : Ops where
  ar g p := x0 (ix2 g p)
  ai g p := x1 (ix2 g p)
  br g c p := x2 (ix3 g p c)
  bi g c p := x3 (ix3 g p c)
  cr g c p := x4 (ix3 g c p)
  ci g c p := x5 (ix3 g c p)

abbrev kops : Ops := ops (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

abbrev rg (r : Fin 512) : Fin 32 := ⟨r.val / 16, by omega⟩
abbrev rc (r : Fin 512) : Fin 16 := ⟨r.val % 16, by omega⟩

theorem br_entry (r : Fin 512) (p : Fin 64) : V m c main_v1 (ix2 r p) = m ((c : Thread nD τ).loc main_arg2) (ix3 (rg r) p (rc r)) := by
  simp only [V, hostOps0, List.flatten_cons, List.flatten_nil, List.append_nil, List.cons_append, List.nil_append]
  entry_read
  pointwise []

theorem bi_entry (r : Fin 512) (p : Fin 64) : V m c main_v3 (ix2 r p) = m ((c : Thread nD τ).loc main_arg3) (ix3 (rg r) p (rc r)) := by
  simp only [V, hostOps0, List.flatten_cons, List.flatten_nil, List.append_nil, List.cons_append, List.nil_append]
  entry_read
  pointwise []

theorem ar_entry (r : Fin 512) (p : Fin 64) : V m c main_v5 (ix2 r p) = m ((c : Thread nD τ).loc main_arg0) (ix2 (rg r) p) := by
  simp only [V, hostOps0, List.flatten_cons, List.flatten_nil, List.append_nil, List.cons_append, List.nil_append]
  entry_read
  pointwise []

theorem ai_entry (r : Fin 512) (p : Fin 64) : V m c main_v7 (ix2 r p) = m ((c : Thread nD τ).loc main_arg1) (ix2 (rg r) p) := by
  simp only [V, hostOps0, List.flatten_cons, List.flatten_nil, List.append_nil, List.cons_append, List.nil_append]
  entry_read
  pointwise []

theorem cr_entry (r : Fin 512) (p : Fin 64) : V m c main_v8 (ix2 r p) = m ((c : Thread nD τ).loc main_arg4) (ix3 (rg r) (rc r) p) := by
  simp only [V, hostOps0, List.flatten_cons, List.flatten_nil, List.append_nil, List.cons_append, List.nil_append]
  entry_read
  pointwise []

theorem ci_entry (r : Fin 512) (p : Fin 64) : V m c main_v9 (ix2 r p) = m ((c : Thread nD τ).loc main_arg5) (ix3 (rg r) (rc r) p) := by
  simp only [V, hostOps0, List.flatten_cons, List.flatten_nil, List.append_nil, List.cons_append, List.nil_append]
  entry_read
  pointwise []

theorem t_lt (t : Fin cfg0.N) : t.val < 4 := lt_of_lt_of_eq t.isLt (by decide)

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0, 0] ∧ win0_7.index t = ![t.val, 0, 0]
    ∧ win0_8.index t = ![t.val, 0, 0] ∧ win0_9.index t = ![t.val, 0, 0] ∧ win0_10.index t = ![t.val, 0, 0] :=
  (by decide +kernel : ∀ t : Fin grid0.N, _)

variable (t : Fin cfg0.N)

/-- The row of the array that a block's row is. -/
abbrev row (r : Fin 128) : Fin 512 := ⟨128 * t.val + r.val, by have := t_lt t; omega⟩

theorem blk0 (r : Fin 128) (p : Fin 64) : iblk m c 0 t (ix2 r p) = V m c main_v1 (ix2 (row t r) p) := by
  blk_ext [iblk, idx t]
theorem blk1 (r : Fin 128) (p : Fin 64) : iblk m c 1 t (ix2 r p) = V m c main_v3 (ix2 (row t r) p) := by
  blk_ext [iblk, idx t]
theorem blk2 (r : Fin 128) (p : Fin 64) : iblk m c 2 t (ix2 r p) = V m c main_v5 (ix2 (row t r) p) := by
  blk_ext [iblk, idx t]
theorem blk3 (r : Fin 128) (p : Fin 64) : iblk m c 3 t (ix2 r p) = V m c main_v7 (ix2 (row t r) p) := by
  blk_ext [iblk, idx t]
theorem blk4 (r : Fin 128) (p : Fin 64) : iblk m c 4 t (ix2 r p) = V m c main_v8 (ix2 (row t r) p) := by
  blk_ext [iblk, idx t]
theorem blk5 (r : Fin 128) (p : Fin 64) : iblk m c 5 t (ix2 r p) = V m c main_v9 (ix2 (row t r) p) := by
  blk_ext [iblk, idx t]

/-- A grid point's blocks hold eight groups' operands. -/
theorem holds : Holds (kops m c) t.val (blks m c t) where
  br r p g cc hg hc := by
    obtain rfl : g = rg (row t r) := Fin.ext (by simp only []; omega)
    obtain rfl : cc = rc (row t r) := Fin.ext (by simp only []; omega)
    exact (blk0 m c t r p).trans (br_entry m c _ p)
  bi r p g cc hg hc := by
    obtain rfl : g = rg (row t r) := Fin.ext (by simp only []; omega)
    obtain rfl : cc = rc (row t r) := Fin.ext (by simp only []; omega)
    exact (blk1 m c t r p).trans (bi_entry m c _ p)
  ar r p g hg := by
    obtain rfl : g = rg (row t r) := Fin.ext (by simp only []; omega)
    exact (blk2 m c t r p).trans (ar_entry m c _ p)
  ai r p g hg := by
    obtain rfl : g = rg (row t r) := Fin.ext (by simp only []; omega)
    exact (blk3 m c t r p).trans (ai_entry m c _ p)
  cr r p g cc hg hc := by
    obtain rfl : g = rg (row t r) := Fin.ext (by simp only []; omega)
    obtain rfl : cc = rc (row t r) := Fin.ext (by simp only []; omega)
    exact (blk4 m c t r p).trans (cr_entry m c _ p)
  ci r p g cc hg hc := by
    obtain rfl : g = rg (row t r) := Fin.ext (by simp only []; omega)
    obtain rfl : cc = rc (row t r) := Fin.ext (by simp only []; omega)
    exact (blk5 m c t r p).trans (ci_entry m c _ p)

end Cert.WtEntry
end
-- ==== Proof.WtRunIn.lean ====
/- The recurrence's block weights: a grid point's run leaves the modelled stores. Here the stores into the input's weights. -/
module

public import proofs.«01_k».proof.Proof.WtRun

@[expose] public section

set_option maxRecDepth 100000
set_option maxHeartbeats 8000000

noncomputable section

namespace Cert.WtRun

open Idealize.ShloMosaic Idealize.ShloMosaic.TcCoe Idealize.SL.Sem
open Cert.Kernel5Ideal Cert.Kernel5Ideal.Gen Cert.WtModel

variable (m : (ℓ : Loc nD τ sig) → Buf (Elt Ideal) ℓ) (c : Dev nD) (t : Fin cfg0.N)

theorem run_we (y) : (outsAt0 m c t).1 y = weBlk (blks m c t) y := by
  unfold outsAt0
  dsimp only
  unfold out0_A_6
  frame_out
  rfl

end Cert.WtRun
end
-- ==== Proof.WtRunOut.lean ====
/- The recurrence's block weights: a grid point's run leaves the modelled stores. Here the stores into the output's weights. -/
module

public import proofs.«01_k».proof.Proof.WtRun

@[expose] public section

set_option maxRecDepth 100000
set_option maxHeartbeats 8000000

noncomputable section

namespace Cert.WtRun

open Idealize.ShloMosaic Idealize.ShloMosaic.TcCoe Idealize.SL.Sem
open Cert.Kernel5Ideal Cert.Kernel5Ideal.Gen Cert.WtModel

variable (m : (ℓ : Loc nD τ sig) → Buf (Elt Ideal) ℓ) (c : Dev nD) (t : Fin cfg0.N)

theorem run_wc (y) : (outsAt0 m c t).2.1 y = wcBlk (blks m c t) y := by
  unfold outsAt0
  dsimp only
  unfold out0_A_7
  frame_out
  rfl

end Cert.WtRun
end
-- ==== Proof.WtRunLag.lean ====
/- The recurrence's block weights: a grid point's run leaves the modelled stores. Here the stores into the responses by lag. -/
module

public import proofs.«01_k».proof.Proof.WtRun

@[expose] public section

set_option maxRecDepth 100000
set_option maxHeartbeats 8000000

noncomputable section

namespace Cert.WtRun

open Idealize.ShloMosaic Idealize.ShloMosaic.TcCoe Idealize.SL.Sem
open Cert.Kernel5Ideal Cert.Kernel5Ideal.Gen Cert.WtModel

variable (m : (ℓ : Loc nD τ sig) → Buf (Elt Ideal) ℓ) (c : Dev nD) (t : Fin cfg0.N)

theorem run_tp (y) : (outsAt0 m c t).2.2.1 y = tpBlk (blks m c t) y := by
  unfold outsAt0
  dsimp only
  unfold out0_A_8
  frame_out
  rfl

end Cert.WtRun
end
-- ==== Proof.WtValue.lean ====
/- The recurrence's block weights: the five arrays that kernel and reference leave. -/
module

public import proofs.«01_k».proof.Proof.WtEntry
public import proofs.«01_k».proof.Proof.WtRunIn
public import proofs.«01_k».proof.Proof.WtRunOut
public import proofs.«01_k».proof.Proof.WtRunLag

@[expose] public section

set_option maxRecDepth 16384

noncomputable section

namespace Cert.WtValue

open Idealize.ShloMosaic Idealize.ShloMosaic.TcCoe Idealize.SL.Sem
open Idealize.ShloMosaic.Pipeline (Dat)
open Cert.Kernel5Ideal Cert.Kernel5Ideal.Gen Cert.WtModel Cert.WtSpec Cert.WtKernel Cert.WtRun Cert.WtEntry

/-- The five arrays as functions of the operands. -/
def inArr (o : Ops) : FVec Ideal S16x256x256 .bf16 := fun y => weS o (y 0) (y 1) (y 2)
def outArr (o : Ops) : FVec Ideal S16x256x256 .bf16 := fun y => wcS o (y 0) (y 1) (y 2)
def lagArr (o : Ops) : FVec Ideal S16x256x256 .bf16 := fun y => tpS o (y 0) (y 1) (y 2)
def reArr (o : Ops) : FVec Ideal S16x1x128 .f32 := fun y => (topS o (y 0) (y 2)).1
def imArr (o : Ops) : FVec Ideal S16x1x128 .f32 := fun y => (topS o (y 0) (y 2)).2

variable (m : (ℓ : Loc nD τ sig) → Buf (Elt Ideal) ℓ)

theorem result6 (c : Dev nD) : (dats m 0 c).arrAt 6 (cfgs 0).N = inArr (kops m c) := by
  refine (dats m 0 c).arrAt_eq_of_covers 6 _ (by decide +kernel) fun t _ y => ?_
  blk_simp
  rw [after0_6]
  obtain ⟨q, R, L, rfl⟩ : ∃ (q : Fin 4) (R L : Fin 256), y = ix3 q R L := ⟨y 0, y 1, y 2, by idx_vars y⟩
  have e : ((View.whole main_v10_0).slice (win0_6.rect t)).emb (ix3 q R L) = ix3 ⟨4 * t.val + q.val, by have := t_lt t; omega⟩ R L := by blk_ext [idx t]
  rw [e]
  exact (run_we m c t _).trans (we_holds (holds m c t) q _ rfl R L)

theorem result7 (c : Dev nD) : (dats m 0 c).arrAt 7 (cfgs 0).N = outArr (kops m c) := by
  refine (dats m 0 c).arrAt_eq_of_covers 7 _ (by decide +kernel) fun t _ y => ?_
  blk_simp
  rw [after0_7]
  obtain ⟨q, R, L, rfl⟩ : ∃ (q : Fin 4) (R L : Fin 256), y = ix3 q R L := ⟨y 0, y 1, y 2, by idx_vars y⟩
  have e : ((View.whole main_v10_1).slice (win0_7.rect t)).emb (ix3 q R L) = ix3 ⟨4 * t.val + q.val, by have := t_lt t; omega⟩ R L := by blk_ext [idx t]
  rw [e]
  exact (run_wc m c t _).trans (wc_holds (holds m c t) q _ rfl R L)

theorem result8 (c : Dev nD) : (dats m 0 c).arrAt 8 (cfgs 0).N = lagArr (kops m c) := by
  refine (dats m 0 c).arrAt_eq_of_covers 8 _ (by decide +kernel) fun t _ y => ?_
  blk_simp
  rw [after0_8]
  obtain ⟨q, R, L, rfl⟩ : ∃ (q : Fin 4) (R L : Fin 256), y = ix3 q R L := ⟨y 0, y 1, y 2, by idx_vars y⟩
  have e : ((View.whole main_v10_2).slice (win0_8.rect t)).emb (ix3 q R L) = ix3 ⟨4 * t.val + q.val, by have := t_lt t; omega⟩ R L := by blk_ext [idx t]
  rw [e]
  exact (run_tp m c t _).trans (tp_holds (holds m c t) q _ rfl R L)

theorem result9 (c : Dev nD) : (dats m 0 c).arrAt 9 (cfgs 0).N = reArr (kops m c) := by
  refine (dats m 0 c).arrAt_eq_of_covers 9 _ (by decide +kernel) fun t _ y => ?_
  blk_simp
  rw [after0_9]
  obtain ⟨q, l, rfl⟩ : ∃ (q : Fin 4) (l : Fin 128), y = ix3 q 0 l := ⟨y 0, y 2, by
    idx_vars y
    exact congrArg (fun z : Fin 1 => ix3 _ z _) (Subsingleton.elim _ _)⟩
  have e : ((View.whole main_v10_3).slice (win0_9.rect t)).emb (ix3 q 0 l) = ix3 ⟨4 * t.val + q.val, by have := t_lt t; omega⟩ 0 l := by blk_ext [idx t]
  rw [e]
  exact (run_re m c t _).trans (top_holds (holds m c t) q _ rfl l).1

theorem result10 (c : Dev nD) : (dats m 0 c).arrAt 10 (cfgs 0).N = imArr (kops m c) := by
  refine (dats m 0 c).arrAt_eq_of_covers 10 _ (by decide +kernel) fun t _ y => ?_
  blk_simp
  rw [after0_10]
  obtain ⟨q, l, rfl⟩ : ∃ (q : Fin 4) (l : Fin 128), y = ix3 q 0 l := ⟨y 0, y 2, by
    idx_vars y
    exact congrArg (fun z : Fin 1 => ix3 _ z _) (Subsingleton.elim _ _)⟩
  have e : ((View.whole main_v10_4).slice (win0_10.rect t)).emb (ix3 q 0 l) = ix3 ⟨4 * t.val + q.val, by have := t_lt t; omega⟩ 0 l := by blk_ext [idx t]
  rw [e]
  exact (run_im m c t _).trans (top_holds (holds m c t) q _ rfl l).2

end Cert.WtValue
end
-- ==== Proof.WtRef.lean ====
/- The reference of the recurrence's block weights, read at one position: the powers of the poles and the products with them. -/
module

public import proofs.«01_k».proof.Proof.WtSpec
public import proofs.«01_k».proof.Proof.Gen.Reference5Ideal.Run

@[expose] public section

set_option maxRecDepth 16384

noncomputable section

namespace Cert.WtRef

open Idealize.ShloMosaic Idealize.ShloMosaic.TcCoe Idealize.SL.Sem
open Cert.Reference5Ideal Cert.Reference5Ideal.Gen Cert.Reference5Ideal.Value Cert.WtSpec

variable (V : Valuation τ sig (Elt Ideal))

/-- The operands as the reference's arguments hold them. -/
abbrev rops : Ops where
  ar g p := (V (Proc.devRef .tc main_arg0) : FVec Ideal S32x64 .f32) (ix2 g p)
  ai g p := (V (Proc.devRef .tc main_arg1) : FVec Ideal S32x64 .f32) (ix2 g p)
  br g c p := (V (Proc.devRef .tc main_arg2) : FVec Ideal S32x64x16 .f32) (ix3 g p c)
  bi g c p := (V (Proc.devRef .tc main_arg3) : FVec Ideal S32x64x16 .f32) (ix3 g p c)
  cr g c p := (V (Proc.devRef .tc main_arg4) : FVec Ideal S32x16x64 .f32) (ix3 g c p)
  ci g c p := (V (Proc.devRef .tc main_arg5) : FVec Ideal S32x16x64 .f32) (ix3 g c p)

/-- A pole's power. -/
abbrev zz (g : Fin 32) (p : Fin 64) (k : ℕ) : EReal × EReal := zp ((rops V).ar g p) ((rops V).ai g p) k

variable (g : Fin 32) (p : Fin 64)

/-- One more factor. -/
theorem step (x y : FVec Ideal S32x64 .f32) (k : ℕ) (hx : (x (ix2 g p) : EReal) = (zz V g p k).1) (hy : (y (ix2 g p) : EReal) = (zz V g p k).2) :
    ((subf (mulf x (V (Proc.devRef .tc main_arg0) : FVec Ideal S32x64 .f32)) (mulf y (V (Proc.devRef .tc main_arg1) : FVec Ideal S32x64 .f32)) : FVec Ideal S32x64 .f32) (ix2 g p) : EReal) = (zz V g p (k + 1)).1
    ∧ ((addf (mulf x (V (Proc.devRef .tc main_arg1) : FVec Ideal S32x64 .f32)) (mulf y (V (Proc.devRef .tc main_arg0) : FVec Ideal S32x64 .f32)) : FVec Ideal S32x64 .f32) (ix2 g p) : EReal) = (zz V g p (k + 1)).2 := by
  simp only [zz, zp] at hx hy ⊢
  rw [← hx, ← hy]
  exact ⟨rfl, rfl⟩

theorem pw0 : (res_main_v0 (F := Ideal) V (ix2 g p) : EReal) = (zz V g p 0).1 ∧ (res_main_v1 (F := Ideal) V (ix2 g p) : EReal) = (zz V g p 0).2 := by
  constructor <;> pointwise [res_main_v0, res_main_v1, zz, zp]

theorem pw1 : (res_main_v4 (F := Ideal) V (ix2 g p) : EReal) = (zz V g p 1).1 ∧ (res_main_v7 (F := Ideal) V (ix2 g p) : EReal) = (zz V g p 1).2 :=
  step V g p _ _ 0 (pw0 V g p).1 (pw0 V g p).2
theorem pw2 : (res_main_v10 (F := Ideal) V (ix2 g p) : EReal) = (zz V g p 2).1 ∧ (res_main_v13 (F := Ideal) V (ix2 g p) : EReal) = (zz V g p 2).2 :=
  step V g p _ _ 1 (pw1 V g p).1 (pw1 V g p).2
theorem pw3 : (res_main_v16 (F := Ideal) V (ix2 g p) : EReal) = (zz V g p 3).1 ∧ (res_main_v19 (F := Ideal) V (ix2 g p) : EReal) = (zz V g p 3).2 :=
  step V g p _ _ 2 (pw2 V g p).1 (pw2 V g p).2
theorem pw4 : (res_main_v22 (F := Ideal) V (ix2 g p) : EReal) = (zz V g p 4).1 ∧ (res_main_v25 (F := Ideal) V (ix2 g p) : EReal) = (zz V g p 4).2 :=
  step V g p _ _ 3 (pw3 V g p).1 (pw3 V g p).2
theorem pw5 : (res_main_v28 (F := Ideal) V (ix2 g p) : EReal) = (zz V g p 5).1 ∧ (res_main_v31 (F := Ideal) V (ix2 g p) : EReal) = (zz V g p 5).2 :=
  step V g p _ _ 4 (pw4 V g p).1 (pw4 V g p).2
theorem pw6 : (res_main_v34 (F := Ideal) V (ix2 g p) : EReal) = (zz V g p 6).1 ∧ (res_main_v37 (F := Ideal) V (ix2 g p) : EReal) = (zz V g p 6).2 :=
  step V g p _ _ 5 (pw5 V g p).1 (pw5 V g p).2
theorem pw7 : (res_main_v40 (F := Ideal) V (ix2 g p) : EReal) = (zz V g p 7).1 ∧ (res_main_v43 (F := Ideal) V (ix2 g p) : EReal) = (zz V g p 7).2 :=
  step V g p _ _ 6 (pw6 V g p).1 (pw6 V g p).2

/-- The stacked powers. -/
theorem pow_re (k : Fin 9) : (res_main_v59 (F := Ideal) V (ix3 k g p) : EReal) = (zz V g p k.val).1 := by
  have h0 := (pw0 V g p).1; have h1 := (pw1 V g p).1; have h2 := (pw2 V g p).1; have h3 := (pw3 V g p).1; have h4 := (pw4 V g p).1
  have h5 := (pw5 V g p).1; have h6 := (pw6 V g p).1; have h7 := (pw7 V g p).1
  have h8 := (step V g p _ _ 7 (pw7 V g p).1 (pw7 V g p).2).1
  unfold res_main_v59
  fin_cases k
  · refine Eq.trans ?_ h0; pointwise []
  · refine Eq.trans ?_ h1; pointwise []
  · refine Eq.trans ?_ h2; pointwise []
  · refine Eq.trans ?_ h3; pointwise []
  · refine Eq.trans ?_ h4; pointwise []
  · refine Eq.trans ?_ h5; pointwise []
  · refine Eq.trans ?_ h6; pointwise []
  · refine Eq.trans ?_ h7; pointwise []
  · refine Eq.trans ?_ h8; pointwise []

theorem pow_im (k : Fin 9) : (res_main_v69 (F := Ideal) V (ix3 k g p) : EReal) = (zz V g p k.val).2 := by
  have h0 := (pw0 V g p).2; have h1 := (pw1 V g p).2; have h2 := (pw2 V g p).2; have h3 := (pw3 V g p).2; have h4 := (pw4 V g p).2
  have h5 := (pw5 V g p).2; have h6 := (pw6 V g p).2; have h7 := (pw7 V g p).2
  have h8 := (step V g p _ _ 7 (pw7 V g p).1 (pw7 V g p).2).2
  unfold res_main_v69
  fin_cases k
  · refine Eq.trans ?_ h0; pointwise []
  · refine Eq.trans ?_ h1; pointwise []
  · refine Eq.trans ?_ h2; pointwise []
  · refine Eq.trans ?_ h3; pointwise []
  · refine Eq.trans ?_ h4; pointwise []
  · refine Eq.trans ?_ h5; pointwise []
  · refine Eq.trans ?_ h6; pointwise []
  · refine Eq.trans ?_ h7; pointwise []
  · refine Eq.trans ?_ h8; pointwise []

/-- Two matrices' rows times two of the stacks of powers. -/
abbrev along (X : FVec Ideal S8x32x64 .f32) : FVec Ideal S8x32x16x64 .f32 :=
  broadcastInDim S8x32x16x64 ![0, 1, 2, 3] bcast_S8x32x1x64_S8x32x16x64_0_1_2_3 (broadcastInDim S8x32x1x64 ![0, 1, 3] bcast_S8x32x64_S8x32x1x64_0_1_3 X)
abbrev each (A : FVec Ideal S32x16x64 .f32) : FVec Ideal S8x32x16x64 .f32 :=
  broadcastInDim S8x32x16x64 ![0, 1, 2, 3] bcast_S1x32x16x64_S8x32x16x64_0_1_2_3 (broadcastInDim S1x32x16x64 ![1, 2, 3] bcast_S32x16x64_S1x32x16x64_1_2_3 A)

variable (A B : FVec Ideal S32x16x64 .f32) (X Y : FVec Ideal S8x32x64 .f32) (Z : FVec Ideal S9x32x64 .f32) (k : Fin 8) (c : Fin 16)

theorem prod_sub : (subf (mulf (each A) (along X)) (mulf (each B) (along Y)) (ix4 k g c p) : EReal)
    = (A (ix3 g c p) : EReal) * X (ix3 k g p) - (B (ix3 g c p) : EReal) * Y (ix3 k g p) := by
  pointwise []

theorem prod_add : (addf (mulf (each A) (along X)) (mulf (each B) (along Y)) (ix4 k g c p) : EReal)
    = (A (ix3 g c p) : EReal) * X (ix3 k g p) + (B (ix3 g c p) : EReal) * Y (ix3 k g p) := by
  pointwise []

theorem cut0 : extractStridedSlice S8x32x64 ![0, 0, 0] Z slices_S9x32x64_S8x32x64_0_0_0 (ix3 k g p) = Z (ix3 ⟨k.val, by omega⟩ g p) := by
  pointwise []

theorem cut1 : extractStridedSlice S8x32x64 ![1, 0, 0] Z slices_S9x32x64_S8x32x64_1_0_0 (ix3 k g p) = Z (ix3 ⟨1 + k.val, by omega⟩ g p) := by
  pointwise []

theorem bt (X : FVec Ideal S32x64x16 .f32) :
    transpose S32x16x64 [0, 2, 1] X transposes_S32x64x16_S32x16x64_0_2_1 (ix3 g c p) = X (ix3 g p c) := by
  pointwise []

/-- A product of complex numbers, from its parts. -/
theorem cm_sub (a b x y u v : EReal) (z : EReal × EReal) (ha : a = u) (hb : b = v) (hx : x = z.1) (hy : y = z.2) : a * x - b * y = (cmul u v z).1 := by
  subst ha hb hx hy; rfl
theorem cm_add (a b x y u v : EReal) (z : EReal × EReal) (ha : a = u) (hb : b = v) (hx : x = z.1) (hy : y = z.2) : a * y + b * x = (cmul u v z).2 := by
  subst ha hb hx hy; rfl

/-- The inputs times the powers. -/
theorem in_re : (res_main_v84 (F := Ideal) V (ix4 k g c p) : EReal) = (inV (rops V) k.val g c p).1 :=
  (prod_sub g p _ _ _ _ k c).trans (cm_sub _ _ _ _ _ _ _ (bt g p c _) (bt g p c _) ((cut0 g p _ k).trans (pow_re V g p _)) ((cut0 g p _ k).trans (pow_im V g p _)))

theorem in_im : (res_main_v97 (F := Ideal) V (ix4 k g c p) : EReal) = (inV (rops V) k.val g c p).2 :=
  (prod_add g p _ _ _ _ k c).trans (cm_add _ _ _ _ _ _ _ (bt g p c _) (bt g p c _) ((cut0 g p _ k).trans (pow_re V g p _)) ((cut0 g p _ k).trans (pow_im V g p _)))

/-- The outputs times the powers, one step more. -/
abbrev outRe : FVec Ideal S8x32x16x64 .f32 :=
  subf (mulf (each (V (Proc.devRef .tc main_arg4))) (along (extractStridedSlice S8x32x64 ![1, 0, 0] (res_main_v59 (F := Ideal) V) slices_S9x32x64_S8x32x64_1_0_0)))
    (mulf (each (V (Proc.devRef .tc main_arg5))) (along (extractStridedSlice S8x32x64 ![1, 0, 0] (res_main_v69 (F := Ideal) V) slices_S9x32x64_S8x32x64_1_0_0)))
abbrev outIm : FVec Ideal S8x32x16x64 .f32 :=
  addf (mulf (each (V (Proc.devRef .tc main_arg4))) (along (extractStridedSlice S8x32x64 ![1, 0, 0] (res_main_v69 (F := Ideal) V) slices_S9x32x64_S8x32x64_1_0_0)))
    (mulf (each (V (Proc.devRef .tc main_arg5))) (along (extractStridedSlice S8x32x64 ![1, 0, 0] (res_main_v59 (F := Ideal) V) slices_S9x32x64_S8x32x64_1_0_0)))

theorem out_re : (outRe V (ix4 k g c p) : EReal) = (outV (rops V) (1 + k.val) g c p).1 :=
  (prod_sub g p _ _ _ _ k c).trans (cm_sub _ _ _ _ _ _ _ rfl rfl ((cut1 g p _ k).trans (pow_re V g p _)) ((cut1 g p _ k).trans (pow_im V g p _)))

theorem out_im : (outIm V (ix4 k g c p) : EReal) = (outV (rops V) (1 + k.val) g c p).2 :=
  (prod_add g p _ _ _ _ k c).trans (cm_add _ _ _ _ _ _ _ rfl rfl ((cut1 g p _ k).trans (pow_re V g p _)) ((cut1 g p _ k).trans (pow_im V g p _)))

/-- The sums over the states for each pair of channels. -/
theorem tap_dot (C D : FVec Ideal S32x16x64 .f32) (P Q : FVec Ideal S8x32x16x64 .f32) (d : Fin 16) :
    (subf (transpose S8x32x16x16 [2, 0, 3, 1] (Host.dotGeneral dot_S32x16x64_S8x32x16x64_S32x16x8x16_2_3_1_02_0_1 none C P) transposes_S32x16x8x16_S8x32x16x16_2_0_3_1)
      (transpose S8x32x16x16 [2, 0, 3, 1] (Host.dotGeneral dot_S32x16x64_S8x32x16x64_S32x16x8x16_2_3_1_02_0_1 none D Q) transposes_S32x16x8x16_S8x32x16x16_2_0_3_1) (ix4 k g c d) : EReal)
      = (∑ p : Fin 64, (P (ix4 k g c p) : EReal) * C (ix3 g d p)) - ∑ p : Fin 64, (Q (ix4 k g c p) : EReal) * D (ix3 g d p) := by
  have e : ∀ (C : FVec Ideal S32x16x64 .f32) (P : FVec Ideal S8x32x16x64 .f32), (∑ p : Fin 64, (P (ix4 k g c p) : EReal) * C (ix3 g d p))
      = ∑ p : Fin 64, (C (ix3 g d p) : EReal) * P (ix4 k g c p) := fun C P => Finset.sum_congr rfl fun p _ => mul_comm _ _
  rw [e, e]
  pointwise []

/-- The responses. -/
abbrev taps : FVec Ideal S8x32x16x16 .f32 :=
  subf (transpose S8x32x16x16 [2, 0, 3, 1] (Host.dotGeneral (φ₁ := .f32) (φ₂ := .f32) dot_S32x16x64_S8x32x16x64_S32x16x8x16_2_3_1_02_0_1 none (V (Proc.devRef .tc main_arg4)) (res_main_v84 (F := Ideal) V)) transposes_S32x16x8x16_S8x32x16x16_2_0_3_1)
    (transpose S8x32x16x16 [2, 0, 3, 1] (Host.dotGeneral (φ₁ := .f32) (φ₂ := .f32) dot_S32x16x64_S8x32x16x64_S32x16x8x16_2_3_1_02_0_1 none (V (Proc.devRef .tc main_arg5)) (res_main_v97 (F := Ideal) V)) transposes_S32x16x8x16_S8x32x16x16_2_0_3_1)

theorem tap_at (d : Fin 16) : (taps V (ix4 k g c d) : EReal) = tapV (rops V) k.val g c d := by
  refine (tap_dot g k c _ _ _ _ d).trans ?_
  simp only [tapV, in_re, in_im]

end Cert.WtRef
end
-- ==== Proof.WtRefRow.lean ====
/- The reference's layout of the recurrence's block weights: two groups on the diagonal of a block, the steps as rows, the responses by lag. -/
module

public import proofs.«01_k».proof.Proof.WtRef

@[expose] public section

set_option maxRecDepth 16384
set_option maxHeartbeats 1000000

noncomputable section

namespace Cert.WtRef

open Idealize.ShloMosaic Idealize.ShloMosaic.TcCoe Idealize.SL.Sem
open Cert.Reference5Ideal Cert.Reference5Ideal.Gen Cert.WtSpec

/-- Two groups on the diagonal: the real parts, then the imaginary parts. -/
abbrev two (x y : FVec Ideal S8x16x2x16x64 .f32) (z : FVec Ideal S8x16x16x64 .f32) : FVec Ideal S8x16x32x256 .f32 :=
  (concatenate S8x16x32x256 2 [⟨S8x16x16x256, ((concatenate S8x16x16x256 3 [⟨S8x16x16x64, ((shapeCast _ (extractStridedSlice S8x16x1x16x64 ![0, 0, 0, 0, 0] x slices_S8x16x2x16x64_S8x16x1x16x64_0_0_0_0_0) shapeCasts_S8x16x1x16x64_S8x16x16x64) : (⟨S8x16x16x64, .f32⟩ : BufTy).Contents (Elt Ideal))⟩, ⟨S8x16x16x64, (z : (⟨S8x16x16x64, .f32⟩ : BufTy).Contents (Elt Ideal))⟩, ⟨S8x16x16x64, ((shapeCast _ (extractStridedSlice S8x16x1x16x64 ![0, 0, 0, 0, 0] y slices_S8x16x2x16x64_S8x16x1x16x64_0_0_0_0_0) shapeCasts_S8x16x1x16x64_S8x16x16x64) : (⟨S8x16x16x64, .f32⟩ : BufTy).Contents (Elt Ideal))⟩, ⟨S8x16x16x64, (z : (⟨S8x16x16x64, .f32⟩ : BufTy).Contents (Elt Ideal))⟩] concatenates_S8x16x16x64_S8x16x16x64_S8x16x16x64_S8x16x16x64_S8x16x16x256_d3 : (⟨S8x16x16x256, .f32⟩ : BufTy).Contents (Elt Ideal)))⟩, ⟨S8x16x16x256, ((concatenate S8x16x16x256 3 [⟨S8x16x16x64, (z : (⟨S8x16x16x64, .f32⟩ : BufTy).Contents (Elt Ideal))⟩, ⟨S8x16x16x64, ((shapeCast _ (extractStridedSlice S8x16x1x16x64 ![0, 0, 1, 0, 0] x slices_S8x16x2x16x64_S8x16x1x16x64_0_0_1_0_0) shapeCasts_S8x16x1x16x64_S8x16x16x64) : (⟨S8x16x16x64, .f32⟩ : BufTy).Contents (Elt Ideal))⟩, ⟨S8x16x16x64, (z : (⟨S8x16x16x64, .f32⟩ : BufTy).Contents (Elt Ideal))⟩, ⟨S8x16x16x64, ((shapeCast _ (extractStridedSlice S8x16x1x16x64 ![0, 0, 1, 0, 0] y slices_S8x16x2x16x64_S8x16x1x16x64_0_0_1_0_0) shapeCasts_S8x16x1x16x64_S8x16x16x64) : (⟨S8x16x16x64, .f32⟩ : BufTy).Contents (Elt Ideal))⟩] concatenates_S8x16x16x64_S8x16x16x64_S8x16x16x64_S8x16x16x64_S8x16x16x256_d3 : (⟨S8x16x16x256, .f32⟩ : BufTy).Contents (Elt Ideal)))⟩] concatenates_S8x16x16x256_S8x16x16x256_S8x16x32x256_d2)

/-- The steps and channels as rows. -/
abbrev rows (X : FVec Ideal S8x16x32x256 .f32) : FVec Ideal S16x256x256 .bf16 :=
  truncf .bf16 (shapeCast S16x256x256 (transpose S16x8x32x256 [1, 0, 2, 3] X transposes_S8x16x32x256_S16x8x32x256_1_0_2_3) shapeCasts_S16x8x32x256_S16x256x256) bitsLt_bf16_f32

/-- Eight zeros, then the responses with two groups on the diagonal. -/
abbrev lags (T : FVec Ideal S8x16x2x16x16 .f32) (z : FVec Ideal S8x16x16x16 .f32) : FVec Ideal S16x16x32x32 .f32 :=
  concatenate S16x16x32x32 0 [⟨S8x16x32x32, (broadcastInDim S8x16x32x32 ![] bcast_S_S8x16x32x32 (constant S_ .f32 0x00000000#32))⟩, ⟨S8x16x32x32, (concatenate S8x16x32x32 2 [⟨S8x16x16x32, (concatenate S8x16x16x32 3 [⟨S8x16x16x16, (shapeCast _ (extractStridedSlice S8x16x1x16x16 ![0, 0, 0, 0, 0] T slices_S8x16x2x16x16_S8x16x1x16x16_0_0_0_0_0) shapeCasts_S8x16x1x16x16_S8x16x16x16)⟩, ⟨S8x16x16x16, z⟩] concatenates_S8x16x16x16_S8x16x16x16_S8x16x16x32_d3)⟩, ⟨S8x16x16x32, (concatenate S8x16x16x32 3 [⟨S8x16x16x16, z⟩, ⟨S8x16x16x16, (shapeCast _ (extractStridedSlice S8x16x1x16x16 ![0, 0, 1, 0, 0] T slices_S8x16x2x16x16_S8x16x1x16x16_0_0_1_0_0) shapeCasts_S8x16x1x16x16_S8x16x16x16)⟩] concatenates_S8x16x16x16_S8x16x16x16_S8x16x16x32_d3)⟩] concatenates_S8x16x16x32_S8x16x16x32_S8x16x32x32_d2)⟩] concatenates_S8x16x32x32_S8x16x32x32_S16x16x32x32_d0

/-- For each step the responses from it on. -/
abbrev toep (G : FVec Ideal S16x16x32x32 .f32) : FVec Ideal S16x256x256 .bf16 :=
  truncf .bf16 (shapeCast _ (transpose S16x8x32x8x32 [2, 0, 3, 1, 4] ((concatenate S8x8x16x32x32 0 [⟨S1x8x16x32x32, ((broadcastInDim S1x8x16x32x32 ![1, 2, 3, 4] bcast_S8x16x32x32_S1x8x16x32x32_1_2_3_4 (extractStridedSlice S8x16x32x32 ![8, 0, 0, 0] G slices_S16x16x32x32_S8x16x32x32_8_0_0_0)) : (⟨S1x8x16x32x32, .f32⟩ : BufTy).Contents (Elt Ideal))⟩, ⟨S1x8x16x32x32, ((broadcastInDim S1x8x16x32x32 ![1, 2, 3, 4] bcast_S8x16x32x32_S1x8x16x32x32_1_2_3_4 (extractStridedSlice S8x16x32x32 ![7, 0, 0, 0] G slices_S16x16x32x32_S8x16x32x32_7_0_0_0)) : (⟨S1x8x16x32x32, .f32⟩ : BufTy).Contents (Elt Ideal))⟩, ⟨S1x8x16x32x32, ((broadcastInDim S1x8x16x32x32 ![1, 2, 3, 4] bcast_S8x16x32x32_S1x8x16x32x32_1_2_3_4 (extractStridedSlice S8x16x32x32 ![6, 0, 0, 0] G slices_S16x16x32x32_S8x16x32x32_6_0_0_0)) : (⟨S1x8x16x32x32, .f32⟩ : BufTy).Contents (Elt Ideal))⟩, ⟨S1x8x16x32x32, ((broadcastInDim S1x8x16x32x32 ![1, 2, 3, 4] bcast_S8x16x32x32_S1x8x16x32x32_1_2_3_4 (extractStridedSlice S8x16x32x32 ![5, 0, 0, 0] G slices_S16x16x32x32_S8x16x32x32_5_0_0_0)) : (⟨S1x8x16x32x32, .f32⟩ : BufTy).Contents (Elt Ideal))⟩, ⟨S1x8x16x32x32, ((broadcastInDim S1x8x16x32x32 ![1, 2, 3, 4] bcast_S8x16x32x32_S1x8x16x32x32_1_2_3_4 (extractStridedSlice S8x16x32x32 ![4, 0, 0, 0] G slices_S16x16x32x32_S8x16x32x32_4_0_0_0)) : (⟨S1x8x16x32x32, .f32⟩ : BufTy).Contents (Elt Ideal))⟩, ⟨S1x8x16x32x32, ((broadcastInDim S1x8x16x32x32 ![1, 2, 3, 4] bcast_S8x16x32x32_S1x8x16x32x32_1_2_3_4 (extractStridedSlice S8x16x32x32 ![3, 0, 0, 0] G slices_S16x16x32x32_S8x16x32x32_3_0_0_0)) : (⟨S1x8x16x32x32, .f32⟩ : BufTy).Contents (Elt Ideal))⟩, ⟨S1x8x16x32x32, ((broadcastInDim S1x8x16x32x32 ![1, 2, 3, 4] bcast_S8x16x32x32_S1x8x16x32x32_1_2_3_4 (extractStridedSlice S8x16x32x32 ![2, 0, 0, 0] G slices_S16x16x32x32_S8x16x32x32_2_0_0_0)) : (⟨S1x8x16x32x32, .f32⟩ : BufTy).Contents (Elt Ideal))⟩, ⟨S1x8x16x32x32, ((broadcastInDim S1x8x16x32x32 ![1, 2, 3, 4] bcast_S8x16x32x32_S1x8x16x32x32_1_2_3_4 (extractStridedSlice S8x16x32x32 ![1, 0, 0, 0] G slices_S16x16x32x32_S8x16x32x32_1_0_0_0)) : (⟨S1x8x16x32x32, .f32⟩ : BufTy).Contents (Elt Ideal))⟩] concatenates_S1x8x16x32x32_S1x8x16x32x32_S1x8x16x32x32_S1x8x16x32x32_S1x8x16x32x32_S1x8x16x32x32_S1x8x16x32x32_S1x8x16x32x32_S8x8x16x32x32_d0 : (⟨S8x8x16x32x32, .f32⟩ : BufTy).Contents (Elt Ideal))) transposes_S8x8x16x32x32_S16x8x32x8x32_2_0_3_1_4) shapeCasts_S16x8x32x8x32_S16x256x256) bitsLt_bf16_f32

theorem rows_at (X : FVec Ideal S8x16x32x256 .f32) (b : Fin 16) (R L : Fin 256) :
    (rows X (ix3 b R L) : EReal) = X (ix4 ⟨R.val / 32, by omega⟩ b ⟨R.val % 32, by omega⟩ L) := by
  pointwise []

/-- The groups in pairs. -/
theorem pair_at (X : FVec Ideal S8x32x16x64 .f32) (k : Fin 8) (b : Fin 16) (γ : Fin 2) (r : Fin 16) (l : Fin 64) :
    shapeCast S8x16x2x16x64 X shapeCasts_S8x32x16x64_S8x16x2x16x64 (ix5 k b γ r l) = X (ix4 k ⟨2 * b.val + γ.val, by omega⟩ r l) := by
  pointwise []
  exact congrArg (fun g => X (ix4 k g r l)) (Fin.ext (by simp only []; omega))

theorem pair_at' (X : FVec Ideal S8x32x16x16 .f32) (k : Fin 8) (b : Fin 16) (γ : Fin 2) (r : Fin 16) (l : Fin 16) :
    shapeCast S8x16x2x16x16 X shapeCasts_S8x32x16x16_S8x16x2x16x16 (ix5 k b γ r l) = X (ix4 k ⟨2 * b.val + γ.val, by omega⟩ r l) := by
  pointwise []
  exact congrArg (fun g => X (ix4 k g r l)) (Fin.ext (by simp only []; omega))

/-- The steps from the last. -/
theorem rev_at (X : FVec Ideal S8x32x16x64 .f32) (k : Fin 8) (g : Fin 32) (r : Fin 16) (l : Fin 64) :
    Host.reverse [0] X (ix4 k g r l) = X (ix4 ⟨7 - k.val, by omega⟩ g r l) := by
  pointwise []
  refine Eq.trans (b := X (ix4 k.rev g r l)) (by simp) (congrArg (fun k => X (ix4 k g r l)) (Fin.ext ?_))
  simp only [Fin.val_rev]
  omega

theorem at5 {n : ℕ} (x : FVec Ideal ⟨5, ![8, 16, 2, 16, n]⟩ .f32) (k : Fin 8) (b : Fin 16) (γ γ' : Fin 2) (r r' : Fin 16) (l l' : Fin n)
    (h1 : γ.val = γ'.val) (h2 : r.val = r'.val) (h3 : l.val = l'.val) : x (ix5 k b γ r l) = x (ix5 k b γ' r' l') := by
  obtain rfl := Fin.ext h1
  obtain rfl := Fin.ext h2
  obtain rfl := Fin.ext h3
  rfl

variable (x y : FVec Ideal S8x16x2x16x64 .f32) (z : FVec Ideal S8x16x16x64 .f32) (hz : ∀ i, (z i : EReal) = 0)
  (k : Fin 8) (b : Fin 16) (r : Fin 32) (l : Fin 256)

include hz in
theorem two_at : (two x y z (ix4 k b r l) : EReal)
    = if r.val / 16 = l.val % 128 / 64 then
        (if l.val < 128 then x (ix5 k b ⟨r.val / 16, by omega⟩ ⟨r.val % 16, by omega⟩ ⟨l.val % 64, by omega⟩)
          else y (ix5 k b ⟨r.val / 16, by omega⟩ ⟨r.val % 16, by omega⟩ ⟨l.val % 64, by omega⟩))
      else 0 := by
  pointwise [hz]
  split_ifs <;>
    first
      | rfl
      | omega
      | (rw [if_neg (show ¬r.val / 16 = l.val % 128 / 64 by omega)]; done)
      | (rw [if_pos (show r.val / 16 = l.val % 128 / 64 by omega), if_pos (show l.val < 128 by omega)]; refine at5 _ _ _ _ _ _ _ _ _ ?_ ?_ ?_ <;> first | (dsimp only; omega) | (simp; omega))
      | (rw [if_pos (show r.val / 16 = l.val % 128 / 64 by omega), if_neg (show ¬l.val < 128 by omega)]; refine at5 _ _ _ _ _ _ _ _ _ ?_ ?_ ?_ <;> first | (dsimp only; omega) | (simp; omega))
      | (refine at5 _ _ _ _ _ _ _ _ _ ?_ ?_ ?_ <;> first | (dsimp only; omega) | (simp; omega))

/-- The layout of pairs of arrays of one row for each step, group and channel. -/
theorem rows_two (X Y : FVec Ideal S8x32x16x64 .f32) (b : Fin 16) (R L : Fin 256) :
    (rows (two (shapeCast S8x16x2x16x64 X shapeCasts_S8x32x16x64_S8x16x2x16x64) (shapeCast S8x16x2x16x64 Y shapeCasts_S8x32x16x64_S8x16x2x16x64)
        (broadcastInDim S8x16x16x64 ![] bcast_S_S8x16x16x64 (constant S_ .f32 0x00000000#32))) (ix3 b R L) : EReal)
      = if R.val % 32 / 16 = L.val % 128 / 64 then
          (if L.val < 128 then X (ix4 ⟨R.val / 32, by omega⟩ (grp b R.val) (plc R.val) (sta L.val))
            else Y (ix4 ⟨R.val / 32, by omega⟩ (grp b R.val) (plc R.val) (sta L.val)))
        else 0 := by
  refine (rows_at _ b R L).trans ((two_at _ _ _ (fun i => by pointwise []) _ b _ L).trans ?_)
  have h : R.val % 32 % 16 = R.val % 16 := by omega
  simp only [pair_at, h]

theorem ref_we (V : Valuation τ sig (Elt Ideal)) (b : Fin 16) (R L : Fin 256) :
    (rows (two (Value.res_main_v164 (F := Ideal) V) (Value.res_main_v165 (F := Ideal) V) (Value.res_main_v168 (F := Ideal) V)) (ix3 b R L) : EReal)
      = weS (rops V) b R L := by
  refine (rows_two (Host.reverse [0] (Value.res_main_v84 (F := Ideal) V)) (Host.reverse [0] (Value.res_main_v97 (F := Ideal) V)) b R L).trans ?_
  rw [rev_at, rev_at, in_re, in_im]
  rfl

theorem ref_wc (V : Valuation τ sig (Elt Ideal)) (b : Fin 16) (R L : Fin 256) :
    (rows (two (Value.res_main_v184 (F := Ideal) V) (Value.res_main_v185 (F := Ideal) V) (Value.res_main_v188 (F := Ideal) V)) (ix3 b R L) : EReal)
      = wcS (rops V) b R L := by
  refine (rows_two (outRe V) (Host.negf (outIm V)) b R L).trans ?_
  have e : ∀ j, (Host.negf (outIm V) j : EReal) = -(outIm V j) := fun j => rfl
  rw [e, out_re, out_im]
  simp only [wcS, Nat.add_comm 1]

theorem lags_at (T : FVec Ideal S8x16x2x16x16 .f32) (z : FVec Ideal S8x16x16x16 .f32) (hz : ∀ i, (z i : EReal) = 0) (n : Fin 16) (b : Fin 16) (r c : Fin 32) :
    (lags T z (ix4 n b r c) : EReal) = if h : n.val < 8 then 0 else
      if r.val / 16 = c.val / 16 then T (ix5 ⟨n.val - 8, by omega⟩ b ⟨r.val / 16, by omega⟩ ⟨r.val % 16, by omega⟩ ⟨c.val % 16, by omega⟩) else 0 := by
  pointwise [hz]
  split_ifs <;>
    first
      | rfl
      | omega
      | (rw [dif_neg (show ¬n.val < 8 by omega), if_neg (show ¬r.val / 16 = c.val / 16 by omega)]; done)
      | (rw [dif_neg (show ¬n.val < 8 by omega), if_pos (show r.val / 16 = c.val / 16 by omega)]; refine at5 _ _ _ _ _ _ _ _ _ ?_ ?_ ?_ <;> first | (dsimp only; omega) | (simp; omega))
      | (rw [if_neg (show ¬r.val / 16 = c.val / 16 by omega)]; done)
      | (rw [if_pos (show r.val / 16 = c.val / 16 by omega)]; refine at5 _ _ _ _ _ _ _ _ _ ?_ ?_ ?_ <;> first | (dsimp only; omega) | (simp; omega))
      | (refine at5 _ _ _ _ _ _ _ _ _ ?_ ?_ ?_ <;> first | (dsimp only; omega) | (simp; omega))

theorem toep_at (G : FVec Ideal S16x16x32x32 .f32) (b : Fin 16) (R C : Fin 256) :
    (toep G (ix3 b R C) : EReal) = G (ix4 ⟨8 - R.val / 32 + C.val / 32, by omega⟩ b ⟨R.val % 32, by omega⟩ ⟨C.val % 32, by omega⟩) := by
  pointwise []
  split_ifs <;> exact congrArg (fun n => G (ix4 n b ⟨R.val % 32, by omega⟩ ⟨C.val % 32, by omega⟩)) (Fin.ext (by dsimp only; omega))

theorem ref_tp (V : Valuation τ sig (Elt Ideal)) (b : Fin 16) (R C : Fin 256) :
    (toep (Value.res_main_v141 (F := Ideal) V) (ix3 b R C) : EReal) = tpS (rops V) b R C := by
  refine (toep_at _ b R C).trans ((lags_at (shapeCast S8x16x2x16x16 (taps V) shapeCasts_S8x32x16x16_S8x16x2x16x16) _
    (fun i => by pointwise [Value.res_main_v133]) _ b _ _).trans ?_)
  have h1 : R.val % 32 % 16 = R.val % 16 := by omega
  have h2 : C.val % 32 % 16 = C.val % 16 := by omega
  unfold tpS
  by_cases h : R.val / 32 ≤ C.val / 32
  · have h3 : 8 - R.val / 32 + C.val / 32 - 8 = C.val / 32 - R.val / 32 := by omega
    rw [dif_neg (by dsimp only; omega), if_pos h]
    simp only [pair_at', tap_at, h1, h2, h3]
  · rw [dif_pos (by dsimp only; omega), if_neg h]

/-- The last of the powers, two groups in a row. -/
theorem last_at (Z : FVec Ideal S9x32x64 .f32) (b : Fin 16) (l : Fin 128) :
    shapeCast S16x1x128 (shapeCast S32x64 (extractStridedSlice S1x32x64 ![8, 0, 0] Z slices_S9x32x64_S1x32x64_8_0_0) shapeCasts_S1x32x64_S32x64) shapeCasts_S32x64_S16x1x128
      (ix3 b 0 l) = Z (ix3 8 ⟨2 * b.val + l.val / 64, by omega⟩ (sta l.val)) := by
  pointwise []
  exact congrArg (fun g => Z (ix3 8 g (sta l.val))) (Fin.ext (by dsimp only; omega))

end Cert.WtRef
end
-- ==== Proof.WtMeet.lean ====
/- The recurrence's block weights: what the reference leaves is the same five arrays of the same operands. -/
module

public import proofs.«01_k».proof.Proof.WtValue
public import proofs.«01_k».proof.Proof.WtRefRow

@[expose] public section

set_option maxRecDepth 16384

noncomputable section

namespace Cert.WtMeet

open Idealize.ShloMosaic Idealize.ShloMosaic.TcCoe Idealize.SL.Sem Idealize.ShloMosaic.StableHlo
open Cert.Reference5Ideal Cert.Reference5Ideal.Gen Cert.Reference5Ideal.Value Cert.WtSpec Cert.WtRef Cert.WtValue

theorem ops_congr {x0 x0' x1 x1' : FVec Ideal S32x64 .f32} {x2 x2' x3 x3' : FVec Ideal S32x64x16 .f32} {x4 x4' x5 x5' : FVec Ideal S32x16x64 .f32}
    (h0 : x0 = x0') (h1 : x1 = x1') (h2 : x2 = x2') (h3 : x3 = x3') (h4 : x4 = x4') (h5 : x5 = x5') :
    Cert.WtEntry.ops x0 x1 x2 x3 x4 x5 = Cert.WtEntry.ops x0' x1' x2' x3' x4' x5' := by
  subst h0 h1 h2 h3 h4 h5
  rfl

/-- The reference's operands are its arguments at the start. -/
theorem rops_launch (m : (ℓ : Loc nD τ sig) → Buf (Elt Ideal) ℓ) (c : Dev nD) {x0 x1 : FVec Ideal S32x64 .f32} {x2 x3 : FVec Ideal S32x64x16 .f32}
    {x4 x5 : FVec Ideal S32x16x64 .f32}
    (h0 : m ((c.tc : Thread nD τ).loc main_arg0) = x0) (h1 : m ((c.tc : Thread nD τ).loc main_arg1) = x1) (h2 : m ((c.tc : Thread nD τ).loc main_arg2) = x2)
    (h3 : m ((c.tc : Thread nD τ).loc main_arg3) = x3) (h4 : m ((c.tc : Thread nD τ).loc main_arg4) = x4) (h5 : m ((c.tc : Thread nD τ).loc main_arg5) = x5) :
    rops (launchContents m c) = Cert.WtEntry.ops x0 x1 x2 x3 x4 x5 :=
  ops_congr ((launchContents_devRef m c main_arg0).trans h0) ((launchContents_devRef m c main_arg1).trans h1) ((launchContents_devRef m c main_arg2).trans h2)
    ((launchContents_devRef m c main_arg3).trans h3) ((launchContents_devRef m c main_arg4).trans h4) ((launchContents_devRef m c main_arg5).trans h5)

variable (V : Valuation τ sig (Elt Ideal)) (o : Ops) (h : rops V = o)

include h

theorem ref6 : rows (two (res_main_v164 (F := Ideal) V) (res_main_v165 (F := Ideal) V) (res_main_v168 (F := Ideal) V)) = inArr o := by
  subst h
  funext y
  obtain ⟨b, R, L, rfl⟩ : ∃ (b : Fin 16) (R L : Fin 256), y = ix3 b R L := ⟨y 0, y 1, y 2, by idx_vars y⟩
  exact ref_we V b R L

theorem ref7 : rows (two (res_main_v184 (F := Ideal) V) (res_main_v185 (F := Ideal) V) (res_main_v188 (F := Ideal) V)) = outArr o := by
  subst h
  funext y
  obtain ⟨b, R, L, rfl⟩ : ∃ (b : Fin 16) (R L : Fin 256), y = ix3 b R L := ⟨y 0, y 1, y 2, by idx_vars y⟩
  exact ref_wc V b R L

theorem ref8 : toep (res_main_v141 (F := Ideal) V) = lagArr o := by
  subst h
  funext y
  obtain ⟨b, R, L, rfl⟩ : ∃ (b : Fin 16) (R L : Fin 256), y = ix3 b R L := ⟨y 0, y 1, y 2, by idx_vars y⟩
  exact ref_tp V b R L

theorem ref9 : (shapeCast S16x1x128 (shapeCast S32x64 (extractStridedSlice S1x32x64 ![8, 0, 0] (res_main_v59 (F := Ideal) V) slices_S9x32x64_S1x32x64_8_0_0)
    shapeCasts_S1x32x64_S32x64) shapeCasts_S32x64_S16x1x128 : FVec Ideal S16x1x128 .f32) = reArr o := by
  subst h
  funext y
  obtain ⟨b, l, rfl⟩ : ∃ (b : Fin 16) (l : Fin 128), y = ix3 b 0 l := ⟨y 0, y 2, by
    idx_vars y
    exact congrArg (fun z : Fin 1 => ix3 _ z _) (Subsingleton.elim _ _)⟩
  exact (last_at _ b l).trans (pow_re V _ _ 8)

theorem ref10 : (shapeCast S16x1x128 (shapeCast S32x64 (extractStridedSlice S1x32x64 ![8, 0, 0] (res_main_v69 (F := Ideal) V) slices_S9x32x64_S1x32x64_8_0_0)
    shapeCasts_S1x32x64_S32x64) shapeCasts_S32x64_S16x1x128 : FVec Ideal S16x1x128 .f32) = imArr o := by
  subst h
  funext y
  obtain ⟨b, l, rfl⟩ : ∃ (b : Fin 16) (l : Fin 128), y = ix3 b 0 l := ⟨y 0, y 2, by
    idx_vars y
    exact congrArg (fun z : Fin 1 => ix3 _ z _) (Subsingleton.elim _ _)⟩
  exact (last_at _ b l).trans (pow_im V _ _ 8)

end Cert.WtMeet
end
-- ==== Proof.lean ====
module

public import proofs.«01_k».proof.Proof.Gen.Kernel2.Frame
public import proofs.«01_k».proof.Proof.Gen.Kernel2Ideal.Value
public import proofs.«01_k».proof.Proof.Gen.Reference2Ideal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel3.Frame
public import proofs.«01_k».proof.Proof.Gen.Kernel3Ideal.Value
public import proofs.«01_k».proof.Proof.Gen.Reference3Ideal.Read
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Read
public import proofs.«01_k».proof.Proof.Gen.Reference4Ideal.Run
public import proofs.«01_k».proof.Proof.FinalValue
public import proofs.«01_k».proof.Proof.Gen.Reference2Ideal.Run
public import proofs.«01_k».proof.Proof.InValue
public import proofs.«01_k».proof.Proof.InScan
public import proofs.«01_k».proof.Proof.PrepValue
public import proofs.«01_k».proof.Proof.CompValue
public import proofs.«01_k».proof.Proof.CompFinite
public import proofs.«01_k».proof.Proof.WtMeet
public import proofs.«01_k».proof.Proof.Gen.Kernel5Ideal.Value
public import proofs.«01_k».proof.Proof.Gen.Reference5Ideal.Run
public import proofs.«01_k».proof.Proof.Gen.Kernel5.Frame
public import proofs.«01_k».proof.Proof.Gen.Kernel5Ideal.Frame
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Kernel and reference leave the same array over the extended reals. -/
theorem algebraic : Cert.algebraic_KernelIdeal_ReferenceIdeal := fun m g m' g' _ hag =>
  ⟨fun c => Cert.FinalKernel.ref m c,
    (θ_run Cert.KernelIdeal.defs _ _).mono (fun r h c => ⟨(h c).1.trans (Cert.FinalKernel.result m c), (h c).2⟩)
      (Cert.KernelIdeal.Value.run_blocks (F := Ideal) m g),
    (θ_run Cert.ReferenceIdeal.defs _ _).mono (fun r h c => ⟨(h c).1.trans (by
      obtain ⟨h0, h1, h2, h3, h4, h5, h6, h7, h8⟩ := hag c
      rw [Cert.ReferenceIdeal.Read.val_main_v65_eq, h0, h1, h2, h3, h4, h5, h6, h7, h8]), (h c).2⟩)
      (Cert.ReferenceIdeal.Value.run (F := Ideal) m' g')⟩

/-- The reference has no semaphore, so its counters end at zero. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The input projection: kernel and reference leave the same nine arrays over the extended reals. -/
theorem algebraic2 : Cert.algebraic_Kernel2Ideal_Reference2Ideal := fun m g m' g' _ hag =>
  ⟨_, _, _, _, _, _, _, _, _,
    (θ_run Cert.Kernel2Ideal.defs _ _).mono (fun r h c => by
      obtain ⟨h5, h6, h7, h8, h9, h10, h11, h12, h13, ha⟩ := h c
      exact ⟨h5.trans (Cert.InKernel.result5 m c), h6.trans (Cert.InKernel.result6 m c), h7.trans (Cert.InKernel.result7 m c),
        h8.trans (Cert.InKernel.result8 m c), h9.trans (Cert.InKernel.result9 m c), h10.trans (Cert.InKernel.result10 m c),
        h11.trans (Cert.InKernel.result11 m c), h12.trans (Cert.InKernel.result12 m c), h13.trans (Cert.InKernel.result13 m c), ha⟩)
      (Cert.Kernel2Ideal.Value.run_blocks (F := Ideal) m g),
    (θ_run Cert.Reference2Ideal.defs _ _).mono (fun r h c => by
      obtain ⟨h0, h1, h2, h3, h4⟩ := hag c
      obtain ⟨e0, e1, e2, e3, e4, e5, e6, e7, e8, ha⟩ := h c
      refine ⟨e0.trans ?_, e1.trans ?_, e2.trans ?_, e3.trans ?_, e4.trans ?_, e5.trans ?_, e6.trans ?_, e7.trans ?_, e8.trans ?_, ha⟩
      · rw [Cert.Reference2Ideal.Read.val_main_v64_eq, h0, h1, h2, h3, h4]
      · rw [Cert.Reference2Ideal.Read.val_main_v15_eq, h0, h1, h2]
      · rw [Cert.Reference2Ideal.Read.val_main_v16_eq, h0, h1, h2]
      · rw [Cert.Reference2Ideal.Read.val_main_v83_eq, h0, h1, h2, h3, h4]
      · rw [Cert.Reference2Ideal.Read.val_main_v87_eq, h0, h1, h2]
      · rw [Cert.Reference2Ideal.Read.val_main_v107_eq, h0, h1, h2, h3, h4]
      · rw [Cert.Reference2Ideal.Read.val_main_v111_eq, h0, h1, h2]
      · rw [Cert.Reference2Ideal.Read.val_main_v46_eq, h0, h1, h2]
      · rw [Cert.Reference2Ideal.Read.val_main_v112_eq, h0, h1, h2])
      (Cert.Reference2Ideal.Value.run (F := Ideal) m' g')⟩

/-- Nor has the reference of the input projection. -/
theorem frame_reference2 : Cert.quiescent_Reference2Ideal := fun m g _ =>
  (θ_run Cert.Reference2Ideal.defs _ _).mono (fun r h => ⟨fun c => (h c).2.2.2.2.2.2.2.2.2, sem_eq_zero_of_no_sems (by decide) r.2⟩)
    (Cert.Reference2Ideal.Value.run (F := Ideal) m g)

/-- The recurrence's parameters: kernel and reference leave the same four arrays over the extended reals. -/
theorem algebraic3 : Cert.algebraic_Kernel3Ideal_Reference3Ideal := fun m g m' g' _ hag =>
  ⟨_, _, _, _,
    (θ_run Cert.Kernel3Ideal.defs _ _).mono (fun r h c => by
      obtain ⟨h5, h6, h7, h8, ha⟩ := h c
      exact ⟨h5.trans (Cert.PrepValue.result5 m c), h6.trans (Cert.PrepValue.result6 m c), h7.trans (Cert.PrepValue.result7 m c),
        h8.trans (Cert.PrepValue.result8 m c), ha⟩)
      (Cert.Kernel3Ideal.Value.run_blocks (F := Ideal) m g),
    (θ_run Cert.Reference3Ideal.defs _ _).mono (fun r h c => by
      obtain ⟨h0, h1, h2, h3, h4⟩ := hag c
      obtain ⟨e0, e1, e2, e3, ha⟩ := h c
      refine ⟨e0.trans ?_, e1.trans ?_, e2.trans ?_, e3.trans ?_, ha⟩
      · rw [Cert.Reference3Ideal.Read.val_main_v43_eq, h0, h1, h2]
      · rw [Cert.Reference3Ideal.Read.val_main_v45_eq, h0, h1, h2]
      · rw [Cert.Reference3Ideal.Read.val_main_v47_eq, h0, h1, h2, h3, h4]
      · rw [Cert.Reference3Ideal.Read.val_main_v49_eq, h0, h1, h2, h3, h4])
      (Cert.Reference3Ideal.Value.run (F := Ideal) m' g')⟩

/-- The reference of the recurrence's parameters has no semaphore. -/
theorem frame_reference3 : Cert.quiescent_Reference3Ideal := fun m g _ =>
  (θ_run Cert.Reference3Ideal.defs _ _).mono (fun r h => ⟨fun c => (h c).2.2.2.2, sem_eq_zero_of_no_sems (by decide) r.2⟩)
    (Cert.Reference3Ideal.Value.run (F := Ideal) m g)

/-- The compression: of finite positions and first weights, kernel and reference leave the same two arrays. -/
theorem algebraic4 : Cert.algebraic_Kernel4Ideal_Reference4Ideal_pre_finite := fun m g m' g' hpre hag =>
  ⟨_, _,
    (θ_run Cert.Kernel4Ideal.defs _ _).mono (fun r h c => by
      obtain ⟨h8, h9, ha⟩ := h c
      have hf := Cert.CompValue.finite_of_pre m hpre c
      exact ⟨h8.trans (Cert.CompValue.result8 m c hf), h9.trans (Cert.CompValue.result9 m c hf), ha⟩)
      (Cert.Kernel4Ideal.Value.run_blocks (F := Ideal) m g),
    (θ_run Cert.Reference4Ideal.defs _ _).mono (fun r h c => by
      obtain ⟨h0, h1, h2, h3, h4, h5, h6, h7⟩ := hag c
      obtain ⟨e0, e1, ha⟩ := h c
      refine ⟨e0.trans ?_, e1.trans ?_, ha⟩
      · rw [Cert.Reference4Ideal.Read.val_main_v53_eq, h0, h2, h4, h5]
      · rw [Cert.Reference4Ideal.Read.val_main_v55_eq, h1, h3, h6, h7])
      (Cert.Reference4Ideal.Value.run (F := Ideal) m' g')⟩

/-- The reference of the compression has no semaphore. -/
theorem frame_reference4 : Cert.quiescent_Reference4Ideal := fun m g _ =>
  (θ_run Cert.Reference4Ideal.defs _ _).mono (fun r h => ⟨fun c => (h c).2.2, sem_eq_zero_of_no_sems (by decide) r.2⟩)
    (Cert.Reference4Ideal.Value.run (F := Ideal) m g)

/-- The recurrence's block weights: kernel and reference leave the same five arrays over the extended reals. -/
theorem algebraic5 : Cert.algebraic_Kernel5Ideal_Reference5Ideal := fun m g m' g' _ hag =>
  ⟨_, _, _, _, _,
    (θ_run Cert.Kernel5Ideal.defs _ _).mono (fun r h c => by
      obtain ⟨h6, h7, h8, h9, h10, ha⟩ := h c
      exact ⟨h6.trans (Cert.WtValue.result6 m c), h7.trans (Cert.WtValue.result7 m c), h8.trans (Cert.WtValue.result8 m c),
        h9.trans (Cert.WtValue.result9 m c), h10.trans (Cert.WtValue.result10 m c), ha⟩)
      (Cert.Kernel5Ideal.Value.run_blocks (F := Ideal) m g),
    (θ_run Cert.Reference5Ideal.defs _ _).mono (fun r h c => by
      obtain ⟨h0, h1, h2, h3, h4, h5⟩ := hag c
      obtain ⟨e0, e1, e2, e3, e4, ha⟩ := h c
      have o := Cert.WtMeet.rops_launch m' c h0 h1 h2 h3 h4 h5
      exact ⟨e0.trans (Cert.WtMeet.ref6 _ _ o), e1.trans (Cert.WtMeet.ref7 _ _ o), e2.trans (Cert.WtMeet.ref8 _ _ o),
        e3.trans (Cert.WtMeet.ref9 _ _ o), e4.trans (Cert.WtMeet.ref10 _ _ o), ha⟩)
      (Cert.Reference5Ideal.Value.run (F := Ideal) m' g')⟩

/-- The reference of the block weights has no semaphore. -/
theorem frame_reference5 : Cert.quiescent_Reference5Ideal := fun m g _ =>
  (θ_run Cert.Reference5Ideal.defs _ _).mono (fun r h => ⟨fun c => (h c).2.2.2.2.2, sem_eq_zero_of_no_sems (by decide) r.2⟩)
    (Cert.Reference5Ideal.Value.run (F := Ideal) m g)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts, Cert.Pre_finite.Gen.facts,
  fun m g _ => Cert.Kernel.Gen.frame m g, fun m g _ => Cert.KernelIdeal.Gen.frame m g, frame_reference,
  fun m g _ => Cert.Kernel2.Gen.frame m g, fun m g _ => Cert.Kernel2Ideal.Gen.frame m g, frame_reference2,
  fun m g _ => Cert.Kernel3.Gen.frame m g, fun m g _ => Cert.Kernel3Ideal.Gen.frame m g, frame_reference3,
  fun m g _ => Cert.Kernel4.Gen.frame m g, fun m g _ => Cert.Kernel4Ideal.Gen.frame m g, fun m g _ => Cert.Kernel4Ideal.Gen.frame m g,
  frame_reference4, fun m g _ => frame_reference4 m g trivial,
  fun m g _ => Cert.Kernel5.Gen.frame m g, fun m g _ => Cert.Kernel5Ideal.Gen.frame m g, frame_reference5,
  trivial, algebraic, trivial, algebraic2, trivial, algebraic3, trivial, algebraic4, trivial, algebraic5⟩

end Cert.Proof

end
